-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_SMlp (m : (ℓ : Loc Cert.SMlp.nD Cert.SMlp.τ Cert.SMlp.sig) → Buf (Elt Bits) ℓ) : Prop :=
  True

def Pre_SMlpIdeal (m : (ℓ : Loc Cert.SMlpIdeal.nD Cert.SMlpIdeal.τ Cert.SMlpIdeal.sig) → Buf (Elt Ideal) ℓ) : Prop :=
  True

def Pre_SMlpRefIdeal (m : (ℓ : Loc Cert.SMlpRefIdeal.nD Cert.SMlpRefIdeal.τ Cert.SMlpRefIdeal.sig) → Buf (Elt Ideal) ℓ) : Prop :=
  True

def Pre_SProj (m : (ℓ : Loc Cert.SProj.nD Cert.SProj.τ Cert.SProj.sig) → Buf (Elt Bits) ℓ) : Prop :=
  True

def Pre_SProjIdeal (m : (ℓ : Loc Cert.SProjIdeal.nD Cert.SProjIdeal.τ Cert.SProjIdeal.sig) → Buf (Elt Ideal) ℓ) : Prop :=
  True

def Pre_SProjRefIdeal (m : (ℓ : Loc Cert.SProjRefIdeal.nD Cert.SProjRefIdeal.τ Cert.SProjRefIdeal.sig) → Buf (Elt Ideal) ℓ) : Prop :=
  True

def Pre_SMix (m : (ℓ : Loc Cert.SMix.nD Cert.SMix.τ Cert.SMix.sig) → Buf (Elt Bits) ℓ) : Prop :=
  True

def Pre_SMixIdeal (m : (ℓ : Loc Cert.SMixIdeal.nD Cert.SMixIdeal.τ Cert.SMixIdeal.sig) → Buf (Elt Ideal) ℓ) : Prop :=
  True

def Pre_SMixRefIdeal (m : (ℓ : Loc Cert.SMixRefIdeal.nD Cert.SMixRefIdeal.τ Cert.SMixRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_SMlp [hSMlp : Cert.SMlp.Facts] : Prop :=
  ∀ (m : (ℓ : Loc Cert.SMlp.nD Cert.SMlp.τ Cert.SMlp.sig) → Buf (Elt Bits) ℓ) (g : Dev Cert.SMlp.nD → PrngReg), Pre_SMlp m →
    θ_run (Cert.SMlp.defs (F := Bits)) (onTc (τ := Cert.SMlp.τ) (Cert.SMlp.main (F := Bits))) ⟨m, fun _ => 0, g⟩ (fun r => (∀ c : Dev Cert.SMlp.nD,
      r.2.mem ((c.tc : Thread Cert.SMlp.nD Cert.SMlp.τ).loc Cert.SMlp.main_arg0) = m ((c.tc : Thread Cert.SMlp.nD Cert.SMlp.τ).loc Cert.SMlp.main_arg0)
      ∧ r.2.mem ((c.tc : Thread Cert.SMlp.nD Cert.SMlp.τ).loc Cert.SMlp.main_arg1) = m ((c.tc : Thread Cert.SMlp.nD Cert.SMlp.τ).loc Cert.SMlp.main_arg1)
      ∧ r.2.mem ((c.tc : Thread Cert.SMlp.nD Cert.SMlp.τ).loc Cert.SMlp.main_arg2) = m ((c.tc : Thread Cert.SMlp.nD Cert.SMlp.τ).loc Cert.SMlp.main_arg2)
      ∧ r.2.mem ((c.tc : Thread Cert.SMlp.nD Cert.SMlp.τ).loc Cert.SMlp.main_arg3) = m ((c.tc : Thread Cert.SMlp.nD Cert.SMlp.τ).loc Cert.SMlp.main_arg3))
      ∧ r.2.sem = fun _ => 0)

def quiescent_SMlpIdeal [hSMlpIdeal : Cert.SMlpIdeal.Facts] : Prop :=
  ∀ (m : (ℓ : Loc Cert.SMlpIdeal.nD Cert.SMlpIdeal.τ Cert.SMlpIdeal.sig) → Buf (Elt Ideal) ℓ) (g : Dev Cert.SMlpIdeal.nD → PrngReg), Pre_SMlpIdeal m →
    θ_run (Cert.SMlpIdeal.defs (F := Ideal)) (onTc (τ := Cert.SMlpIdeal.τ) (Cert.SMlpIdeal.main (F := Ideal))) ⟨m, fun _ => 0, g⟩ (fun r => (∀ c : Dev Cert.SMlpIdeal.nD,
      r.2.mem ((c.tc : Thread Cert.SMlpIdeal.nD Cert.SMlpIdeal.τ).loc Cert.SMlpIdeal.main_arg0) = m ((c.tc : Thread Cert.SMlpIdeal.nD Cert.SMlpIdeal.τ).loc Cert.SMlpIdeal.main_arg0)
      ∧ r.2.mem ((c.tc : Thread Cert.SMlpIdeal.nD Cert.SMlpIdeal.τ).loc Cert.SMlpIdeal.main_arg1) = m ((c.tc : Thread Cert.SMlpIdeal.nD Cert.SMlpIdeal.τ).loc Cert.SMlpIdeal.main_arg1)
      ∧ r.2.mem ((c.tc : Thread Cert.SMlpIdeal.nD Cert.SMlpIdeal.τ).loc Cert.SMlpIdeal.main_arg2) = m ((c.tc : Thread Cert.SMlpIdeal.nD Cert.SMlpIdeal.τ).loc Cert.SMlpIdeal.main_arg2)
      ∧ r.2.mem ((c.tc : Thread Cert.SMlpIdeal.nD Cert.SMlpIdeal.τ).loc Cert.SMlpIdeal.main_arg3) = m ((c.tc : Thread Cert.SMlpIdeal.nD Cert.SMlpIdeal.τ).loc Cert.SMlpIdeal.main_arg3))
      ∧ r.2.sem = fun _ => 0)

def quiescent_SMlpRefIdeal [hSMlpRefIdeal : Cert.SMlpRefIdeal.Facts] : Prop :=
  ∀ (m : (ℓ : Loc Cert.SMlpRefIdeal.nD Cert.SMlpRefIdeal.τ Cert.SMlpRefIdeal.sig) → Buf (Elt Ideal) ℓ) (g : Dev Cert.SMlpRefIdeal.nD → PrngReg), Pre_SMlpRefIdeal m →
    θ_run (Cert.SMlpRefIdeal.defs (F := Ideal)) (onTc (τ := Cert.SMlpRefIdeal.τ) (Cert.SMlpRefIdeal.main (F := Ideal))) ⟨m, fun _ => 0, g⟩ (fun r => (∀ c : Dev Cert.SMlpRefIdeal.nD,
      r.2.mem ((c.tc : Thread Cert.SMlpRefIdeal.nD Cert.SMlpRefIdeal.τ).loc Cert.SMlpRefIdeal.main_arg0) = m ((c.tc : Thread Cert.SMlpRefIdeal.nD Cert.SMlpRefIdeal.τ).loc Cert.SMlpRefIdeal.main_arg0)
      ∧ r.2.mem ((c.tc : Thread Cert.SMlpRefIdeal.nD Cert.SMlpRefIdeal.τ).loc Cert.SMlpRefIdeal.main_arg1) = m ((c.tc : Thread Cert.SMlpRefIdeal.nD Cert.SMlpRefIdeal.τ).loc Cert.SMlpRefIdeal.main_arg1)
      ∧ r.2.mem ((c.tc : Thread Cert.SMlpRefIdeal.nD Cert.SMlpRefIdeal.τ).loc Cert.SMlpRefIdeal.main_arg2) = m ((c.tc : Thread Cert.SMlpRefIdeal.nD Cert.SMlpRefIdeal.τ).loc Cert.SMlpRefIdeal.main_arg2)
      ∧ r.2.mem ((c.tc : Thread Cert.SMlpRefIdeal.nD Cert.SMlpRefIdeal.τ).loc Cert.SMlpRefIdeal.main_arg3) = m ((c.tc : Thread Cert.SMlpRefIdeal.nD Cert.SMlpRefIdeal.τ).loc Cert.SMlpRefIdeal.main_arg3))
      ∧ r.2.sem = fun _ => 0)

def quiescent_SProj [hSProj : Cert.SProj.Facts] : Prop :=
  ∀ (m : (ℓ : Loc Cert.SProj.nD Cert.SProj.τ Cert.SProj.sig) → Buf (Elt Bits) ℓ) (g : Dev Cert.SProj.nD → PrngReg), Pre_SProj m →
    θ_run (Cert.SProj.defs (F := Bits)) (onTc (τ := Cert.SProj.τ) (Cert.SProj.main (F := Bits))) ⟨m, fun _ => 0, g⟩ (fun r => (∀ c : Dev Cert.SProj.nD,
      r.2.mem ((c.tc : Thread Cert.SProj.nD Cert.SProj.τ).loc Cert.SProj.main_arg0) = m ((c.tc : Thread Cert.SProj.nD Cert.SProj.τ).loc Cert.SProj.main_arg0)
      ∧ r.2.mem ((c.tc : Thread Cert.SProj.nD Cert.SProj.τ).loc Cert.SProj.main_arg1) = m ((c.tc : Thread Cert.SProj.nD Cert.SProj.τ).loc Cert.SProj.main_arg1)
      ∧ r.2.mem ((c.tc : Thread Cert.SProj.nD Cert.SProj.τ).loc Cert.SProj.main_arg2) = m ((c.tc : Thread Cert.SProj.nD Cert.SProj.τ).loc Cert.SProj.main_arg2))
      ∧ r.2.sem = fun _ => 0)

def quiescent_SProjIdeal [hSProjIdeal : Cert.SProjIdeal.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2))
      ∧ r.2.sem = fun _ => 0)

def quiescent_SProjRefIdeal [hSProjRefIdeal : Cert.SProjRefIdeal.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2))
      ∧ r.2.sem = fun _ => 0)

def quiescent_SMix [hSMix : Cert.SMix.Facts] : Prop :=
  ∀ (m : (ℓ : Loc Cert.SMix.nD Cert.SMix.τ Cert.SMix.sig) → Buf (Elt Bits) ℓ) (g : Dev Cert.SMix.nD → PrngReg), Pre_SMix m →
    θ_run (Cert.SMix.defs (F := Bits)) (onTc (τ := Cert.SMix.τ) (Cert.SMix.main (F := Bits))) ⟨m, fun _ => 0, g⟩ (fun r => (∀ c : Dev Cert.SMix.nD,
      r.2.mem ((c.tc : Thread Cert.SMix.nD Cert.SMix.τ).loc Cert.SMix.main_arg0) = m ((c.tc : Thread Cert.SMix.nD Cert.SMix.τ).loc Cert.SMix.main_arg0)
      ∧ r.2.mem ((c.tc : Thread Cert.SMix.nD Cert.SMix.τ).loc Cert.SMix.main_arg1) = m ((c.tc : Thread Cert.SMix.nD Cert.SMix.τ).loc Cert.SMix.main_arg1)
      ∧ r.2.mem ((c.tc : Thread Cert.SMix.nD Cert.SMix.τ).loc Cert.SMix.main_arg2) = m ((c.tc : Thread Cert.SMix.nD Cert.SMix.τ).loc Cert.SMix.main_arg2)
      ∧ r.2.mem ((c.tc : Thread Cert.SMix.nD Cert.SMix.τ).loc Cert.SMix.main_arg3) = m ((c.tc : Thread Cert.SMix.nD Cert.SMix.τ).loc Cert.SMix.main_arg3)
      ∧ r.2.mem ((c.tc : Thread Cert.SMix.nD Cert.SMix.τ).loc Cert.SMix.main_arg4) = m ((c.tc : Thread Cert.SMix.nD Cert.SMix.τ).loc Cert.SMix.main_arg4)
      ∧ r.2.mem ((c.tc : Thread Cert.SMix.nD Cert.SMix.τ).loc Cert.SMix.main_arg5) = m ((c.tc : Thread Cert.SMix.nD Cert.SMix.τ).loc Cert.SMix.main_arg5)
      ∧ r.2.mem ((c.tc : Thread Cert.SMix.nD Cert.SMix.τ).loc Cert.SMix.main_arg6) = m ((c.tc : Thread Cert.SMix.nD Cert.SMix.τ).loc Cert.SMix.main_arg6)
      ∧ r.2.mem ((c.tc : Thread Cert.SMix.nD Cert.SMix.τ).loc Cert.SMix.main_arg7) = m ((c.tc : Thread Cert.SMix.nD Cert.SMix.τ).loc Cert.SMix.main_arg7)
      ∧ r.2.mem ((c.tc : Thread Cert.SMix.nD Cert.SMix.τ).loc Cert.SMix.main_arg8) = m ((c.tc : Thread Cert.SMix.nD Cert.SMix.τ).loc Cert.SMix.main_arg8)
      ∧ r.2.mem ((c.tc : Thread Cert.SMix.nD Cert.SMix.τ).loc Cert.SMix.main_arg9) = m ((c.tc : Thread Cert.SMix.nD Cert.SMix.τ).loc Cert.SMix.main_arg9)
      ∧ r.2.mem ((c.tc : Thread Cert.SMix.nD Cert.SMix.τ).loc Cert.SMix.main_arg10) = m ((c.tc : Thread Cert.SMix.nD Cert.SMix.τ).loc Cert.SMix.main_arg10))
      ∧ r.2.sem = fun _ => 0)

def quiescent_SMixIdeal [hSMixIdeal : Cert.SMixIdeal.Facts] : Prop :=
  ∀ (m : (ℓ : Loc Cert.SMixIdeal.nD Cert.SMixIdeal.τ Cert.SMixIdeal.sig) → Buf (Elt Ideal) ℓ) (g : Dev Cert.SMixIdeal.nD → PrngReg), Pre_SMixIdeal m →
    θ_run (Cert.SMixIdeal.defs (F := Ideal)) (onTc (τ := Cert.SMixIdeal.τ) (Cert.SMixIdeal.main (F := Ideal))) ⟨m, fun _ => 0, g⟩ (fun r => (∀ c : Dev Cert.SMixIdeal.nD,
      r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
      ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
      ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
      ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
      ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4)
      ∧ r.2.mem ((c.tc : Thread Cert.SMixIdeal.nD Cert.SMixIdeal.τ).loc Cert.SMixIdeal.main_arg5) = m ((c.tc : Thread Cert.SMixIdeal.nD Cert.SMixIdeal.τ).loc Cert.SMixIdeal.main_arg5)
      ∧ r.2.mem ((c.tc : Thread Cert.SMixIdeal.nD Cert.SMixIdeal.τ).loc Cert.SMixIdeal.main_arg6) = m ((c.tc : Thread Cert.SMixIdeal.nD Cert.SMixIdeal.τ).loc Cert.SMixIdeal.main_arg6)
      ∧ r.2.mem ((c.tc : Thread Cert.SMixIdeal.nD Cert.SMixIdeal.τ).loc Cert.SMixIdeal.main_arg7) = m ((c.tc : Thread Cert.SMixIdeal.nD Cert.SMixIdeal.τ).loc Cert.SMixIdeal.main_arg7)
      ∧ r.2.mem ((c.tc : Thread Cert.SMixIdeal.nD Cert.SMixIdeal.τ).loc Cert.SMixIdeal.main_arg8) = m ((c.tc : Thread Cert.SMixIdeal.nD Cert.SMixIdeal.τ).loc Cert.SMixIdeal.main_arg8)
      ∧ r.2.mem ((c.tc : Thread Cert.SMixIdeal.nD Cert.SMixIdeal.τ).loc Cert.SMixIdeal.main_arg9) = m ((c.tc : Thread Cert.SMixIdeal.nD Cert.SMixIdeal.τ).loc Cert.SMixIdeal.main_arg9)
      ∧ r.2.mem ((c.tc : Thread Cert.SMixIdeal.nD Cert.SMixIdeal.τ).loc Cert.SMixIdeal.main_arg10) = m ((c.tc : Thread Cert.SMixIdeal.nD Cert.SMixIdeal.τ).loc Cert.SMixIdeal.main_arg10))
      ∧ r.2.sem = fun _ => 0)

def quiescent_SMixRefIdeal [hSMixRefIdeal : Cert.SMixRefIdeal.Facts] : Prop :=
  ∀ (m : (ℓ : Loc Cert.SMixRefIdeal.nD Cert.SMixRefIdeal.τ Cert.SMixRefIdeal.sig) → Buf (Elt Ideal) ℓ) (g : Dev Cert.SMixRefIdeal.nD → PrngReg), Pre_SMixRefIdeal m →
    θ_run (Cert.SMixRefIdeal.defs (F := Ideal)) (onTc (τ := Cert.SMixRefIdeal.τ) (Cert.SMixRefIdeal.main (F := Ideal))) ⟨m, fun _ => 0, g⟩ (fun r => (∀ c : Dev Cert.SMixRefIdeal.nD,
      r.2.mem ((c.tc : Thread Cert.SMixRefIdeal.nD Cert.SMixRefIdeal.τ).loc Cert.SMixRefIdeal.main_arg0) = m ((c.tc : Thread Cert.SMixRefIdeal.nD Cert.SMixRefIdeal.τ).loc Cert.SMixRefIdeal.main_arg0)
      ∧ r.2.mem ((c.tc : Thread Cert.SMixRefIdeal.nD Cert.SMixRefIdeal.τ).loc Cert.SMixRefIdeal.main_arg1) = m ((c.tc : Thread Cert.SMixRefIdeal.nD Cert.SMixRefIdeal.τ).loc Cert.SMixRefIdeal.main_arg1)
      ∧ r.2.mem ((c.tc : Thread Cert.SMixRefIdeal.nD Cert.SMixRefIdeal.τ).loc Cert.SMixRefIdeal.main_arg2) = m ((c.tc : Thread Cert.SMixRefIdeal.nD Cert.SMixRefIdeal.τ).loc Cert.SMixRefIdeal.main_arg2)
      ∧ r.2.mem ((c.tc : Thread Cert.SMixRefIdeal.nD Cert.SMixRefIdeal.τ).loc Cert.SMixRefIdeal.main_arg3) = m ((c.tc : Thread Cert.SMixRefIdeal.nD Cert.SMixRefIdeal.τ).loc Cert.SMixRefIdeal.main_arg3)
      ∧ r.2.mem ((c.tc : Thread Cert.SMixRefIdeal.nD Cert.SMixRefIdeal.τ).loc Cert.SMixRefIdeal.main_arg4) = m ((c.tc : Thread Cert.SMixRefIdeal.nD Cert.SMixRefIdeal.τ).loc Cert.SMixRefIdeal.main_arg4)
      ∧ r.2.mem ((c.tc : Thread Cert.SMixRefIdeal.nD Cert.SMixRefIdeal.τ).loc Cert.SMixRefIdeal.main_arg5) = m ((c.tc : Thread Cert.SMixRefIdeal.nD Cert.SMixRefIdeal.τ).loc Cert.SMixRefIdeal.main_arg5)
      ∧ r.2.mem ((c.tc : Thread Cert.SMixRefIdeal.nD Cert.SMixRefIdeal.τ).loc Cert.SMixRefIdeal.main_arg6) = m ((c.tc : Thread Cert.SMixRefIdeal.nD Cert.SMixRefIdeal.τ).loc Cert.SMixRefIdeal.main_arg6)
      ∧ r.2.mem ((c.tc : Thread Cert.SMixRefIdeal.nD Cert.SMixRefIdeal.τ).loc Cert.SMixRefIdeal.main_arg7) = m ((c.tc : Thread Cert.SMixRefIdeal.nD Cert.SMixRefIdeal.τ).loc Cert.SMixRefIdeal.main_arg7)
      ∧ r.2.mem ((c.tc : Thread Cert.SMixRefIdeal.nD Cert.SMixRefIdeal.τ).loc Cert.SMixRefIdeal.main_arg8) = m ((c.tc : Thread Cert.SMixRefIdeal.nD Cert.SMixRefIdeal.τ).loc Cert.SMixRefIdeal.main_arg8)
      ∧ r.2.mem ((c.tc : Thread Cert.SMixRefIdeal.nD Cert.SMixRefIdeal.τ).loc Cert.SMixRefIdeal.main_arg9) = m ((c.tc : Thread Cert.SMixRefIdeal.nD Cert.SMixRefIdeal.τ).loc Cert.SMixRefIdeal.main_arg9)
      ∧ r.2.mem ((c.tc : Thread Cert.SMixRefIdeal.nD Cert.SMixRefIdeal.τ).loc Cert.SMixRefIdeal.main_arg10) = m ((c.tc : Thread Cert.SMixRefIdeal.nD Cert.SMixRefIdeal.τ).loc Cert.SMixRefIdeal.main_arg10))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v34) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v20)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v20) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v80) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v40_0)) (v1 : (c : Dev Cert.ProjIdeal.nD) → Buf (Elt Ideal) ((c.tc : Thread Cert.ProjIdeal.nD Cert.ProjIdeal.τ).loc Cert.ProjIdeal.main_v40_1)) (v2 : (c : Dev Cert.ProjIdeal.nD) → Buf (Elt Ideal) ((c.tc : Thread Cert.ProjIdeal.nD Cert.ProjIdeal.τ).loc Cert.ProjIdeal.main_v40_2)) (v3 : (c : Dev Cert.ProjIdeal.nD) → Buf (Elt Ideal) ((c.tc : Thread Cert.ProjIdeal.nD Cert.ProjIdeal.τ).loc Cert.ProjIdeal.main_v40_3)) (v4 : (c : Dev Cert.ProjIdeal.nD) → Buf (Elt Ideal) ((c.tc : Thread Cert.ProjIdeal.nD Cert.ProjIdeal.τ).loc Cert.ProjIdeal.main_v40_4)) (v5 : (c : Dev Cert.ProjIdeal.nD) → Buf (Elt Ideal) ((c.tc : Thread Cert.ProjIdeal.nD Cert.ProjIdeal.τ).loc Cert.ProjIdeal.main_v40_5)) (v6 : (c : Dev Cert.ProjIdeal.nD) → Buf (Elt Ideal) ((c.tc : Thread Cert.ProjIdeal.nD Cert.ProjIdeal.τ).loc Cert.ProjIdeal.main_v40_6)) (v7 : (c : Dev Cert.ProjIdeal.nD) → Buf (Elt Ideal) ((c.tc : Thread Cert.ProjIdeal.nD Cert.ProjIdeal.τ).loc Cert.ProjIdeal.main_v40_7)) (v8 : (c : Dev Cert.ProjIdeal.nD) → Buf (Elt Ideal) ((c.tc : Thread Cert.ProjIdeal.nD Cert.ProjIdeal.τ).loc Cert.ProjIdeal.main_v40_8)) (v9 : (c : Dev Cert.ProjIdeal.nD) → Buf (Elt Ideal) ((c.tc : Thread Cert.ProjIdeal.nD Cert.ProjIdeal.τ).loc Cert.ProjIdeal.main_v40_9)) (v10 : (c : Dev Cert.ProjIdeal.nD) → Buf (Elt Ideal) ((c.tc : Thread Cert.ProjIdeal.nD Cert.ProjIdeal.τ).loc Cert.ProjIdeal.main_v40_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v40_0) = v0 c
          ∧ r.2.mem ((c.tc : Thread Cert.ProjIdeal.nD Cert.ProjIdeal.τ).loc Cert.ProjIdeal.main_v40_1) = v1 c
          ∧ r.2.mem ((c.tc : Thread Cert.ProjIdeal.nD Cert.ProjIdeal.τ).loc Cert.ProjIdeal.main_v40_2) = v2 c
          ∧ r.2.mem ((c.tc : Thread Cert.ProjIdeal.nD Cert.ProjIdeal.τ).loc Cert.ProjIdeal.main_v40_3) = v3 c
          ∧ r.2.mem ((c.tc : Thread Cert.ProjIdeal.nD Cert.ProjIdeal.τ).loc Cert.ProjIdeal.main_v40_4) = v4 c
          ∧ r.2.mem ((c.tc : Thread Cert.ProjIdeal.nD Cert.ProjIdeal.τ).loc Cert.ProjIdeal.main_v40_5) = v5 c
          ∧ r.2.mem ((c.tc : Thread Cert.ProjIdeal.nD Cert.ProjIdeal.τ).loc Cert.ProjIdeal.main_v40_6) = v6 c
          ∧ r.2.mem ((c.tc : Thread Cert.ProjIdeal.nD Cert.ProjIdeal.τ).loc Cert.ProjIdeal.main_v40_7) = v7 c
          ∧ r.2.mem ((c.tc : Thread Cert.ProjIdeal.nD Cert.ProjIdeal.τ).loc Cert.ProjIdeal.main_v40_8) = v8 c
          ∧ r.2.mem ((c.tc : Thread Cert.ProjIdeal.nD Cert.ProjIdeal.τ).loc Cert.ProjIdeal.main_v40_9) = v9 c
          ∧ r.2.mem ((c.tc : Thread Cert.ProjIdeal.nD Cert.ProjIdeal.τ).loc Cert.ProjIdeal.main_v40_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v168) = v0 c
          ∧ r.2.mem ((c.tc : Thread Cert.ProjRefIdeal.nD Cert.ProjRefIdeal.τ).loc Cert.ProjRefIdeal.main_v171) = v1 c
          ∧ r.2.mem ((c.tc : Thread Cert.ProjRefIdeal.nD Cert.ProjRefIdeal.τ).loc Cert.ProjRefIdeal.main_v174) = v2 c
          ∧ r.2.mem ((c.tc : Thread Cert.ProjRefIdeal.nD Cert.ProjRefIdeal.τ).loc Cert.ProjRefIdeal.main_v177) = v3 c
          ∧ r.2.mem ((c.tc : Thread Cert.ProjRefIdeal.nD Cert.ProjRefIdeal.τ).loc Cert.ProjRefIdeal.main_v180) = v4 c
          ∧ r.2.mem ((c.tc : Thread Cert.ProjRefIdeal.nD Cert.ProjRefIdeal.τ).loc Cert.ProjRefIdeal.main_v181) = v5 c
          ∧ r.2.mem ((c.tc : Thread Cert.ProjRefIdeal.nD Cert.ProjRefIdeal.τ).loc Cert.ProjRefIdeal.main_v183) = v6 c
          ∧ r.2.mem ((c.tc : Thread Cert.ProjRefIdeal.nD Cert.ProjRefIdeal.τ).loc Cert.ProjRefIdeal.main_v184) = v7 c
          ∧ r.2.mem ((c.tc : Thread Cert.ProjRefIdeal.nD Cert.ProjRefIdeal.τ).loc Cert.ProjRefIdeal.main_v185) = v8 c
          ∧ r.2.mem ((c.tc : Thread Cert.ProjRefIdeal.nD Cert.ProjRefIdeal.τ).loc Cert.ProjRefIdeal.main_v186) = v9 c
          ∧ r.2.mem ((c.tc : Thread Cert.ProjRefIdeal.nD Cert.ProjRefIdeal.τ).loc Cert.ProjRefIdeal.main_v23) = v10 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v8)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v8) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v37) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_SMlp_SMlpIdeal : Prop :=
  True

def algebraic_SMlpIdeal_SMlpRefIdeal [hSMlpIdeal : Cert.SMlpIdeal.Facts] [hSMlpRefIdeal : Cert.SMlpRefIdeal.Facts] : Prop :=
  ∀ (m : (ℓ : Loc Cert.SMlpIdeal.nD Cert.SMlpIdeal.τ Cert.SMlpIdeal.sig) → Buf (Elt Ideal) ℓ) (g : Dev Cert.SMlpIdeal.nD → PrngReg)
    (m' : (ℓ : Loc Cert.SMlpRefIdeal.nD Cert.SMlpRefIdeal.τ Cert.SMlpRefIdeal.sig) → Buf (Elt Ideal) ℓ) (g' : Dev Cert.SMlpRefIdeal.nD → PrngReg), Pre_SMlpIdeal m →
    (∀ c : Dev Cert.SMlpIdeal.nD,
      m' ((c.tc : Thread Cert.SMlpRefIdeal.nD Cert.SMlpRefIdeal.τ).loc Cert.SMlpRefIdeal.main_arg0) = m ((c.tc : Thread Cert.SMlpIdeal.nD Cert.SMlpIdeal.τ).loc Cert.SMlpIdeal.main_arg0)
      ∧ m' ((c.tc : Thread Cert.SMlpRefIdeal.nD Cert.SMlpRefIdeal.τ).loc Cert.SMlpRefIdeal.main_arg1) = m ((c.tc : Thread Cert.SMlpIdeal.nD Cert.SMlpIdeal.τ).loc Cert.SMlpIdeal.main_arg1)
      ∧ m' ((c.tc : Thread Cert.SMlpRefIdeal.nD Cert.SMlpRefIdeal.τ).loc Cert.SMlpRefIdeal.main_arg2) = m ((c.tc : Thread Cert.SMlpIdeal.nD Cert.SMlpIdeal.τ).loc Cert.SMlpIdeal.main_arg2)
      ∧ m' ((c.tc : Thread Cert.SMlpRefIdeal.nD Cert.SMlpRefIdeal.τ).loc Cert.SMlpRefIdeal.main_arg3) = m ((c.tc : Thread Cert.SMlpIdeal.nD Cert.SMlpIdeal.τ).loc Cert.SMlpIdeal.main_arg3)) →
    ∃ (v0 : (c : Dev Cert.SMlpIdeal.nD) → Buf (Elt Ideal) ((c.tc : Thread Cert.SMlpIdeal.nD Cert.SMlpIdeal.τ).loc Cert.SMlpIdeal.main_v8)),
      θ_run (Cert.SMlpIdeal.defs (F := Ideal)) (onTc (τ := Cert.SMlpIdeal.τ) (Cert.SMlpIdeal.main (F := Ideal))) ⟨m, fun _ => 0, g⟩ (fun r => ∀ c : Dev Cert.SMlpIdeal.nD,
          r.2.mem ((c.tc : Thread Cert.SMlpIdeal.nD Cert.SMlpIdeal.τ).loc Cert.SMlpIdeal.main_v8) = v0 c
          ∧ r.2.mem ((c.tc : Thread Cert.SMlpIdeal.nD Cert.SMlpIdeal.τ).loc Cert.SMlpIdeal.main_arg0) = m ((c.tc : Thread Cert.SMlpIdeal.nD Cert.SMlpIdeal.τ).loc Cert.SMlpIdeal.main_arg0)
          ∧ r.2.mem ((c.tc : Thread Cert.SMlpIdeal.nD Cert.SMlpIdeal.τ).loc Cert.SMlpIdeal.main_arg1) = m ((c.tc : Thread Cert.SMlpIdeal.nD Cert.SMlpIdeal.τ).loc Cert.SMlpIdeal.main_arg1)
          ∧ r.2.mem ((c.tc : Thread Cert.SMlpIdeal.nD Cert.SMlpIdeal.τ).loc Cert.SMlpIdeal.main_arg2) = m ((c.tc : Thread Cert.SMlpIdeal.nD Cert.SMlpIdeal.τ).loc Cert.SMlpIdeal.main_arg2)
          ∧ r.2.mem ((c.tc : Thread Cert.SMlpIdeal.nD Cert.SMlpIdeal.τ).loc Cert.SMlpIdeal.main_arg3) = m ((c.tc : Thread Cert.SMlpIdeal.nD Cert.SMlpIdeal.τ).loc Cert.SMlpIdeal.main_arg3))
      ∧ θ_run (Cert.SMlpRefIdeal.defs (F := Ideal)) (onTc (τ := Cert.SMlpRefIdeal.τ) (Cert.SMlpRefIdeal.main (F := Ideal))) ⟨m', fun _ => 0, g'⟩ (fun r => ∀ c : Dev Cert.SMlpRefIdeal.nD,
          r.2.mem ((c.tc : Thread Cert.SMlpRefIdeal.nD Cert.SMlpRefIdeal.τ).loc Cert.SMlpRefIdeal.main_v34) = v0 c
          ∧ r.2.mem ((c.tc : Thread Cert.SMlpRefIdeal.nD Cert.SMlpRefIdeal.τ).loc Cert.SMlpRefIdeal.main_arg0) = m' ((c.tc : Thread Cert.SMlpRefIdeal.nD Cert.SMlpRefIdeal.τ).loc Cert.SMlpRefIdeal.main_arg0)
          ∧ r.2.mem ((c.tc : Thread Cert.SMlpRefIdeal.nD Cert.SMlpRefIdeal.τ).loc Cert.SMlpRefIdeal.main_arg1) = m' ((c.tc : Thread Cert.SMlpRefIdeal.nD Cert.SMlpRefIdeal.τ).loc Cert.SMlpRefIdeal.main_arg1)
          ∧ r.2.mem ((c.tc : Thread Cert.SMlpRefIdeal.nD Cert.SMlpRefIdeal.τ).loc Cert.SMlpRefIdeal.main_arg2) = m' ((c.tc : Thread Cert.SMlpRefIdeal.nD Cert.SMlpRefIdeal.τ).loc Cert.SMlpRefIdeal.main_arg2)
          ∧ r.2.mem ((c.tc : Thread Cert.SMlpRefIdeal.nD Cert.SMlpRefIdeal.τ).loc Cert.SMlpRefIdeal.main_arg3) = m' ((c.tc : Thread Cert.SMlpRefIdeal.nD Cert.SMlpRefIdeal.τ).loc Cert.SMlpRefIdeal.main_arg3))

def preserves_SProj_SProjIdeal : Prop :=
  True

def algebraic_SProjIdeal_SProjRefIdeal [hSProjIdeal : Cert.SProjIdeal.Facts] [hSProjRefIdeal : Cert.SProjRefIdeal.Facts] : Prop :=
  ∀ (m : (ℓ : Loc Cert.SProjIdeal.nD Cert.SProjIdeal.τ Cert.SProjIdeal.sig) → Buf (Elt Ideal) ℓ) (g : Dev Cert.SProjIdeal.nD → PrngReg)
    (m' : (ℓ : Loc Cert.SProjRefIdeal.nD Cert.SProjRefIdeal.τ Cert.SProjRefIdeal.sig) → Buf (Elt Ideal) ℓ) (g' : Dev Cert.SProjRefIdeal.nD → PrngReg), Pre_SProjIdeal m →
    (∀ c : Dev Cert.SProjIdeal.nD,
      m' ((c.tc : Thread Cert.SProjRefIdeal.nD Cert.SProjRefIdeal.τ).loc Cert.SProjRefIdeal.main_arg0) = m ((c.tc : Thread Cert.SProjIdeal.nD Cert.SProjIdeal.τ).loc Cert.SProjIdeal.main_arg0)
      ∧ m' ((c.tc : Thread Cert.SProjRefIdeal.nD Cert.SProjRefIdeal.τ).loc Cert.SProjRefIdeal.main_arg1) = m ((c.tc : Thread Cert.SProjIdeal.nD Cert.SProjIdeal.τ).loc Cert.SProjIdeal.main_arg1)
      ∧ m' ((c.tc : Thread Cert.SProjRefIdeal.nD Cert.SProjRefIdeal.τ).loc Cert.SProjRefIdeal.main_arg2) = m ((c.tc : Thread Cert.SProjIdeal.nD Cert.SProjIdeal.τ).loc Cert.SProjIdeal.main_arg2)) →
    ∃ (v0 : (c : Dev Cert.SProjIdeal.nD) → Buf (Elt Ideal) ((c.tc : Thread Cert.SProjIdeal.nD Cert.SProjIdeal.τ).loc Cert.SProjIdeal.main_v40_0)) (v1 : (c : Dev Cert.SProjIdeal.nD) → Buf (Elt Ideal) ((c.tc : Thread Cert.SProjIdeal.nD Cert.SProjIdeal.τ).loc Cert.SProjIdeal.main_v40_1)) (v2 : (c : Dev Cert.SProjIdeal.nD) → Buf (Elt Ideal) ((c.tc : Thread Cert.SProjIdeal.nD Cert.SProjIdeal.τ).loc Cert.SProjIdeal.main_v40_2)) (v3 : (c : Dev Cert.SProjIdeal.nD) → Buf (Elt Ideal) ((c.tc : Thread Cert.SProjIdeal.nD Cert.SProjIdeal.τ).loc Cert.SProjIdeal.main_v40_3)) (v4 : (c : Dev Cert.SProjIdeal.nD) → Buf (Elt Ideal) ((c.tc : Thread Cert.SProjIdeal.nD Cert.SProjIdeal.τ).loc Cert.SProjIdeal.main_v40_4)) (v5 : (c : Dev Cert.SProjIdeal.nD) → Buf (Elt Ideal) ((c.tc : Thread Cert.SProjIdeal.nD Cert.SProjIdeal.τ).loc Cert.SProjIdeal.main_v40_5)) (v6 : (c : Dev Cert.SProjIdeal.nD) → Buf (Elt Ideal) ((c.tc : Thread Cert.SProjIdeal.nD Cert.SProjIdeal.τ).loc Cert.SProjIdeal.main_v40_6)) (v7 : (c : Dev Cert.SProjIdeal.nD) → Buf (Elt Ideal) ((c.tc : Thread Cert.SProjIdeal.nD Cert.SProjIdeal.τ).loc Cert.SProjIdeal.main_v40_7)) (v8 : (c : Dev Cert.SProjIdeal.nD) → Buf (Elt Ideal) ((c.tc : Thread Cert.SProjIdeal.nD Cert.SProjIdeal.τ).loc Cert.SProjIdeal.main_v40_8)) (v9 : (c : Dev Cert.SProjIdeal.nD) → Buf (Elt Ideal) ((c.tc : Thread Cert.SProjIdeal.nD Cert.SProjIdeal.τ).loc Cert.SProjIdeal.main_v40_9)) (v10 : (c : Dev Cert.SProjIdeal.nD) → Buf (Elt Ideal) ((c.tc : Thread Cert.SProjIdeal.nD Cert.SProjIdeal.τ).loc Cert.SProjIdeal.main_v40_10)),
      θ_run (Cert.SProjIdeal.defs (F := Ideal)) (onTc (τ := Cert.SProjIdeal.τ) (Cert.SProjIdeal.main (F := Ideal))) ⟨m, fun _ => 0, g⟩ (fun r => ∀ c : Dev Cert.SProjIdeal.nD,
          r.2.mem ((c.tc : Thread Cert.SProjIdeal.nD Cert.SProjIdeal.τ).loc Cert.SProjIdeal.main_v40_0) = v0 c
          ∧ r.2.mem ((c.tc : Thread Cert.SProjIdeal.nD Cert.SProjIdeal.τ).loc Cert.SProjIdeal.main_v40_1) = v1 c
          ∧ r.2.mem ((c.tc : Thread Cert.SProjIdeal.nD Cert.SProjIdeal.τ).loc Cert.SProjIdeal.main_v40_2) = v2 c
          ∧ r.2.mem ((c.tc : Thread Cert.SProjIdeal.nD Cert.SProjIdeal.τ).loc Cert.SProjIdeal.main_v40_3) = v3 c
          ∧ r.2.mem ((c.tc : Thread Cert.SProjIdeal.nD Cert.SProjIdeal.τ).loc Cert.SProjIdeal.main_v40_4) = v4 c
          ∧ r.2.mem ((c.tc : Thread Cert.SProjIdeal.nD Cert.SProjIdeal.τ).loc Cert.SProjIdeal.main_v40_5) = v5 c
          ∧ r.2.mem ((c.tc : Thread Cert.SProjIdeal.nD Cert.SProjIdeal.τ).loc Cert.SProjIdeal.main_v40_6) = v6 c
          ∧ r.2.mem ((c.tc : Thread Cert.SProjIdeal.nD Cert.SProjIdeal.τ).loc Cert.SProjIdeal.main_v40_7) = v7 c
          ∧ r.2.mem ((c.tc : Thread Cert.SProjIdeal.nD Cert.SProjIdeal.τ).loc Cert.SProjIdeal.main_v40_8) = v8 c
          ∧ r.2.mem ((c.tc : Thread Cert.SProjIdeal.nD Cert.SProjIdeal.τ).loc Cert.SProjIdeal.main_v40_9) = v9 c
          ∧ r.2.mem ((c.tc : Thread Cert.SProjIdeal.nD Cert.SProjIdeal.τ).loc Cert.SProjIdeal.main_v40_10) = v10 c
          ∧ r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
          ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
          ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2))
      ∧ θ_run (Cert.SProjRefIdeal.defs (F := Ideal)) (onTc (τ := Cert.SProjRefIdeal.τ) (Cert.SProjRefIdeal.main (F := Ideal))) ⟨m', fun _ => 0, g'⟩ (fun r => ∀ c : Dev Cert.SProjRefIdeal.nD,
          r.2.mem ((c.tc : Thread Cert.SProjRefIdeal.nD Cert.SProjRefIdeal.τ).loc Cert.SProjRefIdeal.main_v168) = v0 c
          ∧ r.2.mem ((c.tc : Thread Cert.SProjRefIdeal.nD Cert.SProjRefIdeal.τ).loc Cert.SProjRefIdeal.main_v171) = v1 c
          ∧ r.2.mem ((c.tc : Thread Cert.SProjRefIdeal.nD Cert.SProjRefIdeal.τ).loc Cert.SProjRefIdeal.main_v174) = v2 c
          ∧ r.2.mem ((c.tc : Thread Cert.SProjRefIdeal.nD Cert.SProjRefIdeal.τ).loc Cert.SProjRefIdeal.main_v177) = v3 c
          ∧ r.2.mem ((c.tc : Thread Cert.SProjRefIdeal.nD Cert.SProjRefIdeal.τ).loc Cert.SProjRefIdeal.main_v180) = v4 c
          ∧ r.2.mem ((c.tc : Thread Cert.SProjRefIdeal.nD Cert.SProjRefIdeal.τ).loc Cert.SProjRefIdeal.main_v181) = v5 c
          ∧ r.2.mem ((c.tc : Thread Cert.SProjRefIdeal.nD Cert.SProjRefIdeal.τ).loc Cert.SProjRefIdeal.main_v183) = v6 c
          ∧ r.2.mem ((c.tc : Thread Cert.SProjRefIdeal.nD Cert.SProjRefIdeal.τ).loc Cert.SProjRefIdeal.main_v184) = v7 c
          ∧ r.2.mem ((c.tc : Thread Cert.SProjRefIdeal.nD Cert.SProjRefIdeal.τ).loc Cert.SProjRefIdeal.main_v185) = v8 c
          ∧ r.2.mem ((c.tc : Thread Cert.SProjRefIdeal.nD Cert.SProjRefIdeal.τ).loc Cert.SProjRefIdeal.main_v186) = v9 c
          ∧ r.2.mem ((c.tc : Thread Cert.SProjRefIdeal.nD Cert.SProjRefIdeal.τ).loc Cert.SProjRefIdeal.main_v23) = v10 c
          ∧ r.2.mem ((c.tc : Thread Cert.SProjRefIdeal.nD Cert.SProjRefIdeal.τ).loc Cert.SProjRefIdeal.main_arg0) = m' ((c.tc : Thread Cert.SProjRefIdeal.nD Cert.SProjRefIdeal.τ).loc Cert.SProjRefIdeal.main_arg0)
          ∧ r.2.mem ((c.tc : Thread Cert.SProjRefIdeal.nD Cert.SProjRefIdeal.τ).loc Cert.SProjRefIdeal.main_arg1) = m' ((c.tc : Thread Cert.SProjRefIdeal.nD Cert.SProjRefIdeal.τ).loc Cert.SProjRefIdeal.main_arg1)
          ∧ r.2.mem ((c.tc : Thread Cert.SProjRefIdeal.nD Cert.SProjRefIdeal.τ).loc Cert.SProjRefIdeal.main_arg2) = m' ((c.tc : Thread Cert.SProjRefIdeal.nD Cert.SProjRefIdeal.τ).loc Cert.SProjRefIdeal.main_arg2))

def preserves_SMix_SMixIdeal : Prop :=
  True

def algebraic_SMixIdeal_SMixRefIdeal [hSMixIdeal : Cert.SMixIdeal.Facts] [hSMixRefIdeal : Cert.SMixRefIdeal.Facts] : Prop :=
  ∀ (m : (ℓ : Loc Cert.SMixIdeal.nD Cert.SMixIdeal.τ Cert.SMixIdeal.sig) → Buf (Elt Ideal) ℓ) (g : Dev Cert.SMixIdeal.nD → PrngReg)
    (m' : (ℓ : Loc Cert.SMixRefIdeal.nD Cert.SMixRefIdeal.τ Cert.SMixRefIdeal.sig) → Buf (Elt Ideal) ℓ) (g' : Dev Cert.SMixRefIdeal.nD → PrngReg), Pre_SMixIdeal m →
    (∀ c : Dev Cert.SMixIdeal.nD,
      m' ((c.tc : Thread Cert.SMixRefIdeal.nD Cert.SMixRefIdeal.τ).loc Cert.SMixRefIdeal.main_arg0) = m ((c.tc : Thread Cert.SMixIdeal.nD Cert.SMixIdeal.τ).loc Cert.SMixIdeal.main_arg0)
      ∧ m' ((c.tc : Thread Cert.SMixRefIdeal.nD Cert.SMixRefIdeal.τ).loc Cert.SMixRefIdeal.main_arg1) = m ((c.tc : Thread Cert.SMixIdeal.nD Cert.SMixIdeal.τ).loc Cert.SMixIdeal.main_arg1)
      ∧ m' ((c.tc : Thread Cert.SMixRefIdeal.nD Cert.SMixRefIdeal.τ).loc Cert.SMixRefIdeal.main_arg2) = m ((c.tc : Thread Cert.SMixIdeal.nD Cert.SMixIdeal.τ).loc Cert.SMixIdeal.main_arg2)
      ∧ m' ((c.tc : Thread Cert.SMixRefIdeal.nD Cert.SMixRefIdeal.τ).loc Cert.SMixRefIdeal.main_arg3) = m ((c.tc : Thread Cert.SMixIdeal.nD Cert.SMixIdeal.τ).loc Cert.SMixIdeal.main_arg3)
      ∧ m' ((c.tc : Thread Cert.SMixRefIdeal.nD Cert.SMixRefIdeal.τ).loc Cert.SMixRefIdeal.main_arg4) = m ((c.tc : Thread Cert.SMixIdeal.nD Cert.SMixIdeal.τ).loc Cert.SMixIdeal.main_arg4)
      ∧ m' ((c.tc : Thread Cert.SMixRefIdeal.nD Cert.SMixRefIdeal.τ).loc Cert.SMixRefIdeal.main_arg5) = m ((c.tc : Thread Cert.SMixIdeal.nD Cert.SMixIdeal.τ).loc Cert.SMixIdeal.main_arg5)
      ∧ m' ((c.tc : Thread Cert.SMixRefIdeal.nD Cert.SMixRefIdeal.τ).loc Cert.SMixRefIdeal.main_arg6) = m ((c.tc : Thread Cert.SMixIdeal.nD Cert.SMixIdeal.τ).loc Cert.SMixIdeal.main_arg6)
      ∧ m' ((c.tc : Thread Cert.SMixRefIdeal.nD Cert.SMixRefIdeal.τ).loc Cert.SMixRefIdeal.main_arg7) = m ((c.tc : Thread Cert.SMixIdeal.nD Cert.SMixIdeal.τ).loc Cert.SMixIdeal.main_arg7)
      ∧ m' ((c.tc : Thread Cert.SMixRefIdeal.nD Cert.SMixRefIdeal.τ).loc Cert.SMixRefIdeal.main_arg8) = m ((c.tc : Thread Cert.SMixIdeal.nD Cert.SMixIdeal.τ).loc Cert.SMixIdeal.main_arg8)
      ∧ m' ((c.tc : Thread Cert.SMixRefIdeal.nD Cert.SMixRefIdeal.τ).loc Cert.SMixRefIdeal.main_arg9) = m ((c.tc : Thread Cert.SMixIdeal.nD Cert.SMixIdeal.τ).loc Cert.SMixIdeal.main_arg9)
      ∧ m' ((c.tc : Thread Cert.SMixRefIdeal.nD Cert.SMixRefIdeal.τ).loc Cert.SMixRefIdeal.main_arg10) = m ((c.tc : Thread Cert.SMixIdeal.nD Cert.SMixIdeal.τ).loc Cert.SMixIdeal.main_arg10)) →
    ∃ (v0 : (c : Dev Cert.SMixIdeal.nD) → Buf (Elt Ideal) ((c.tc : Thread Cert.SMixIdeal.nD Cert.SMixIdeal.τ).loc Cert.SMixIdeal.main_v15)),
      θ_run (Cert.SMixIdeal.defs (F := Ideal)) (onTc (τ := Cert.SMixIdeal.τ) (Cert.SMixIdeal.main (F := Ideal))) ⟨m, fun _ => 0, g⟩ (fun r => ∀ c : Dev Cert.SMixIdeal.nD,
          r.2.mem ((c.tc : Thread Cert.SMixIdeal.nD Cert.SMixIdeal.τ).loc Cert.SMixIdeal.main_v15) = v0 c
          ∧ r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
          ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
          ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
          ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
          ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4)
          ∧ r.2.mem ((c.tc : Thread Cert.SMixIdeal.nD Cert.SMixIdeal.τ).loc Cert.SMixIdeal.main_arg5) = m ((c.tc : Thread Cert.SMixIdeal.nD Cert.SMixIdeal.τ).loc Cert.SMixIdeal.main_arg5)
          ∧ r.2.mem ((c.tc : Thread Cert.SMixIdeal.nD Cert.SMixIdeal.τ).loc Cert.SMixIdeal.main_arg6) = m ((c.tc : Thread Cert.SMixIdeal.nD Cert.SMixIdeal.τ).loc Cert.SMixIdeal.main_arg6)
          ∧ r.2.mem ((c.tc : Thread Cert.SMixIdeal.nD Cert.SMixIdeal.τ).loc Cert.SMixIdeal.main_arg7) = m ((c.tc : Thread Cert.SMixIdeal.nD Cert.SMixIdeal.τ).loc Cert.SMixIdeal.main_arg7)
          ∧ r.2.mem ((c.tc : Thread Cert.SMixIdeal.nD Cert.SMixIdeal.τ).loc Cert.SMixIdeal.main_arg8) = m ((c.tc : Thread Cert.SMixIdeal.nD Cert.SMixIdeal.τ).loc Cert.SMixIdeal.main_arg8)
          ∧ r.2.mem ((c.tc : Thread Cert.SMixIdeal.nD Cert.SMixIdeal.τ).loc Cert.SMixIdeal.main_arg9) = m ((c.tc : Thread Cert.SMixIdeal.nD Cert.SMixIdeal.τ).loc Cert.SMixIdeal.main_arg9)
          ∧ r.2.mem ((c.tc : Thread Cert.SMixIdeal.nD Cert.SMixIdeal.τ).loc Cert.SMixIdeal.main_arg10) = m ((c.tc : Thread Cert.SMixIdeal.nD Cert.SMixIdeal.τ).loc Cert.SMixIdeal.main_arg10))
      ∧ θ_run (Cert.SMixRefIdeal.defs (F := Ideal)) (onTc (τ := Cert.SMixRefIdeal.τ) (Cert.SMixRefIdeal.main (F := Ideal))) ⟨m', fun _ => 0, g'⟩ (fun r => ∀ c : Dev Cert.SMixRefIdeal.nD,
          r.2.mem ((c.tc : Thread Cert.SMixRefIdeal.nD Cert.SMixRefIdeal.τ).loc Cert.SMixRefIdeal.main_v79) = v0 c
          ∧ r.2.mem ((c.tc : Thread Cert.SMixRefIdeal.nD Cert.SMixRefIdeal.τ).loc Cert.SMixRefIdeal.main_arg0) = m' ((c.tc : Thread Cert.SMixRefIdeal.nD Cert.SMixRefIdeal.τ).loc Cert.SMixRefIdeal.main_arg0)
          ∧ r.2.mem ((c.tc : Thread Cert.SMixRefIdeal.nD Cert.SMixRefIdeal.τ).loc Cert.SMixRefIdeal.main_arg1) = m' ((c.tc : Thread Cert.SMixRefIdeal.nD Cert.SMixRefIdeal.τ).loc Cert.SMixRefIdeal.main_arg1)
          ∧ r.2.mem ((c.tc : Thread Cert.SMixRefIdeal.nD Cert.SMixRefIdeal.τ).loc Cert.SMixRefIdeal.main_arg2) = m' ((c.tc : Thread Cert.SMixRefIdeal.nD Cert.SMixRefIdeal.τ).loc Cert.SMixRefIdeal.main_arg2)
          ∧ r.2.mem ((c.tc : Thread Cert.SMixRefIdeal.nD Cert.SMixRefIdeal.τ).loc Cert.SMixRefIdeal.main_arg3) = m' ((c.tc : Thread Cert.SMixRefIdeal.nD Cert.SMixRefIdeal.τ).loc Cert.SMixRefIdeal.main_arg3)
          ∧ r.2.mem ((c.tc : Thread Cert.SMixRefIdeal.nD Cert.SMixRefIdeal.τ).loc Cert.SMixRefIdeal.main_arg4) = m' ((c.tc : Thread Cert.SMixRefIdeal.nD Cert.SMixRefIdeal.τ).loc Cert.SMixRefIdeal.main_arg4)
          ∧ r.2.mem ((c.tc : Thread Cert.SMixRefIdeal.nD Cert.SMixRefIdeal.τ).loc Cert.SMixRefIdeal.main_arg5) = m' ((c.tc : Thread Cert.SMixRefIdeal.nD Cert.SMixRefIdeal.τ).loc Cert.SMixRefIdeal.main_arg5)
          ∧ r.2.mem ((c.tc : Thread Cert.SMixRefIdeal.nD Cert.SMixRefIdeal.τ).loc Cert.SMixRefIdeal.main_arg6) = m' ((c.tc : Thread Cert.SMixRefIdeal.nD Cert.SMixRefIdeal.τ).loc Cert.SMixRefIdeal.main_arg6)
          ∧ r.2.mem ((c.tc : Thread Cert.SMixRefIdeal.nD Cert.SMixRefIdeal.τ).loc Cert.SMixRefIdeal.main_arg7) = m' ((c.tc : Thread Cert.SMixRefIdeal.nD Cert.SMixRefIdeal.τ).loc Cert.SMixRefIdeal.main_arg7)
          ∧ r.2.mem ((c.tc : Thread Cert.SMixRefIdeal.nD Cert.SMixRefIdeal.τ).loc Cert.SMixRefIdeal.main_arg8) = m' ((c.tc : Thread Cert.SMixRefIdeal.nD Cert.SMixRefIdeal.τ).loc Cert.SMixRefIdeal.main_arg8)
          ∧ r.2.mem ((c.tc : Thread Cert.SMixRefIdeal.nD Cert.SMixRefIdeal.τ).loc Cert.SMixRefIdeal.main_arg9) = m' ((c.tc : Thread Cert.SMixRefIdeal.nD Cert.SMixRefIdeal.τ).loc Cert.SMixRefIdeal.main_arg9)
          ∧ r.2.mem ((c.tc : Thread Cert.SMixRefIdeal.nD Cert.SMixRefIdeal.τ).loc Cert.SMixRefIdeal.main_arg10) = m' ((c.tc : Thread Cert.SMixRefIdeal.nD Cert.SMixRefIdeal.τ).loc Cert.SMixRefIdeal.main_arg10))

def Claim : Prop :=
  ∃ (hMlp : Cert.Mlp.Facts) (hMlpIdeal : Cert.MlpIdeal.Facts) (hMlpRefIdeal : Cert.MlpRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hLast : Cert.Last.Facts) (hLastIdeal : Cert.LastIdeal.Facts) (hLastRefIdeal : Cert.LastRefIdeal.Facts) (hSMlp : Cert.SMlp.Facts) (hSMlpIdeal : Cert.SMlpIdeal.Facts) (hSMlpRefIdeal : Cert.SMlpRefIdeal.Facts) (hSProj : Cert.SProj.Facts) (hSProjIdeal : Cert.SProjIdeal.Facts) (hSProjRefIdeal : Cert.SProjRefIdeal.Facts) (hSMix : Cert.SMix.Facts) (hSMixIdeal : Cert.SMixIdeal.Facts) (hSMixRefIdeal : Cert.SMixRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_Last (hLast := hLast)
    ∧ quiescent_LastIdeal (hLastIdeal := hLastIdeal)
    ∧ quiescent_LastRefIdeal (hLastRefIdeal := hLastRefIdeal)
    ∧ quiescent_SMlp (hSMlp := hSMlp)
    ∧ quiescent_SMlpIdeal (hSMlpIdeal := hSMlpIdeal)
    ∧ quiescent_SMlpRefIdeal (hSMlpRefIdeal := hSMlpRefIdeal)
    ∧ quiescent_SProj (hSProj := hSProj)
    ∧ quiescent_SProjIdeal (hSProjIdeal := hSProjIdeal)
    ∧ quiescent_SProjRefIdeal (hSProjRefIdeal := hSProjRefIdeal)
    ∧ quiescent_SMix (hSMix := hSMix)
    ∧ quiescent_SMixIdeal (hSMixIdeal := hSMixIdeal)
    ∧ quiescent_SMixRefIdeal (hSMixRefIdeal := hSMixRefIdeal)
    ∧ preserves_Mlp_MlpIdeal
    ∧ algebraic_MlpIdeal_MlpRefIdeal (hMlpIdeal := hMlpIdeal) (hMlpRefIdeal := hMlpRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
    ∧ preserves_Last_LastIdeal
    ∧ algebraic_LastIdeal_LastRefIdeal (hLastIdeal := hLastIdeal) (hLastRefIdeal := hLastRefIdeal)
    ∧ preserves_SMlp_SMlpIdeal
    ∧ algebraic_SMlpIdeal_SMlpRefIdeal (hSMlpIdeal := hSMlpIdeal) (hSMlpRefIdeal := hSMlpRefIdeal)
    ∧ preserves_SProj_SProjIdeal
    ∧ algebraic_SProjIdeal_SProjRefIdeal (hSProjIdeal := hSProjIdeal) (hSProjRefIdeal := hSProjRefIdeal)
    ∧ preserves_SMix_SMixIdeal
    ∧ algebraic_SMixIdeal_SMixRefIdeal (hSMixIdeal := hSMixIdeal) (hSMixRefIdeal := hSMixRefIdeal)
-- ==== Mlp.lean ====
abbrev S33792x1024 : Shape := ⟨2, ![33792, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 13
  | .vmem => 8
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpIdeal.lean ====
abbrev S33792x1024 : Shape := ⟨2, ![33792, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 13
  | .vmem => 8
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S33792x1024 : Shape := ⟨2, ![33792, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S33792x4096 : Shape := ⟨2, ![33792, 4096]⟩

abbrev nBuf : Space → Nat
  | .hbm => 47
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S33792x1024, .f32⟩
  | .hbm, ⟨7, _⟩ => ⟨S_, .f32⟩
  | .hbm, ⟨8, _⟩ => ⟨S33792, .f32⟩
  | .hbm, ⟨9, _⟩ => ⟨S33792x1, .f32⟩
  | .hbm, ⟨10, _⟩ => ⟨S_, .f32⟩
  | .hbm, ⟨11, _⟩ => ⟨S33792x1, .f32⟩
  | .hbm, ⟨12, _⟩ => ⟨S33792x1, .f32⟩
  | .hbm, ⟨13, _⟩ => ⟨S_, .f32⟩
  | .hbm, ⟨14, _⟩ => ⟨S33792x1, .f32⟩
  | .hbm, ⟨15, _⟩ => ⟨S33792x1, .f32⟩
  | .hbm, ⟨16, _⟩ => ⟨S33792x1, .f32⟩
  | .hbm, ⟨17, _⟩ => ⟨S33792x1024, .f32⟩
  | .hbm, ⟨18, _⟩ => ⟨S33792x1024, .f32⟩
  | .hbm, ⟨19, _⟩ => ⟨S1x1024, .f32⟩
  | .hbm, ⟨20, _⟩ => ⟨S33792x1024, .f32⟩
  | .hbm, ⟨21, _⟩ => ⟨S33792x1024, .f32⟩
  | .hbm, ⟨22, _⟩ => ⟨S33792x4096, .f32⟩
  | .hbm, ⟨23, _⟩ => ⟨S_, .f32⟩
  | .hbm, ⟨24, _⟩ => ⟨S33792x4096, .f32⟩
  | .hbm, ⟨25, _⟩ => ⟨S33792x4096, .f32⟩
  | .hbm, ⟨26, _⟩ => ⟨S33792x4096, .f32⟩
  | .hbm, ⟨27, _⟩ => ⟨S33792x1024, .f32⟩
  | .hbm, ⟨28, _⟩ => ⟨S1x1024, .f32⟩
  | .hbm, ⟨29, _⟩ => ⟨S1024, .f32⟩
  | .hbm, ⟨30, _⟩ => ⟨S33792x1024, .f32⟩
  | .hbm, ⟨31, _⟩ => ⟨S_, .f32⟩
  | .hbm, ⟨32, _⟩ => ⟨S33792, .f32⟩
  | .hbm, ⟨33, _⟩ => ⟨S33792x1, .f32⟩
  | .hbm, ⟨34, _⟩ => ⟨S_, .f32⟩
  | .hbm, ⟨35, _⟩ => ⟨S33792x1, .f32⟩
  | .hbm, ⟨36, _⟩ => ⟨S33792x1, .f32⟩
  | .hbm, ⟨37, _⟩ => ⟨S_, .f32⟩
  | .hbm, ⟨38, _⟩ => ⟨S33792x1, .f32⟩
  | .hbm, ⟨39, _⟩ => ⟨S33792x1, .f32⟩
  | .hbm, ⟨40, _⟩ => ⟨S33792x1, .f32⟩
  | .hbm, ⟨41, _⟩ => ⟨S33792x1024, .f32⟩
  | .hbm, ⟨42, _⟩ => ⟨S33792x1024, .f32⟩
  | .hbm, ⟨43, _⟩ => ⟨S1x1024, .f32⟩
  | .hbm, ⟨44, _⟩ => ⟨S33792x1024, .f32⟩
  | .hbm, ⟨45, _⟩ => ⟨S33792x1024, .f32⟩
  | .hbm, ⟨46, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Mix.lean ====
abbrev S33792x1024 : Shape := ⟨2, ![33792, 1024]⟩
abbrev S33792x512 : Shape := ⟨2, ![33792, 512]⟩
abbrev S4x1024 : Shape := ⟨2, ![4, 1024]⟩
abbrev S1024x4676 : Shape := ⟨2, ![1024, 4676]⟩
abbrev S3x512 : Shape := ⟨2, ![3, 512]⟩
abbrev S512x1024 : Shape := ⟨2, ![512, 1024]⟩
abbrev S1024x1024 : Shape := ⟨2, ![1024, 1024]⟩
abbrev S_ : Shape := ⟨0, ![]⟩
abbrev S4x2x512 : Shape := ⟨3, ![4, 2, 512]⟩
abbrev S4x6x512 : Shape := ⟨3, ![4, 6, 512]⟩
abbrev S4x8x512 : Shape := ⟨3, ![4, 8, 512]⟩
abbrev S4x33x256x512 : Shape := ⟨4, ![4, 33, 256, 512]⟩
abbrev S4x32x8x512 : Shape := ⟨4, ![4, 32, 8, 512]⟩
abbrev S4x1x8x512 : Shape := ⟨4, ![4, 1, 8, 512]⟩
abbrev S4x33x8x512 : Shape := ⟨4, ![4, 33, 8, 512]⟩
abbrev S132x8x512 : Shape := ⟨3, ![132, 8, 512]⟩
abbrev S1x1024 : Shape := ⟨2, ![1, 1024]⟩
abbrev S1024 : Shape := ⟨1, ![1024]⟩
abbrev S1024x2048 : Shape := ⟨2, ![1024, 2048]⟩
abbrev S66x16x512 : Shape := ⟨3, ![66, 16, 512]⟩
abbrev S512x512 : Shape := ⟨2, ![512, 512]⟩
abbrev S1x16x512 : Shape := ⟨3, ![1, 16, 512]⟩
abbrev S512 : Shape := ⟨1, ![512]⟩
abbrev S512x1 : Shape := ⟨2, ![512, 1]⟩
abbrev S512x2048 : Shape := ⟨2, ![512, 2048]⟩
abbrev S16x512 : Shape := ⟨2, ![16, 512]⟩
abbrev S1x512 : Shape := ⟨2, ![1, 512]⟩

abbrev nBuf : Space → Nat
  | .hbm => 33
  | .vmem => 19
  | .smem => 0
  | _ => 0

abbrev bufTy : (tb : Table) → Fin (tcTables nBuf tb) → BufTy
  | .hbm, ⟨0, _⟩ => ⟨S33792x1024, .f32⟩
  | .hbm, ⟨1, _⟩ => ⟨S33792x512, .bf16⟩
  | .hbm, ⟨2, _⟩ => ⟨S33792x512, .f32⟩
  | .hbm, ⟨3, _⟩ => ⟨S33792x512, .f32⟩
  | .hbm, ⟨4, _⟩ => ⟨S4x1024, .f32⟩
  | .hbm, ⟨5, _⟩ => ⟨S1024x4676, .f32⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S_, .f32⟩
  | .hbm, ⟨11, _⟩ => ⟨S4x2x512, .f32⟩
  | .hbm, ⟨12, _⟩ => ⟨S_, .f32⟩
  | .hbm, ⟨13, _⟩ => ⟨S4x6x512, .f32⟩
  | .hbm, ⟨14, _⟩ => ⟨S4x8x512, .f32⟩
  | .hbm, ⟨15, _⟩ => ⟨S4x33x256x512, .f32⟩
  | .hbm, ⟨16, _⟩ => ⟨S4x32x8x512, .f32⟩
  | .hbm, ⟨17, _⟩ => ⟨S4x1x8x512, .f32⟩
  | .hbm, ⟨18, _⟩ => ⟨S4x33x8x512, .f32⟩
  | .hbm, ⟨19, _⟩ => ⟨S132x8x512, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024x2048, .f32⟩
  | .hbm, ⟨27, _⟩ => ⟨S1024x2048, .bf16⟩
  | .hbm, ⟨28, _⟩ => ⟨S512x1024, .bf16⟩
  | .hbm, ⟨29, _⟩ => ⟨S512x1024, .bf16⟩
  | .hbm, ⟨30, _⟩ => ⟨S1024x1024, .bf16⟩
  | .hbm, ⟨31, _⟩ => ⟨S66x16x512, .f32⟩
  | .hbm, ⟨32, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x16x512, .f32⟩
  | .local _ .vmem, ⟨7, _⟩ => ⟨S1x16x512, .f32⟩
  | .local _ .vmem, ⟨8, _⟩ => ⟨S512x512, .f32⟩
  | .local _ .vmem, ⟨9, _⟩ => ⟨S512x512, .f32⟩
  | .local _ .vmem, ⟨10, _⟩ => ⟨S1x1024, .f32⟩
  | .local _ .vmem, ⟨11, _⟩ => ⟨S1x1024, .f32⟩
  | .local _ .vmem, ⟨12, _⟩ => ⟨S3x512, .f32⟩
  | .local _ .vmem, ⟨13, _⟩ => ⟨S1024x2048, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S33792x1024 : Shape := ⟨2, ![33792, 1024]⟩
abbrev S33792x512 : Shape := ⟨2, ![33792, 512]⟩
abbrev S4x1024 : Shape := ⟨2, ![4, 1024]⟩
abbrev S1024x4676 : Shape := ⟨2, ![1024, 4676]⟩
abbrev S3x512 : Shape := ⟨2, ![3, 512]⟩
abbrev S512x1024 : Shape := ⟨2, ![512, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S4x2x512 : Shape := ⟨3, ![4, 2, 512]⟩
abbrev S4x8448x512 : Shape := ⟨3, ![4, 8448, 512]⟩
abbrev S4x8450x512 : Shape := ⟨3, ![4, 8450, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 103
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S33792x512, .bf16⟩
  | .hbm, ⟨2, _⟩ => ⟨S33792x512, .f32⟩
  | .hbm, ⟨3, _⟩ => ⟨S33792x512, .f32⟩
  | .hbm, ⟨4, _⟩ => ⟨S4x1024, .f32⟩
  | .hbm, ⟨5, _⟩ => ⟨S1024x4676, .f32⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S1024, .f32⟩
  | .hbm, ⟨12, _⟩ => ⟨S33792x1024, .f32⟩
  | .hbm, ⟨13, _⟩ => ⟨S_, .f32⟩
  | .hbm, ⟨14, _⟩ => ⟨S33792, .f32⟩
  | .hbm, ⟨15, _⟩ => ⟨S33792x1, .f32⟩
  | .hbm, ⟨16, _⟩ => ⟨S_, .f32⟩
  | .hbm, ⟨17, _⟩ => ⟨S33792x1, .f32⟩
  | .hbm, ⟨18, _⟩ => ⟨S33792x1, .f32⟩
  | .hbm, ⟨19, _⟩ => ⟨S_, .f32⟩
  | .hbm, ⟨20, _⟩ => ⟨S33792x1, .f32⟩
  | .hbm, ⟨21, _⟩ => ⟨S33792x1, .f32⟩
  | .hbm, ⟨22, _⟩ => ⟨S33792x1, .f32⟩
  | .hbm, ⟨23, _⟩ => ⟨S33792x1024, .f32⟩
  | .hbm, ⟨24, _⟩ => ⟨S33792x1024, .f32⟩
  | .hbm, ⟨25, _⟩ => ⟨S1x1024, .f32⟩
  | .hbm, ⟨26, _⟩ => ⟨S33792x1024, .f32⟩
  | .hbm, ⟨27, _⟩ => ⟨S33792x1024, .f32⟩
  | .hbm, ⟨28, _⟩ => ⟨S1024x1024, .f32⟩
  | .hbm, ⟨29, _⟩ => ⟨S33792x1024, .f32⟩
  | .hbm, ⟨30, _⟩ => ⟨S1024x1024, .f32⟩
  | .hbm, ⟨31, _⟩ => ⟨S33792x1024, .f32⟩
  | .hbm, ⟨32, _⟩ => ⟨S33792x512, .f32⟩
  | .hbm, ⟨33, _⟩ => ⟨S33792x1024, .f32⟩
  | .hbm, ⟨34, _⟩ => ⟨S_, .f32⟩
  | .hbm, ⟨35, _⟩ => ⟨S4x2x512, .f32⟩
  | .hbm, ⟨36, _⟩ => ⟨S4x8448x512, .f32⟩
  | .hbm, ⟨37, _⟩ => ⟨S4x8450x512, .f32⟩
  | .hbm, ⟨38, _⟩ => ⟨S1x512, .f32⟩
  | .hbm, ⟨39, _⟩ => ⟨S512, .f32⟩
  | .hbm, ⟨40, _⟩ => ⟨S4x8448x512, .f32⟩
  | .hbm, ⟨41, _⟩ => ⟨S1x1x512, .f32⟩
  | .hbm, ⟨42, _⟩ => ⟨S4x8448x512, .f32⟩
  | .hbm, ⟨43, _⟩ => ⟨S4x8448x512, .f32⟩
  | .hbm, ⟨44, _⟩ => ⟨S_, .f32⟩
  | .hbm, ⟨45, _⟩ => ⟨S4x8448x512, .f32⟩
  | .hbm, ⟨46, _⟩ => ⟨S4x8448x512, .f32⟩
  | .hbm, ⟨47, _⟩ => ⟨S1x512, .f32⟩
  | .hbm, ⟨48, _⟩ => ⟨S512, .f32⟩
  | .hbm, ⟨49, _⟩ => ⟨S4x8448x512, .f32⟩
  | .hbm, ⟨50, _⟩ => ⟨S1x1x512, .f32⟩
  | .hbm, ⟨51, _⟩ => ⟨S4x8448x512, .f32⟩
  | .hbm, ⟨52, _⟩ => ⟨S4x8448x512, .f32⟩
  | .hbm, ⟨53, _⟩ => ⟨S4x8448x512, .f32⟩
  | .hbm, ⟨54, _⟩ => ⟨S1x512, .f32⟩
  | .hbm, ⟨55, _⟩ => ⟨S512, .f32⟩
  | .hbm, ⟨56, _⟩ => ⟨S4x8448x512, .f32⟩
  | .hbm, ⟨57, _⟩ => ⟨S1x1x512, .f32⟩
  | .hbm, ⟨58, _⟩ => ⟨S4x8448x512, .f32⟩
  | .hbm, ⟨59, _⟩ => ⟨S4x8448x512, .f32⟩
  | .hbm, ⟨60, _⟩ => ⟨S4x8448x512, .f32⟩
  | .hbm, ⟨61, _⟩ => ⟨S33792x512, .f32⟩
  | .hbm, ⟨62, _⟩ => ⟨S33792x512, .f32⟩
  | .hbm, ⟨63, _⟩ => ⟨S33792x1024, .f32⟩
  | .hbm, ⟨64, _⟩ => ⟨S33792x1024, .f32⟩
  | .hbm, ⟨65, _⟩ => ⟨S33792x1024, .f32⟩
  | .hbm, ⟨66, _⟩ => ⟨S_, .f32⟩
  | .hbm, ⟨67, _⟩ => ⟨S33792x1024, .f32⟩
  | .hbm, ⟨68, _⟩ => ⟨S33792x1024, .f32⟩
  | .hbm, ⟨69, _⟩ => ⟨S_, .f32⟩
  | .hbm, ⟨70, _⟩ => ⟨S33792x1024, .f32⟩
  | .hbm, ⟨71, _⟩ => ⟨S33792x1024, .f32⟩
  | .hbm, ⟨72, _⟩ => ⟨S33792x1024, .f32⟩
  | .hbm, ⟨73, _⟩ => ⟨S33792x1024, .f32⟩
  | .hbm, ⟨74, _⟩ => ⟨S33792x1024, .f32⟩
  | .hbm, ⟨75, _⟩ => ⟨S_, .f32⟩
  | .hbm, ⟨76, _⟩ => ⟨S33792x1024, .f32⟩
  | .hbm, ⟨77, _⟩ => ⟨S33792x1024, .f32⟩
  | .hbm, ⟨78, _⟩ => ⟨S_, .f32⟩
  | .hbm, ⟨79, _⟩ => ⟨S33792x1024, .f32⟩
  | .hbm, ⟨80, _⟩ => ⟨S33792x1024, .f32⟩
  | .hbm, ⟨81, _⟩ => ⟨S33792x1024, .f32⟩
  | .hbm, ⟨82, _⟩ => ⟨S33792x1024, .f32⟩
  | .hbm, ⟨83, _⟩ => ⟨S33792x1024, .f32⟩
  | .hbm, ⟨84, _⟩ => ⟨S1x1024, .f32⟩
  | .hbm, ⟨85, _⟩ => ⟨S1024, .f32⟩
  | .hbm, ⟨86, _⟩ => ⟨S33792x1024, .f32⟩
  | .hbm, ⟨87, _⟩ => ⟨S_, .f32⟩
  | .hbm, ⟨88, _⟩ => ⟨S33792, .f32⟩
  | .hbm, ⟨89, _⟩ => ⟨S33792x1, .f32⟩
  | .hbm, ⟨90, _⟩ => ⟨S_, .f32⟩
  | .hbm, ⟨91, _⟩ => ⟨S33792x1, .f32⟩
  | .hbm, ⟨92, _⟩ => ⟨S33792x1, .f32⟩
  | .hbm, ⟨93, _⟩ => ⟨S_, .f32⟩
  | .hbm, ⟨94, _⟩ => ⟨S33792x1, .f32⟩
  | .hbm, ⟨95, _⟩ => ⟨S33792x1, .f32⟩
  | .hbm, ⟨96, _⟩ => ⟨S33792x1, .f32⟩
  | .hbm, ⟨97, _⟩ => ⟨S33792x1024, .f32⟩
  | .hbm, ⟨98, _⟩ => ⟨S33792x1024, .f32⟩
  | .hbm, ⟨99, _⟩ => ⟨S1x1024, .f32⟩
  | .hbm, ⟨100, _⟩ => ⟨S33792x1024, .f32⟩
  | .hbm, ⟨101, _⟩ => ⟨S33792x1024, .f32⟩
  | .hbm, ⟨102, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Proj.lean ====
abbrev S33792x1024 : Shape := ⟨2, ![33792, 1024]⟩
abbrev S4x1024 : Shape := ⟨2, ![4, 1024]⟩
abbrev S1024x4676 : Shape := ⟨2, ![1024, 4676]⟩
abbrev S1024x512 : Shape := ⟨2, ![1024, 512]⟩
abbrev S_ : Shape := ⟨0, ![]⟩
abbrev S1024x256 : Shape := ⟨2, ![1024, 256]⟩
abbrev S1024x64 : Shape := ⟨2, ![1024, 64]⟩
abbrev S1024x4 : Shape := ⟨2, ![1024, 4]⟩
abbrev S1024x1096 : Shape := ⟨2, ![1024, 1096]⟩
abbrev S1096x1024 : Shape := ⟨2, ![1096, 1024]⟩
abbrev S8448 : Shape := ⟨1, ![8448]⟩
abbrev S1x8448 : Shape := ⟨2, ![1, 8448]⟩
abbrev S4x8448 : Shape := ⟨2, ![4, 8448]⟩
abbrev S33792 : Shape := ⟨1, ![33792]⟩
abbrev S8 : Shape := ⟨1, ![8]⟩
abbrev S8x1 : Shape := ⟨2, ![8, 1]⟩
abbrev S1x33792 : Shape := ⟨2, ![1, 33792]⟩
abbrev S8x33792 : Shape := ⟨2, ![8, 33792]⟩
abbrev S1x1024 : Shape := ⟨2, ![1, 1024]⟩
abbrev S1024 : Shape := ⟨1, ![1024]⟩
abbrev S1024x1536 : Shape := ⟨2, ![1024, 1536]⟩
abbrev S512x33792 : Shape := ⟨2, ![512, 33792]⟩
abbrev S256x33792 : Shape := ⟨2, ![256, 33792]⟩
abbrev S132x128x256 : Shape := ⟨3, ![132, 128, 256]⟩
abbrev S2x33792x128 : Shape := ⟨3, ![2, 33792, 128]⟩
abbrev S33792x64 : Shape := ⟨2, ![33792, 64]⟩
abbrev S128x33792 : Shape := ⟨2, ![128, 33792]⟩
abbrev S64x33792 : Shape := ⟨2, ![64, 33792]⟩
abbrev S33792x512 : Shape := ⟨2, ![33792, 512]⟩
abbrev S512x1024 : Shape := ⟨2, ![512, 1024]⟩
abbrev S8x512 : Shape := ⟨2, ![8, 512]⟩
abbrev S512x512 : Shape := ⟨2, ![512, 512]⟩
abbrev S256x512 : Shape := ⟨2, ![256, 512]⟩
abbrev S2x128x256 : Shape := ⟨3, ![2, 128, 256]⟩
abbrev S2x512x128 : Shape := ⟨3, ![2, 512, 128]⟩
abbrev S512x64 : Shape := ⟨2, ![512, 64]⟩
abbrev S128x512 : Shape := ⟨2, ![128, 512]⟩
abbrev S64x512 : Shape := ⟨2, ![64, 512]⟩
abbrev S512 : Shape := ⟨1, ![512]⟩
abbrev S512x1 : Shape := ⟨2, ![512, 1]⟩
abbrev S1096x512 : Shape := ⟨2, ![1096, 512]⟩
abbrev S48x512 : Shape := ⟨2, ![48, 512]⟩
abbrev S512x128 : Shape := ⟨2, ![512, 128]⟩
abbrev S1x512x128 : Shape := ⟨3, ![1, 512, 128]⟩
abbrev S128x256 : Shape := ⟨2, ![128, 256]⟩
abbrev S1x128x256 : Shape := ⟨3, ![1, 128, 256]⟩
abbrev S512x1536 : Shape := ⟨2, ![512, 1536]⟩

abbrev nBuf : Space → Nat
  | .hbm => 61
  | .vmem => 31
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S1024x4676, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x64, .f32⟩
  | .hbm, ⟨13, _⟩ => ⟨S1024x4, .f32⟩
  | .hbm, ⟨14, _⟩ => ⟨S_, .f32⟩
  | .hbm, ⟨15, _⟩ => ⟨S1024x4, .f32⟩
  | .hbm, ⟨16, _⟩ => ⟨S1024x4, .f32⟩
  | .hbm, ⟨17, _⟩ => ⟨S_, .f32⟩
  | .hbm, ⟨18, _⟩ => ⟨S1024x4, .f32⟩
  | .hbm, ⟨19, _⟩ => ⟨S1024x1096, .f32⟩
  | .hbm, ⟨20, _⟩ => ⟨S1024x1096, .bf16⟩
  | .hbm, ⟨21, _⟩ => ⟨S1096x1024, .bf16⟩
  | .hbm, ⟨22, _⟩ => ⟨S8448, .i32⟩
  | .hbm, ⟨23, _⟩ => ⟨S_, .i32⟩
  | .hbm, ⟨24, _⟩ => ⟨S8448, .i32⟩
  | .hbm, ⟨25, _⟩ => ⟨S8448, .i32⟩
  | .hbm, ⟨26, _⟩ => ⟨S1x8448, .i32⟩
  | .hbm, ⟨27, _⟩ => ⟨S4x8448, .i32⟩
  | .hbm, ⟨28, _⟩ => ⟨S33792, .i32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8x1, .f32⟩
  | .hbm, ⟨38, _⟩ => ⟨S33792, .f32⟩
  | .hbm, ⟨39, _⟩ => ⟨S1x33792, .f32⟩
  | .hbm, ⟨40, _⟩ => ⟨S8x33792, .f32⟩
  | .hbm, ⟨41, _⟩ => ⟨S8x33792, .f32⟩
  | .hbm, ⟨42, _⟩ => ⟨S8x33792, .f32⟩
  | .hbm, ⟨43, _⟩ => ⟨S8x33792, .f32⟩
  | .hbm, ⟨44, _⟩ => ⟨S8x33792, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024x1536, .f32⟩
  | .hbm, ⟨49, _⟩ => ⟨S1024x1536, .bf16⟩
  | .hbm, ⟨50, _⟩ => ⟨S512x33792, .bf16⟩
  | .hbm, ⟨51, _⟩ => ⟨S256x33792, .bf16⟩
  | .hbm, ⟨52, _⟩ => ⟨S8x33792, .f32⟩
  | .hbm, ⟨53, _⟩ => ⟨S132x128x256, .bf16⟩
  | .hbm, ⟨54, _⟩ => ⟨S2x33792x128, .bf16⟩
  | .hbm, ⟨55, _⟩ => ⟨S33792x64, .bf16⟩
  | .hbm, ⟨56, _⟩ => ⟨S128x33792, .f32⟩
  | .hbm, ⟨57, _⟩ => ⟨S128x33792, .f32⟩
  | .hbm, ⟨58, _⟩ => ⟨S64x33792, .f32⟩
  | .hbm, ⟨59, _⟩ => ⟨S33792x512, .f32⟩
  | .hbm, ⟨60, _⟩ => ⟨S33792x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1096x1024, .bf16⟩
  | .local _ .vmem, ⟨4, _⟩ => ⟨S1024x1536, .bf16⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S512x512, .bf16⟩
  | .local _ .vmem, ⟨10, _⟩ => ⟨S512x512, .bf16⟩
  | .local _ .vmem, ⟨11, _⟩ => ⟨S256x512, .bf16⟩
  | .local _ .vmem, ⟨12, _⟩ => ⟨S256x512, .bf16⟩
  | .local _ .vmem, ⟨13, _⟩ => ⟨S8x512, .f32⟩
  | .local _ .vmem, ⟨14, _⟩ => ⟨S8x512, .f32⟩
  | .local _ .vmem, ⟨15, _⟩ => ⟨S2x128x256, .bf16⟩
  | .local _ .vmem, ⟨16, _⟩ => ⟨S2x128x256, .bf16⟩
  | .local _ .vmem, ⟨17, _⟩ => ⟨S2x512x128, .bf16⟩
  | .local _ .vmem, ⟨18, _⟩ => ⟨S2x512x128, .bf16⟩
  | .local _ .vmem, ⟨19, _⟩ => ⟨S512x64, .bf16⟩
  | .local _ .vmem, ⟨20, _⟩ => ⟨S512x64, .bf16⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S64x512, .f32⟩
  | .local _ .vmem, ⟨26, _⟩ => ⟨S64x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev main_v40_3 : Ref sig .tc := ⟨.hbm, 53, rfl⟩
abbrev main_v40_4 : Ref sig .tc := ⟨.hbm, 54, rfl⟩
abbrev main_v40_5 : Ref sig .tc := ⟨.hbm, 55, rfl⟩
abbrev main_v40_6 : Ref sig .tc := ⟨.hbm, 56, rfl⟩
abbrev main_v40_7 : Ref sig .tc := ⟨.hbm, 57, rfl⟩
abbrev main_v40_8 : Ref sig .tc := ⟨.hbm, 58, rfl⟩
abbrev main_v40_9 : Ref sig .tc := ⟨.hbm, 59, rfl⟩
abbrev main_v40_10 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjRefIdeal.lean ====
abbrev S33792x1024 : Shape := ⟨2, ![33792, 1024]⟩
abbrev S4x1024 : Shape := ⟨2, ![4, 1024]⟩
abbrev S1024x4676 : Shape := ⟨2, ![1024, 4676]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1024x2628 : Shape := ⟨2, ![1024, 2628]⟩
abbrev S33792x2628 : Shape := ⟨2, ![33792, 2628]⟩
abbrev S33792x512 : Shape := ⟨2, ![33792, 512]⟩
abbrev S33792x128 : Shape := ⟨2, ![33792, 128]⟩
abbrev S33792x256 : Shape := ⟨2, ![33792, 256]⟩
abbrev S33792x64 : Shape := ⟨2, ![33792, 64]⟩
abbrev S33792x4 : Shape := ⟨2, ![33792, 4]⟩
abbrev S8448 : Shape := ⟨1, ![8448]⟩
abbrev S4x8448 : Shape := ⟨2, ![4, 8448]⟩
abbrev S33792x8x64 : Shape := ⟨3, ![33792, 8, 64]⟩
abbrev S8 : Shape := ⟨1, ![8]⟩
abbrev S1x8 : Shape := ⟨2, ![1, 8]⟩
abbrev S33792x8 : Shape := ⟨2, ![33792, 8]⟩
abbrev S33792x1x8 : Shape := ⟨3, ![33792, 1, 8]⟩
abbrev S33792x8x8 : Shape := ⟨3, ![33792, 8, 8]⟩
abbrev S33792x8x16 : Shape := ⟨3, ![33792, 8, 16]⟩
abbrev S33792x8x48 : Shape := ⟨3, ![33792, 8, 48]⟩
abbrev S33792x2x64 : Shape := ⟨3, ![33792, 2, 64]⟩
abbrev S33792x2x8 : Shape := ⟨3, ![33792, 2, 8]⟩
abbrev S33792x2x16 : Shape := ⟨3, ![33792, 2, 16]⟩
abbrev S33792x2x48 : Shape := ⟨3, ![33792, 2, 48]⟩
abbrev S33792x4x64 : Shape := ⟨3, ![33792, 4, 64]⟩
abbrev S33792x4x8 : Shape := ⟨3, ![33792, 4, 8]⟩
abbrev S33792x4x16 : Shape := ⟨3, ![33792, 4, 16]⟩
abbrev S33792x4x48 : Shape := ⟨3, ![33792, 4, 48]⟩
abbrev S33792x1x64 : Shape := ⟨3, ![33792, 1, 64]⟩
abbrev S33792x1x16 : Shape := ⟨3, ![33792, 1, 16]⟩
abbrev S33792x1x48 : Shape := ⟨3, ![33792, 1, 48]⟩
abbrev S33792x2x1 : Shape := ⟨3, ![33792, 2, 1]⟩
abbrev S33792x2x63 : Shape := ⟨3, ![33792, 2, 63]⟩
abbrev S512x33792 : Shape := ⟨2, ![512, 33792]⟩
abbrev S256x33792 : Shape := ⟨2, ![256, 33792]⟩
abbrev S8x33792 : Shape := ⟨2, ![8, 33792]⟩
abbrev S132x256x128 : Shape := ⟨3, ![132, 256, 128]⟩
abbrev S132x128x256 : Shape := ⟨3, ![132, 128, 256]⟩
abbrev S33792x2x128 : Shape := ⟨3, ![33792, 2, 128]⟩
abbrev S2x33792x128 : Shape := ⟨3, ![2, 33792, 128]⟩
abbrev S128x33792 : Shape := ⟨2, ![128, 33792]⟩
abbrev S64x33792 : Shape := ⟨2, ![64, 33792]⟩

abbrev nBuf : Space → Nat
  | .hbm => 209
  | .vmem => 0
  | .smem => 0
  | _ => 0

abbrev hbmTy0_0 (i : Nat) : BufTy := match i % 128 with
  | 0 => ⟨S33792x1024, .f32⟩
  | 1 => ⟨S4x1024, .f32⟩
  | 2 => ⟨S1024x4676, .f32⟩
  | 3 => ⟨S1x1024, .f32⟩
  | 4 => ⟨S1024, .f32⟩
  | 5 => ⟨S33792x1024, .f32⟩
  | 6 => ⟨S_, .f32⟩
  | 7 => ⟨S33792, .f32⟩
  | 8 => ⟨S33792x1, .f32⟩
  | 9 => ⟨S_, .f32⟩
  | 10 => ⟨S33792x1, .f32⟩
  | 11 => ⟨S33792x1, .f32⟩
  | 12 => ⟨S_, .f32⟩
  | 13 => ⟨S33792x1, .f32⟩
  | 14 => ⟨S33792x1, .f32⟩
  | 15 => ⟨S33792x1, .f32⟩
  | 16 => ⟨S33792x1024, .f32⟩
  | 17 => ⟨S33792x1024, .f32⟩
  | 18 => ⟨S1x1024, .f32⟩
  | 19 => ⟨S33792x1024, .f32⟩
  | 20 => ⟨S33792x1024, .f32⟩
  | 21 => ⟨S1024x2628, .f32⟩
  | 22 => ⟨S33792x2628, .f32⟩
  | 23 => ⟨S33792x512, .f32⟩
  | 24 => ⟨S33792x128, .f32⟩
  | 25 => ⟨S33792x128, .f32⟩
  | 26 => ⟨S33792x256, .f32⟩
  | 27 => ⟨S33792x64, .f32⟩
  | 28 => ⟨S33792x4, .f32⟩
  | 29 => ⟨S33792x512, .f32⟩
  | 30 => ⟨S33792x512, .f32⟩
  | 31 => ⟨S33792x512, .f32⟩
  | 32 => ⟨S8448, .i32⟩
  | 33 => ⟨S_, .i32⟩
  | 34 => ⟨S8448, .i32⟩
  | 35 => ⟨S8448, .i32⟩
  | 36 => ⟨S4x8448, .i32⟩
  | 37 => ⟨S33792, .i32⟩
  | 38 => ⟨S_, .f32⟩
  | 39 => ⟨S33792x512, .f32⟩
  | 40 => ⟨S33792x512, .f32⟩
  | 41 => ⟨S33792x8x64, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S8, .f32⟩
  | 50 => ⟨S33792, .f32⟩
  | 51 => ⟨S33792x1, .f32⟩
  | 52 => ⟨S1x8, .f32⟩
  | 53 => ⟨S33792x8, .f32⟩
  | 54 => ⟨S33792x8, .f32⟩
  | 55 => ⟨S33792x8, .f32⟩
  | 56 => ⟨S33792x8, .f32⟩
  | 57 => ⟨S33792x1x8, .f32⟩
  | 58 => ⟨S33792x8, .f32⟩
  | 59 => ⟨S33792x1x8, .f32⟩
  | 60 => ⟨S33792x8x8, .f32⟩
  | 61 => ⟨S33792x8x8, .f32⟩
  | 62 => ⟨S33792x8x8, .f32⟩
  | 63 => ⟨S33792x8x8, .f32⟩
  | 64 => ⟨S33792x8x8, .f32⟩
  | 65 => ⟨S33792x8x8, .f32⟩
  | 66 => ⟨S33792x8x8, .f32⟩
  | 67 => ⟨S33792x8x8, .f32⟩
  | 68 => ⟨S33792x8x8, .f32⟩
  | 69 => ⟨S33792x8x8, .f32⟩
  | 70 => ⟨S33792x8x8, .f32⟩
  | 71 => ⟨S33792x8x8, .f32⟩
  | 72 => ⟨S33792x8x16, .f32⟩
  | 73 => ⟨S33792x8x48, .f32⟩
  | 74 => ⟨S33792x8x64, .f32⟩
  | 75 => ⟨S_, .f32⟩
  | 76 => ⟨S33792x8x64, .f32⟩
  | 77 => ⟨S33792x8x64, .f32⟩
  | 78 => ⟨S33792x2x64, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S33792, .f32⟩
  | 88 => ⟨S33792x1, .f32⟩
  | 89 => ⟨S1x8, .f32⟩
  | 90 => ⟨S33792x8, .f32⟩
  | 91 => ⟨S33792x8, .f32⟩
  | 92 => ⟨S33792x8, .f32⟩
  | 93 => ⟨S33792x8, .f32⟩
  | 94 => ⟨S33792x1x8, .f32⟩
  | 95 => ⟨S33792x8, .f32⟩
  | 96 => ⟨S33792x1x8, .f32⟩
  | 97 => ⟨S33792x2x8, .f32⟩
  | 98 => ⟨S33792x2x8, .f32⟩
  | 99 => ⟨S33792x2x8, .f32⟩
  | 100 => ⟨S33792x2x8, .f32⟩
  | 101 => ⟨S33792x2x8, .f32⟩
  | 102 => ⟨S33792x2x8, .f32⟩
  | 103 => ⟨S33792x2x8, .f32⟩
  | 104 => ⟨S33792x2x8, .f32⟩
  | 105 => ⟨S33792x2x8, .f32⟩
  | 106 => ⟨S33792x2x8, .f32⟩
  | 107 => ⟨S33792x2x8, .f32⟩
  | 108 => ⟨S33792x2x8, .f32⟩
  | 109 => ⟨S33792x2x16, .f32⟩
  | 110 => ⟨S33792x2x48, .f32⟩
  | 111 => ⟨S33792x2x64, .f32⟩
  | 112 => ⟨S_, .f32⟩
  | 113 => ⟨S33792x256, .f32⟩
  | 114 => ⟨S33792x256, .f32⟩
  | 115 => ⟨S33792x4x64, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S33792, .f32⟩
  | 125 => ⟨S33792x1, .f32⟩
  | 126 => ⟨S1x8, .f32⟩
  | 127 => ⟨S33792x8, .f32⟩
  | _ => ⟨S33792x1024, .f32⟩

abbrev hbmTy0_1 (i : Nat) : BufTy := match i % 128 with
  | 0 => ⟨S33792x8, .f32⟩
  | 1 => ⟨S33792x8, .f32⟩
  | 2 => ⟨S33792x8, .f32⟩
  | 3 => ⟨S33792x1x8, .f32⟩
  | 4 => ⟨S33792x8, .f32⟩
  | 5 => ⟨S33792x1x8, .f32⟩
  | 6 => ⟨S33792x4x8, .f32⟩
  | 7 => ⟨S33792x4x8, .f32⟩
  | 8 => ⟨S33792x4x8, .f32⟩
  | 9 => ⟨S33792x4x8, .f32⟩
  | 10 => ⟨S33792x4x8, .f32⟩
  | 11 => ⟨S33792x4x8, .f32⟩
  | 12 => ⟨S33792x4x8, .f32⟩
  | 13 => ⟨S33792x4x8, .f32⟩
  | 14 => ⟨S33792x4x8, .f32⟩
  | 15 => ⟨S33792x4x8, .f32⟩
  | 16 => ⟨S33792x4x8, .f32⟩
  | 17 => ⟨S33792x4x8, .f32⟩
  | 18 => ⟨S33792x4x16, .f32⟩
  | 19 => ⟨S33792x4x48, .f32⟩
  | 20 => ⟨S33792x4x64, .f32⟩
  | 21 => ⟨S33792x1x64, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S8, .f32⟩
  | 30 => ⟨S33792, .f32⟩
  | 31 => ⟨S33792x1, .f32⟩
  | 32 => ⟨S1x8, .f32⟩
  | 33 => ⟨S33792x8, .f32⟩
  | 34 => ⟨S33792x8, .f32⟩
  | 35 => ⟨S33792x8, .f32⟩
  | 36 => ⟨S33792x8, .f32⟩
  | 37 => ⟨S33792x1x8, .f32⟩
  | 38 => ⟨S33792x8, .f32⟩
  | 39 => ⟨S33792x1x8, .f32⟩
  | 40 => ⟨S33792x1x8, .f32⟩
  | 41 => ⟨S33792x1x8, .f32⟩
  | 42 => ⟨S33792x1x8, .f32⟩
  | 43 => ⟨S33792x1x8, .f32⟩
  | 44 => ⟨S33792x1x8, .f32⟩
  | 45 => ⟨S33792x1x8, .f32⟩
  | 46 => ⟨S33792x1x8, .f32⟩
  | 47 => ⟨S33792x1x8, .f32⟩
  | 48 => ⟨S33792x1x16, .f32⟩
  | 49 => ⟨S33792x1x48, .f32⟩
  | 50 => ⟨S33792x1x64, .f32⟩
  | 51 => ⟨S33792x64, .f32⟩
  | 52 => ⟨S_, .f32⟩
  | 53 => ⟨S33792x4, .f32⟩
  | 54 => ⟨S33792x4, .f32⟩
  | 55 => ⟨S_, .f32⟩
  | 56 => ⟨S33792x2x1, .f32⟩
  | 57 => ⟨S_, .f32⟩
  | 58 => ⟨S33792x2x63, .f32⟩
  | 59 => ⟨S33792x512, .f32⟩
  | 60 => ⟨S512x33792, .f32⟩
  | 61 => ⟨S512x33792, .bf16⟩
  | 62 => ⟨S33792x256, .f32⟩
  | 63 => ⟨S256x33792, .f32⟩
  | 64 => ⟨S256x33792, .bf16⟩
  | 65 => ⟨S_, .f32⟩
  | 66 => ⟨S33792x4, .f32⟩
  | 67 => ⟨S33792x8, .f32⟩
  | 68 => ⟨S8x33792, .f32⟩
  | 69 => ⟨S132x256x128, .f32⟩
  | 70 => ⟨S132x128x256, .f32⟩
  | 71 => ⟨S132x128x256, .bf16⟩
  | 72 => ⟨S33792x2x128, .f32⟩
  | 73 => ⟨S2x33792x128, .f32⟩
  | 74 => ⟨S2x33792x128, .bf16⟩
  | 75 => ⟨S33792x64, .bf16⟩
  | 76 => ⟨S33792x128, .f32⟩
  | 77 => ⟨S128x33792, .f32⟩
  | 78 => ⟨S128x33792, .f32⟩
  | 79 => ⟨S64x33792, .f32⟩
  | 80 => ⟨S33792x512, .f32⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_5 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_9 : Ref sig .tc := ⟨.hbm, 117, rfl⟩
abbrev main_v103 : Ref sig .tc := ⟨.hbm, 118, rfl⟩
abbrev main_v104 : Ref sig .tc := ⟨.hbm, 119, rfl⟩
abbrev main_cst_10 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_cst_11 : Ref sig .tc := ⟨.hbm, 151, rfl⟩
abbrev main_v135 : Ref sig .tc := ⟨.hbm, 152, rfl⟩
abbrev main_v136 : Ref sig .tc := ⟨.hbm, 153, rfl⟩
abbrev main_cst_12 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_cst_13 : Ref sig .tc := ⟨.hbm, 180, rfl⟩
abbrev main_v162 : Ref sig .tc := ⟨.hbm, 181, rfl⟩
abbrev main_v163 : Ref sig .tc := ⟨.hbm, 182, rfl⟩
abbrev main_cst_14 : Ref sig .tc := ⟨.hbm, 183, rfl⟩
abbrev main_v164 : Ref sig .tc := ⟨.hbm, 184, rfl⟩
abbrev main_cst_15 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_cst_16 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩

abbrev nD : Nat := 1
abbrev τ : Topo := Topo.v7x

variable {F : FTy → Type} [FloatOps F]
-- ==== Last.lean ====
abbrev S33792x1024 : Shape := ⟨2, ![33792, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S32768x1024 : Shape := ⟨2, ![32768, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 13
  | .vmem => 8
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c33_i32 : BitVec 32 := 33#32
  let v0 : BitVec 32 := Scalar.divsi arg0 c33_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c33_i32 c0_i32_1
  let v7 : BitVec 32 := Scalar.extui v6
  let c0_i32_2 : BitVec 32 := 0#32
  let v8 : BitVec 1 := Scalar.cmpi .slt c33_i32 c0_i32_2
  let v9 : BitVec 32 := Scalar.extui v8
  let v10 : BitVec 32 := Scalar.subi v7 v9
  let v11 : BitVec 1 := Scalar.cmpi .ne v5 v10
  let v12 : BitVec 32 := Scalar.remsi arg0 c33_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.muli v16 c32_i32
  let c33_i32_4 : BitVec 32 := 33#32
  let c0_i32_5 : BitVec 32 := 0#32
  let v18 : BitVec 1 := Scalar.cmpi .eq c33_i32_4 c0_i32_5
  let c1_i32_6 : BitVec 32 := 1#32
  let v19 : BitVec 32 := Scalar.select v18 c1_i32_6 c33_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S33792x1024 : Shape := ⟨2, ![33792, 1024]⟩
abbrev S4x1024 : Shape := ⟨2, ![4, 1024]⟩
abbrev S1024x4096 : Shape := ⟨2, ![1024, 4096]⟩
abbrev S4096x1024 : Shape := ⟨2, ![4096, 1024]⟩
abbrev S4x8448x1024 : Shape := ⟨3, ![4, 8448, 1024]⟩
abbrev S4x8192x1024 : Shape := ⟨3, ![4, 8192, 1024]⟩
abbrev S32768x1024 : Shape := ⟨2, ![32768, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 50
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S4x1024, .f32⟩
  | .hbm, ⟨2, _⟩ => ⟨S1024x4096, .f32⟩
  | .hbm, ⟨3, _⟩ => ⟨S4096x1024, .f32⟩
  | .hbm, ⟨4, _⟩ => ⟨S4x8448x1024, .f32⟩
  | .hbm, ⟨5, _⟩ => ⟨S4x8192x1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x4096, .f32⟩
  | .hbm, ⟨26, _⟩ => ⟨S_, .f32⟩
  | .hbm, ⟨27, _⟩ => ⟨S32768x4096, .f32⟩
  | .hbm, ⟨28, _⟩ => ⟨S32768x4096, .f32⟩
  | .hbm, ⟨29, _⟩ => ⟨S32768x4096, .f32⟩
  | .hbm, ⟨30, _⟩ => ⟨S32768x1024, .f32⟩
  | .hbm, ⟨31, _⟩ => ⟨S1x1024, .f32⟩
  | .hbm, ⟨32, _⟩ => ⟨S1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S32768x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== SMlp.lean ====
abbrev S512x1024 : Shape := ⟨2, ![512, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S512 : Shape := ⟨1, ![512]⟩
abbrev S512x1 : Shape := ⟨2, ![512, 1]⟩
abbrev S512x4096 : Shape := ⟨2, ![512, 4096]⟩

abbrev nBuf : Space → Nat
  | .hbm => 13
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S4x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== SMlpRefIdeal.lean ====
abbrev S512x1024 : Shape := ⟨2, ![512, 1024]⟩
abbrev S4x1024 : Shape := ⟨2, ![4, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S512x4096 : Shape := ⟨2, ![512, 4096]⟩

abbrev nBuf : Space → Nat
  | .hbm => 47
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S512x4096, .f32⟩
  | .hbm, ⟨23, _⟩ => ⟨S_, .f32⟩
  | .hbm, ⟨24, _⟩ => ⟨S512x4096, .f32⟩
  | .hbm, ⟨25, _⟩ => ⟨S512x4096, .f32⟩
  | .hbm, ⟨26, _⟩ => ⟨S512x4096, .f32⟩
  | .hbm, ⟨27, _⟩ => ⟨S512x1024, .f32⟩
  | .hbm, ⟨28, _⟩ => ⟨S1x1024, .f32⟩
  | .hbm, ⟨29, _⟩ => ⟨S1024, .f32⟩
  | .hbm, ⟨30, _⟩ => ⟨S512x1024, .f32⟩
  | .hbm, ⟨31, _⟩ => ⟨S_, .f32⟩
  | .hbm, ⟨32, _⟩ => ⟨S512, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512x1, .f32⟩
  | .hbm, ⟨41, _⟩ => ⟨S512x1024, .f32⟩
  | .hbm, ⟨42, _⟩ => ⟨S512x1024, .f32⟩
  | .hbm, ⟨43, _⟩ => ⟨S1x1024, .f32⟩
  | .hbm, ⟨44, _⟩ => ⟨S512x1024, .f32⟩
  | .hbm, ⟨45, _⟩ => ⟨S512x1024, .f32⟩
  | .hbm, ⟨46, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== SProj.lean ====
abbrev S512x1024 : Shape := ⟨2, ![512, 1024]⟩
abbrev S4x1024 : Shape := ⟨2, ![4, 1024]⟩
abbrev S1024x4676 : Shape := ⟨2, ![1024, 4676]⟩
abbrev S1024x512 : Shape := ⟨2, ![1024, 512]⟩
abbrev S_ : Shape := ⟨0, ![]⟩
abbrev S1024x256 : Shape := ⟨2, ![1024, 256]⟩
abbrev S1024x64 : Shape := ⟨2, ![1024, 64]⟩
abbrev S1024x4 : Shape := ⟨2, ![1024, 4]⟩
abbrev S1024x1096 : Shape := ⟨2, ![1024, 1096]⟩
abbrev S1096x1024 : Shape := ⟨2, ![1096, 1024]⟩
abbrev S32 : Shape := ⟨1, ![32]⟩
abbrev S1x32 : Shape := ⟨2, ![1, 32]⟩
abbrev S16x32 : Shape := ⟨2, ![16, 32]⟩
abbrev S512 : Shape := ⟨1, ![512]⟩
abbrev S8 : Shape := ⟨1, ![8]⟩
abbrev S8x1 : Shape := ⟨2, ![8, 1]⟩
abbrev S1x512 : Shape := ⟨2, ![1, 512]⟩
abbrev S8x512 : Shape := ⟨2, ![8, 512]⟩
abbrev S1x1024 : Shape := ⟨2, ![1, 1024]⟩
abbrev S1024 : Shape := ⟨1, ![1024]⟩
abbrev S1024x1536 : Shape := ⟨2, ![1024, 1536]⟩
abbrev S512x512 : Shape := ⟨2, ![512, 512]⟩
abbrev S256x512 : Shape := ⟨2, ![256, 512]⟩
abbrev S2x128x256 : Shape := ⟨3, ![2, 128, 256]⟩
abbrev S2x512x128 : Shape := ⟨3, ![2, 512, 128]⟩
abbrev S512x64 : Shape := ⟨2, ![512, 64]⟩
abbrev S128x512 : Shape := ⟨2, ![128, 512]⟩
abbrev S64x512 : Shape := ⟨2, ![64, 512]⟩
abbrev S512x1 : Shape := ⟨2, ![512, 1]⟩
abbrev S1096x512 : Shape := ⟨2, ![1096, 512]⟩
abbrev S48x512 : Shape := ⟨2, ![48, 512]⟩
abbrev S512x128 : Shape := ⟨2, ![512, 128]⟩
abbrev S1x512x128 : Shape := ⟨3, ![1, 512, 128]⟩
abbrev S128x256 : Shape := ⟨2, ![128, 256]⟩
abbrev S1x128x256 : Shape := ⟨3, ![1, 128, 256]⟩
abbrev S512x1536 : Shape := ⟨2, ![512, 1536]⟩

abbrev nBuf : Space → Nat
  | .hbm => 61
  | .vmem => 17
  | .smem => 0
  | _ => 0

abbrev bufTy : (tb : Table) → Fin (tcTables nBuf tb) → BufTy
  | .hbm, ⟨0, _⟩ => ⟨S512x1024, .f32⟩
  | .hbm, ⟨1, _⟩ => ⟨S4x1024, .f32⟩
  | .hbm, ⟨2, _⟩ => ⟨S1024x4676, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1024x64, .f32⟩
  | .hbm, ⟨13, _⟩ => ⟨S1024x4, .f32⟩
  | .hbm, ⟨14, _⟩ => ⟨S_, .f32⟩
  | .hbm, ⟨15, _⟩ => ⟨S1024x4, .f32⟩
  | .hbm, ⟨16, _⟩ => ⟨S1024x4, .f32⟩
  | .hbm, ⟨17, _⟩ => ⟨S_, .f32⟩
  | .hbm, ⟨18, _⟩ => ⟨S1024x4, .f32⟩
  | .hbm, ⟨19, _⟩ => ⟨S1024x1096, .f32⟩
  | .hbm, ⟨20, _⟩ => ⟨S1024x1096, .bf16⟩
  | .hbm, ⟨21, _⟩ => ⟨S1096x1024, .bf16⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S1x32, .i32⟩
  | .hbm, ⟨27, _⟩ => ⟨S16x32, .i32⟩
  | .hbm, ⟨28, _⟩ => ⟨S512, .i32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8x1, .f32⟩
  | .hbm, ⟨38, _⟩ => ⟨S512, .f32⟩
  | .hbm, ⟨39, _⟩ => ⟨S1x512, .f32⟩
  | .hbm, ⟨40, _⟩ => ⟨S8x512, .f32⟩
  | .hbm, ⟨41, _⟩ => ⟨S8x512, .f32⟩
  | .hbm, ⟨42, _⟩ => ⟨S8x512, .f32⟩
  | .hbm, ⟨43, _⟩ => ⟨S8x512, .f32⟩
  | .hbm, ⟨44, _⟩ => ⟨S8x512, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024x1536, .f32⟩
  | .hbm, ⟨49, _⟩ => ⟨S1024x1536, .bf16⟩
  | .hbm, ⟨50, _⟩ => ⟨S512x512, .bf16⟩
  | .hbm, ⟨51, _⟩ => ⟨S256x512, .bf16⟩
  | .hbm, ⟨52, _⟩ => ⟨S8x512, .f32⟩
  | .hbm, ⟨53, _⟩ => ⟨S2x128x256, .bf16⟩
  | .hbm, ⟨54, _⟩ => ⟨S2x512x128, .bf16⟩
  | .hbm, ⟨55, _⟩ => ⟨S512x64, .bf16⟩
  | .hbm, ⟨56, _⟩ => ⟨S128x512, .f32⟩
  | .hbm, ⟨57, _⟩ => ⟨S128x512, .f32⟩
  | .hbm, ⟨58, _⟩ => ⟨S64x512, .f32⟩
  | .hbm, ⟨59, _⟩ => ⟨S512x512, .f32⟩
  | .hbm, ⟨60, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1096x1024, .bf16⟩
  | .local _ .vmem, ⟨3, _⟩ => ⟨S1024x1536, .bf16⟩
  | .local _ .vmem, ⟨4, _⟩ => ⟨S8x512, .f32⟩
  | .local _ .vmem, ⟨5, _⟩ => ⟨S8x512, .f32⟩
  | .local _ .vmem, ⟨6, _⟩ => ⟨S512x512, .bf16⟩
  | .local _ .vmem, ⟨7, _⟩ => ⟨S256x512, .bf16⟩
  | .local _ .vmem, ⟨8, _⟩ => ⟨S8x512, .f32⟩
  | .local _ .vmem, ⟨9, _⟩ => ⟨S2x128x256, .bf16⟩
  | .local _ .vmem, ⟨10, _⟩ => ⟨S2x512x128, .bf16⟩
  | .local _ .vmem, ⟨11, _⟩ => ⟨S512x64, .bf16⟩
  | .local _ .vmem, ⟨12, _⟩ => ⟨S128x512, .f32⟩
  | .local _ .vmem, ⟨13, _⟩ => ⟨S128x512, .f32⟩
  | .local _ .vmem, ⟨14, _⟩ => ⟨S64x512, .f32⟩
  | .local _ .vmem, ⟨15, _⟩ => ⟨S512x512, .f32⟩
  | .local _ .vmem, ⟨16, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev main_v40_3 : Ref sig .tc := ⟨.hbm, 53, rfl⟩
abbrev main_v40_4 : Ref sig .tc := ⟨.hbm, 54, rfl⟩
abbrev main_v40_5 : Ref sig .tc := ⟨.hbm, 55, rfl⟩
abbrev main_v40_6 : Ref sig .tc := ⟨.hbm, 56, rfl⟩
abbrev main_v40_7 : Ref sig .tc := ⟨.hbm, 57, rfl⟩
abbrev main_v40_8 : Ref sig .tc := ⟨.hbm, 58, rfl⟩
abbrev main_v40_9 : Ref sig .tc := ⟨.hbm, 59, rfl⟩
abbrev main_v40_10 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S64x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== SProjRefIdeal.lean ====
abbrev S512x1024 : Shape := ⟨2, ![512, 1024]⟩
abbrev S4x1024 : Shape := ⟨2, ![4, 1024]⟩
abbrev S1024x4676 : Shape := ⟨2, ![1024, 4676]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x2628 : Shape := ⟨2, ![1024, 2628]⟩
abbrev S512x2628 : Shape := ⟨2, ![512, 2628]⟩
abbrev S512x512 : Shape := ⟨2, ![512, 512]⟩
abbrev S512x128 : Shape := ⟨2, ![512, 128]⟩
abbrev S512x256 : Shape := ⟨2, ![512, 256]⟩
abbrev S512x64 : Shape := ⟨2, ![512, 64]⟩
abbrev S512x4 : Shape := ⟨2, ![512, 4]⟩
abbrev S32 : Shape := ⟨1, ![32]⟩
abbrev S16x32 : Shape := ⟨2, ![16, 32]⟩
abbrev S512x8x64 : Shape := ⟨3, ![512, 8, 64]⟩
abbrev S8 : Shape := ⟨1, ![8]⟩
abbrev S1x8 : Shape := ⟨2, ![1, 8]⟩
abbrev S512x8 : Shape := ⟨2, ![512, 8]⟩
abbrev S512x1x8 : Shape := ⟨3, ![512, 1, 8]⟩
abbrev S512x8x8 : Shape := ⟨3, ![512, 8, 8]⟩
abbrev S512x8x16 : Shape := ⟨3, ![512, 8, 16]⟩
abbrev S512x8x48 : Shape := ⟨3, ![512, 8, 48]⟩
abbrev S512x2x64 : Shape := ⟨3, ![512, 2, 64]⟩
abbrev S512x2x8 : Shape := ⟨3, ![512, 2, 8]⟩
abbrev S512x2x16 : Shape := ⟨3, ![512, 2, 16]⟩
abbrev S512x2x48 : Shape := ⟨3, ![512, 2, 48]⟩
abbrev S512x4x64 : Shape := ⟨3, ![512, 4, 64]⟩
abbrev S512x4x8 : Shape := ⟨3, ![512, 4, 8]⟩
abbrev S512x4x16 : Shape := ⟨3, ![512, 4, 16]⟩
abbrev S512x4x48 : Shape := ⟨3, ![512, 4, 48]⟩
abbrev S512x1x64 : Shape := ⟨3, ![512, 1, 64]⟩
abbrev S512x1x16 : Shape := ⟨3, ![512, 1, 16]⟩
abbrev S512x1x48 : Shape := ⟨3, ![512, 1, 48]⟩
abbrev S512x2x1 : Shape := ⟨3, ![512, 2, 1]⟩
abbrev S512x2x63 : Shape := ⟨3, ![512, 2, 63]⟩
abbrev S256x512 : Shape := ⟨2, ![256, 512]⟩
abbrev S8x512 : Shape := ⟨2, ![8, 512]⟩
abbrev S2x256x128 : Shape := ⟨3, ![2, 256, 128]⟩
abbrev S2x128x256 : Shape := ⟨3, ![2, 128, 256]⟩
abbrev S512x2x128 : Shape := ⟨3, ![512, 2, 128]⟩
abbrev S2x512x128 : Shape := ⟨3, ![2, 512, 128]⟩
abbrev S128x512 : Shape := ⟨2, ![128, 512]⟩
abbrev S64x512 : Shape := ⟨2, ![64, 512]⟩

abbrev nBuf : Space → Nat
  | .hbm => 209
  | .vmem => 0
  | .smem => 0
  | _ => 0

abbrev hbmTy0_0 (i : Nat) : BufTy := match i % 128 with
  | 0 => ⟨S512x1024, .f32⟩
  | 1 => ⟨S4x1024, .f32⟩
  | 2 => ⟨S1024x4676, .f32⟩
  | 3 => ⟨S1x1024, .f32⟩
  | 4 => ⟨S1024, .f32⟩
  | 5 => ⟨S512x1024, .f32⟩
  | 6 => ⟨S_, .f32⟩
  | 7 => ⟨S512, .f32⟩
  | 8 => ⟨S512x1, .f32⟩
  | 9 => ⟨S_, .f32⟩
  | 10 => ⟨S512x1, .f32⟩
  | 11 => ⟨S512x1, .f32⟩
  | 12 => ⟨S_, .f32⟩
  | 13 => ⟨S512x1, .f32⟩
  | 14 => ⟨S512x1, .f32⟩
  | 15 => ⟨S512x1, .f32⟩
  | 16 => ⟨S512x1024, .f32⟩
  | 17 => ⟨S512x1024, .f32⟩
  | 18 => ⟨S1x1024, .f32⟩
  | 19 => ⟨S512x1024, .f32⟩
  | 20 => ⟨S512x1024, .f32⟩
  | 21 => ⟨S1024x2628, .f32⟩
  | 22 => ⟨S512x2628, .f32⟩
  | 23 => ⟨S512x512, .f32⟩
  | 24 => ⟨S512x128, .f32⟩
  | 25 => ⟨S512x128, .f32⟩
  | 26 => ⟨S512x256, .f32⟩
  | 27 => ⟨S512x64, .f32⟩
  | 28 => ⟨S512x4, .f32⟩
  | 29 => ⟨S512x512, .f32⟩
  | 30 => ⟨S512x512, .f32⟩
  | 31 => ⟨S512x512, .f32⟩
  | 32 => ⟨S32, .i32⟩
  | 33 => ⟨S_, .i32⟩
  | 34 => ⟨S32, .i32⟩
  | 35 => ⟨S32, .i32⟩
  | 36 => ⟨S16x32, .i32⟩
  | 37 => ⟨S512, .i32⟩
  | 38 => ⟨S_, .f32⟩
  | 39 => ⟨S512x512, .f32⟩
  | 40 => ⟨S512x512, .f32⟩
  | 41 => ⟨S512x8x64, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S8, .f32⟩
  | 50 => ⟨S512, .f32⟩
  | 51 => ⟨S512x1, .f32⟩
  | 52 => ⟨S1x8, .f32⟩
  | 53 => ⟨S512x8, .f32⟩
  | 54 => ⟨S512x8, .f32⟩
  | 55 => ⟨S512x8, .f32⟩
  | 56 => ⟨S512x8, .f32⟩
  | 57 => ⟨S512x1x8, .f32⟩
  | 58 => ⟨S512x8, .f32⟩
  | 59 => ⟨S512x1x8, .f32⟩
  | 60 => ⟨S512x8x8, .f32⟩
  | 61 => ⟨S512x8x8, .f32⟩
  | 62 => ⟨S512x8x8, .f32⟩
  | 63 => ⟨S512x8x8, .f32⟩
  | 64 => ⟨S512x8x8, .f32⟩
  | 65 => ⟨S512x8x8, .f32⟩
  | 66 => ⟨S512x8x8, .f32⟩
  | 67 => ⟨S512x8x8, .f32⟩
  | 68 => ⟨S512x8x8, .f32⟩
  | 69 => ⟨S512x8x8, .f32⟩
  | 70 => ⟨S512x8x8, .f32⟩
  | 71 => ⟨S512x8x8, .f32⟩
  | 72 => ⟨S512x8x16, .f32⟩
  | 73 => ⟨S512x8x48, .f32⟩
  | 74 => ⟨S512x8x64, .f32⟩
  | 75 => ⟨S_, .f32⟩
  | 76 => ⟨S512x8x64, .f32⟩
  | 77 => ⟨S512x8x64, .f32⟩
  | 78 => ⟨S512x2x64, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S512, .f32⟩
  | 88 => ⟨S512x1, .f32⟩
  | 89 => ⟨S1x8, .f32⟩
  | 90 => ⟨S512x8, .f32⟩
  | 91 => ⟨S512x8, .f32⟩
  | 92 => ⟨S512x8, .f32⟩
  | 93 => ⟨S512x8, .f32⟩
  | 94 => ⟨S512x1x8, .f32⟩
  | 95 => ⟨S512x8, .f32⟩
  | 96 => ⟨S512x1x8, .f32⟩
  | 97 => ⟨S512x2x8, .f32⟩
  | 98 => ⟨S512x2x8, .f32⟩
  | 99 => ⟨S512x2x8, .f32⟩
  | 100 => ⟨S512x2x8, .f32⟩
  | 101 => ⟨S512x2x8, .f32⟩
  | 102 => ⟨S512x2x8, .f32⟩
  | 103 => ⟨S512x2x8, .f32⟩
  | 104 => ⟨S512x2x8, .f32⟩
  | 105 => ⟨S512x2x8, .f32⟩
  | 106 => ⟨S512x2x8, .f32⟩
  | 107 => ⟨S512x2x8, .f32⟩
  | 108 => ⟨S512x2x8, .f32⟩
  | 109 => ⟨S512x2x16, .f32⟩
  | 110 => ⟨S512x2x48, .f32⟩
  | 111 => ⟨S512x2x64, .f32⟩
  | 112 => ⟨S_, .f32⟩
  | 113 => ⟨S512x256, .f32⟩
  | 114 => ⟨S512x256, .f32⟩
  | 115 => ⟨S512x4x64, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S512, .f32⟩
  | 125 => ⟨S512x1, .f32⟩
  | 126 => ⟨S1x8, .f32⟩
  | 127 => ⟨S512x8, .f32⟩
  | _ => ⟨S512x1024, .f32⟩

abbrev hbmTy0_1 (i : Nat) : BufTy := match i % 128 with
  | 0 => ⟨S512x8, .f32⟩
  | 1 => ⟨S512x8, .f32⟩
  | 2 => ⟨S512x8, .f32⟩
  | 3 => ⟨S512x1x8, .f32⟩
  | 4 => ⟨S512x8, .f32⟩
  | 5 => ⟨S512x1x8, .f32⟩
  | 6 => ⟨S512x4x8, .f32⟩
  | 7 => ⟨S512x4x8, .f32⟩
  | 8 => ⟨S512x4x8, .f32⟩
  | 9 => ⟨S512x4x8, .f32⟩
  | 10 => ⟨S512x4x8, .f32⟩
  | 11 => ⟨S512x4x8, .f32⟩
  | 12 => ⟨S512x4x8, .f32⟩
  | 13 => ⟨S512x4x8, .f32⟩
  | 14 => ⟨S512x4x8, .f32⟩
  | 15 => ⟨S512x4x8, .f32⟩
  | 16 => ⟨S512x4x8, .f32⟩
  | 17 => ⟨S512x4x8, .f32⟩
  | 18 => ⟨S512x4x16, .f32⟩
  | 19 => ⟨S512x4x48, .f32⟩
  | 20 => ⟨S512x4x64, .f32⟩
  | 21 => ⟨S512x1x64, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S8, .f32⟩
  | 30 => ⟨S512, .f32⟩
  | 31 => ⟨S512x1, .f32⟩
  | 32 => ⟨S1x8, .f32⟩
  | 33 => ⟨S512x8, .f32⟩
  | 34 => ⟨S512x8, .f32⟩
  | 35 => ⟨S512x8, .f32⟩
  | 36 => ⟨S512x8, .f32⟩
  | 37 => ⟨S512x1x8, .f32⟩
  | 38 => ⟨S512x8, .f32⟩
  | 39 => ⟨S512x1x8, .f32⟩
  | 40 => ⟨S512x1x8, .f32⟩
  | 41 => ⟨S512x1x8, .f32⟩
  | 42 => ⟨S512x1x8, .f32⟩
  | 43 => ⟨S512x1x8, .f32⟩
  | 44 => ⟨S512x1x8, .f32⟩
  | 45 => ⟨S512x1x8, .f32⟩
  | 46 => ⟨S512x1x8, .f32⟩
  | 47 => ⟨S512x1x8, .f32⟩
  | 48 => ⟨S512x1x16, .f32⟩
  | 49 => ⟨S512x1x48, .f32⟩
  | 50 => ⟨S512x1x64, .f32⟩
  | 51 => ⟨S512x64, .f32⟩
  | 52 => ⟨S_, .f32⟩
  | 53 => ⟨S512x4, .f32⟩
  | 54 => ⟨S512x4, .f32⟩
  | 55 => ⟨S_, .f32⟩
  | 56 => ⟨S512x2x1, .f32⟩
  | 57 => ⟨S_, .f32⟩
  | 58 => ⟨S512x2x63, .f32⟩
  | 59 => ⟨S512x512, .f32⟩
  | 60 => ⟨S512x512, .f32⟩
  | 61 => ⟨S512x512, .bf16⟩
  | 62 => ⟨S512x256, .f32⟩
  | 63 => ⟨S256x512, .f32⟩
  | 64 => ⟨S256x512, .bf16⟩
  | 65 => ⟨S_, .f32⟩
  | 66 => ⟨S512x4, .f32⟩
  | 67 => ⟨S512x8, .f32⟩
  | 68 => ⟨S8x512, .f32⟩
  | 69 => ⟨S2x256x128, .f32⟩
  | 70 => ⟨S2x128x256, .f32⟩
  | 71 => ⟨S2x128x256, .bf16⟩
  | 72 => ⟨S512x2x128, .f32⟩
  | 73 => ⟨S2x512x128, .f32⟩
  | 74 => ⟨S2x512x128, .bf16⟩
  | 75 => ⟨S512x64, .bf16⟩
  | 76 => ⟨S512x128, .f32⟩
  | 77 => ⟨S128x512, .f32⟩
  | 78 => ⟨S128x512, .f32⟩
  | 79 => ⟨S64x512, .f32⟩
  | 80 => ⟨S512x512, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_5 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_9 : Ref sig .tc := ⟨.hbm, 117, rfl⟩
abbrev main_v103 : Ref sig .tc := ⟨.hbm, 118, rfl⟩
abbrev main_v104 : Ref sig .tc := ⟨.hbm, 119, rfl⟩
abbrev main_cst_10 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_cst_11 : Ref sig .tc := ⟨.hbm, 151, rfl⟩
abbrev main_v135 : Ref sig .tc := ⟨.hbm, 152, rfl⟩
abbrev main_v136 : Ref sig .tc := ⟨.hbm, 153, rfl⟩
abbrev main_cst_12 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_cst_13 : Ref sig .tc := ⟨.hbm, 180, rfl⟩
abbrev main_v162 : Ref sig .tc := ⟨.hbm, 181, rfl⟩
abbrev main_v163 : Ref sig .tc := ⟨.hbm, 182, rfl⟩
abbrev main_cst_14 : Ref sig .tc := ⟨.hbm, 183, rfl⟩
abbrev main_v164 : Ref sig .tc := ⟨.hbm, 184, rfl⟩
abbrev main_cst_15 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_cst_16 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩

abbrev nD : Nat := 1
abbrev τ : Topo := Topo.v7x

variable {F : FTy → Type} [FloatOps F]
-- ==== SMix.lean ====
abbrev S512x1024 : Shape := ⟨2, ![512, 1024]⟩
abbrev S512x512 : Shape := ⟨2, ![512, 512]⟩
abbrev S4x1024 : Shape := ⟨2, ![4, 1024]⟩
abbrev S1024x4676 : Shape := ⟨2, ![1024, 4676]⟩
abbrev S3x512 : Shape := ⟨2, ![3, 512]⟩
abbrev S1024x1024 : Shape := ⟨2, ![1024, 1024]⟩
abbrev S16x2x512 : Shape := ⟨3, ![16, 2, 512]⟩
abbrev S_ : Shape := ⟨0, ![]⟩
abbrev S16x6x512 : Shape := ⟨3, ![16, 6, 512]⟩
abbrev S16x8x512 : Shape := ⟨3, ![16, 8, 512]⟩
abbrev S2x64x512 : Shape := ⟨3, ![2, 64, 512]⟩
abbrev S1x1024 : Shape := ⟨2, ![1, 1024]⟩
abbrev S1024 : Shape := ⟨1, ![1024]⟩
abbrev S1024x2048 : Shape := ⟨2, ![1024, 2048]⟩
abbrev S1x128x512 : Shape := ⟨3, ![1, 128, 512]⟩
abbrev S512 : Shape := ⟨1, ![512]⟩
abbrev S512x1 : Shape := ⟨2, ![512, 1]⟩
abbrev S512x2048 : Shape := ⟨2, ![512, 2048]⟩
abbrev S128x512 : Shape := ⟨2, ![128, 512]⟩
abbrev S1x512 : Shape := ⟨2, ![1, 512]⟩

abbrev nBuf : Space → Nat
  | .hbm => 28
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .f32⟩
  | .hbm, ⟨3, _⟩ => ⟨S512x512, .f32⟩
  | .hbm, ⟨4, _⟩ => ⟨S4x1024, .f32⟩
  | .hbm, ⟨5, _⟩ => ⟨S1024x4676, .f32⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16x2x512, .f32⟩
  | .hbm, ⟨11, _⟩ => ⟨S_, .f32⟩
  | .hbm, ⟨12, _⟩ => ⟨S16x6x512, .f32⟩
  | .hbm, ⟨13, _⟩ => ⟨S16x8x512, .f32⟩
  | .hbm, ⟨14, _⟩ => ⟨S2x64x512, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x2048, .f32⟩
  | .hbm, ⟨22, _⟩ => ⟨S1024x2048, .bf16⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S1x128x512, .f32⟩
  | .hbm, ⟨27, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .f32⟩
  | .local _ .vmem, ⟨3, _⟩ => ⟨S1x128x512, .f32⟩
  | .local _ .vmem, ⟨4, _⟩ => ⟨S512x512, .f32⟩
  | .local _ .vmem, ⟨5, _⟩ => ⟨S1x1024, .f32⟩
  | .local _ .vmem, ⟨6, _⟩ => ⟨S1x1024, .f32⟩
  | .local _ .vmem, ⟨7, _⟩ => ⟨S3x512, .f32⟩
  | .local _ .vmem, ⟨8, _⟩ => ⟨S1024x2048, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SMixRefIdeal.lean ====
abbrev S512x1024 : Shape := ⟨2, ![512, 1024]⟩
abbrev S512x512 : Shape := ⟨2, ![512, 512]⟩
abbrev S4x1024 : Shape := ⟨2, ![4, 1024]⟩
abbrev S1024x4676 : Shape := ⟨2, ![1024, 4676]⟩
abbrev S3x512 : Shape := ⟨2, ![3, 512]⟩
abbrev S1024x1024 : Shape := ⟨2, ![1024, 1024]⟩
abbrev S16x2x512 : Shape := ⟨3, ![16, 2, 512]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S16x32x512 : Shape := ⟨3, ![16, 32, 512]⟩
abbrev S16x34x512 : Shape := ⟨3, ![16, 34, 512]⟩
abbrev S1x512 : Shape := ⟨2, ![1, 512]⟩
abbrev S1x1x512 : Shape := ⟨3, ![1, 1, 512]⟩

abbrev nBuf : Space → Nat
  | .hbm => 102
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .f32⟩
  | .hbm, ⟨3, _⟩ => ⟨S512x512, .f32⟩
  | .hbm, ⟨4, _⟩ => ⟨S4x1024, .f32⟩
  | .hbm, ⟨5, _⟩ => ⟨S1024x4676, .f32⟩
  | .hbm, ⟨6, _⟩ => ⟨S3x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16x2x512, .f32⟩
  | .hbm, ⟨11, _⟩ => ⟨S1x1024, .f32⟩
  | .hbm, ⟨12, _⟩ => ⟨S1024, .f32⟩
  | .hbm, ⟨13, _⟩ => ⟨S512x1024, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1024, .f32⟩
  | .hbm, ⟨25, _⟩ => ⟨S512x1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S1024x1024, .f32⟩
  | .hbm, ⟨30, _⟩ => ⟨S512x1024, .f32⟩
  | .hbm, ⟨31, _⟩ => ⟨S1024x1024, .f32⟩
  | .hbm, ⟨32, _⟩ => ⟨S512x1024, .f32⟩
  | .hbm, ⟨33, _⟩ => ⟨S512x512, .f32⟩
  | .hbm, ⟨34, _⟩ => ⟨S512x1024, .f32⟩
  | .hbm, ⟨35, _⟩ => ⟨S16x32x512, .f32⟩
  | .hbm, ⟨36, _⟩ => ⟨S16x34x512, .f32⟩
  | .hbm, ⟨37, _⟩ => ⟨S1x512, .f32⟩
  | .hbm, ⟨38, _⟩ => ⟨S512, .f32⟩
  | .hbm, ⟨39, _⟩ => ⟨S16x32x512, .f32⟩
  | .hbm, ⟨40, _⟩ => ⟨S1x1x512, .f32⟩
  | .hbm, ⟨41, _⟩ => ⟨S16x32x512, .f32⟩
  | .hbm, ⟨42, _⟩ => ⟨S16x32x512, .f32⟩
  | .hbm, ⟨43, _⟩ => ⟨S_, .f32⟩
  | .hbm, ⟨44, _⟩ => ⟨S16x32x512, .f32⟩
  | .hbm, ⟨45, _⟩ => ⟨S16x32x512, .f32⟩
  | .hbm, ⟨46, _⟩ => ⟨S1x512, .f32⟩
  | .hbm, ⟨47, _⟩ => ⟨S512, .f32⟩
  | .hbm, ⟨48, _⟩ => ⟨S16x32x512, .f32⟩
  | .hbm, ⟨49, _⟩ => ⟨S1x1x512, .f32⟩
  | .hbm, ⟨50, _⟩ => ⟨S16x32x512, .f32⟩
  | .hbm, ⟨51, _⟩ => ⟨S16x32x512, .f32⟩
  | .hbm, ⟨52, _⟩ => ⟨S16x32x512, .f32⟩
  | .hbm, ⟨53, _⟩ => ⟨S1x512, .f32⟩
  | .hbm, ⟨54, _⟩ => ⟨S512, .f32⟩
  | .hbm, ⟨55, _⟩ => ⟨S16x32x512, .f32⟩
  | .hbm, ⟨56, _⟩ => ⟨S1x1x512, .f32⟩
  | .hbm, ⟨57, _⟩ => ⟨S16x32x512, .f32⟩
  | .hbm, ⟨58, _⟩ => ⟨S16x32x512, .f32⟩
  | .hbm, ⟨59, _⟩ => ⟨S16x32x512, .f32⟩
  | .hbm, ⟨60, _⟩ => ⟨S512x512, .f32⟩
  | .hbm, ⟨61, _⟩ => ⟨S512x512, .f32⟩
  | .hbm, ⟨62, _⟩ => ⟨S512x1024, .f32⟩
  | .hbm, ⟨63, _⟩ => ⟨S512x1024, .f32⟩
  | .hbm, ⟨64, _⟩ => ⟨S512x1024, .f32⟩
  | .hbm, ⟨65, _⟩ => ⟨S_, .f32⟩
  | .hbm, ⟨66, _⟩ => ⟨S512x1024, .f32⟩
  | .hbm, ⟨67, _⟩ => ⟨S512x1024, .f32⟩
  | .hbm, ⟨68, _⟩ => ⟨S_, .f32⟩
  | .hbm, ⟨69, _⟩ => ⟨S512x1024, .f32⟩
  | .hbm, ⟨70, _⟩ => ⟨S512x1024, .f32⟩
  | .hbm, ⟨71, _⟩ => ⟨S512x1024, .f32⟩
  | .hbm, ⟨72, _⟩ => ⟨S512x1024, .f32⟩
  | .hbm, ⟨73, _⟩ => ⟨S512x1024, .f32⟩
  | .hbm, ⟨74, _⟩ => ⟨S_, .f32⟩
  | .hbm, ⟨75, _⟩ => ⟨S512x1024, .f32⟩
  | .hbm, ⟨76, _⟩ => ⟨S512x1024, .f32⟩
  | .hbm, ⟨77, _⟩ => ⟨S_, .f32⟩
  | .hbm, ⟨78, _⟩ => ⟨S512x1024, .f32⟩
  | .hbm, ⟨79, _⟩ => ⟨S512x1024, .f32⟩
  | .hbm, ⟨80, _⟩ => ⟨S512x1024, .f32⟩
  | .hbm, ⟨81, _⟩ => ⟨S512x1024, .f32⟩
  | .hbm, ⟨82, _⟩ => ⟨S512x1024, .f32⟩
  | .hbm, ⟨83, _⟩ => ⟨S1x1024, .f32⟩
  | .hbm, ⟨84, _⟩ => ⟨S1024, .f32⟩
  | .hbm, ⟨85, _⟩ => ⟨S512x1024, .f32⟩
  | .hbm, ⟨86, _⟩ => ⟨S_, .f32⟩
  | .hbm, ⟨87, _⟩ => ⟨S512, .f32⟩
  | .hbm, ⟨88, _⟩ => ⟨S512x1, .f32⟩
  | .hbm, ⟨89, _⟩ => ⟨S_, .f32⟩
  | .hbm, ⟨90, _⟩ => ⟨S512x1, .f32⟩
  | .hbm, ⟨91, _⟩ => ⟨S512x1, .f32⟩
  | .hbm, ⟨92, _⟩ => ⟨S_, .f32⟩
  | .hbm, ⟨93, _⟩ => ⟨S512x1, .f32⟩
  | .hbm, ⟨94, _⟩ => ⟨S512x1, .f32⟩
  | .hbm, ⟨95, _⟩ => ⟨S512x1, .f32⟩
  | .hbm, ⟨96, _⟩ => ⟨S512x1024, .f32⟩
  | .hbm, ⟨97, _⟩ => ⟨S512x1024, .f32⟩
  | .hbm, ⟨98, _⟩ => ⟨S1x1024, .f32⟩
  | .hbm, ⟨99, _⟩ => ⟨S512x1024, .f32⟩
  | .hbm, ⟨100, _⟩ => ⟨S512x1024, .f32⟩
  | .hbm, ⟨101, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_3 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Proof.My.MlpValue.lean ====
module

public import proofs.«01_k».proof.Defs
public import proofs.«01_k».proof.Proof.Gen.MlpIdeal.Value
public import proofs.«01_k».proof.Proof.Gen.MlpRefIdeal.Run
public import Idealize.ShloMosaic.Lib.Claim
public import Idealize.ShloMosaic.Lib.Pointwise
public import Idealize.ShloMosaic.Lib.Quiescent
public import Idealize.ShloMosaic.Lib.Pipeline.ValueKit

@[expose] public section

set_option maxRecDepth 16384

noncomputable section

namespace Cert.Proof.Mlp

open Idealize.ShloMosaic Idealize.ShloMosaic.TcCoe Idealize.SL.Sem
open Cert.MlpIdeal Cert.MlpIdeal.Gen
open Idealize.ShloMosaic.Pipeline (Dat)

/-- Where each window's block sits at a grid point. -/
theorem idx : ∀ t : Fin grid0.N, win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0] := by
  decide +kernel

/-- The array the call leaves is the reference's result: row by row `x + rms (relu (rms x · up)² · down)`. -/
theorem value (m : (ℓ : Loc nD τ sig) → Buf (Elt Ideal) ℓ) (m' : (ℓ : Loc Cert.MlpRefIdeal.nD Cert.MlpRefIdeal.τ Cert.MlpRefIdeal.sig) → Buf (Elt Ideal) ℓ) (c : Dev nD)
   (h0 : m' ((c.tc : Thread Cert.MlpRefIdeal.nD Cert.MlpRefIdeal.τ).loc Cert.MlpRefIdeal.main_arg0) = m ((c.tc : Thread nD τ).loc main_arg0))
   (h1 : m' ((c.tc : Thread Cert.MlpRefIdeal.nD Cert.MlpRefIdeal.τ).loc Cert.MlpRefIdeal.main_arg1) = m ((c.tc : Thread nD τ).loc main_arg1))
   (h2 : m' ((c.tc : Thread Cert.MlpRefIdeal.nD Cert.MlpRefIdeal.τ).loc Cert.MlpRefIdeal.main_arg2) = m ((c.tc : Thread nD τ).loc main_arg2))
   (h3 : m' ((c.tc : Thread Cert.MlpRefIdeal.nD Cert.MlpRefIdeal.τ).loc Cert.MlpRefIdeal.main_arg3) = m ((c.tc : Thread nD τ).loc main_arg3)) :
    (dats m 0 c).arrAt 5 cfg0.N = Cert.MlpRefIdeal.Value.res_out0 m' c := by
  refine (dats m 0 c).arrAt_eq_of_covers 5 _ (by decide +kernel) fun t hf y => ?_
  blk_simp
  rw [after0_5]
  frame_out
  simp only [Cert.MlpRefIdeal.Value.res_main_v34, h0, h1, h2, h3]
  pointwise [Gen.k0_pay1, Gen.k0_pay2]
  blk_point [iblk, V, idx t]

/-- Every run of the kernel's call and of the reference leaves the same array. -/
theorem algebraic : Cert.algebraic_MlpIdeal_MlpRefIdeal := by
  pair_intro
  · run_from (Cert.MlpIdeal.Value.run_blocks m g)
  · run_from (Cert.MlpRefIdeal.Value.run m' g')
    obtain ⟨h0, h1, h2, h3⟩ := hagree c
    exact (value m m' c h0 h1 h2 h3).symm

/-- The reference runs to its end, keeps its arguments and leaves no semaphore raised. -/
theorem reference_frame : Cert.quiescent_MlpRefIdeal := fun m ρ _ =>
  (θ_run Cert.MlpRefIdeal.defs _ _).mono
    (fun r h => ⟨fun c => ⟨(h c).2.1, (h c).2.2⟩, Idealize.ShloMosaic.sem_eq_zero_of_no_sems (by decide) r.2⟩)
    (Cert.MlpRefIdeal.Value.run (F := Ideal) m ρ)

end Cert.Proof.Mlp

end
-- ==== Proof.My.MixConv.lean ====
module

public import proofs.«01_k».proof.Defs
public import proofs.«01_k».proof.Proof.Gen.MixIdeal.Frame
public import proofs.«01_k».proof.Proof.Gen.MixRefIdeal.Run
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Mix

open Idealize.ShloMosaic Idealize.ShloMosaic.TcCoe Idealize.SL.Sem

/-- Row `n`, lane `l` of the causal convolution of width three over each sequence of 8448 rows: the two rows before the
    first of a sequence count as zero. -/
def convAt (u : Cert.MixRefIdeal.S33792x512.Idx → EReal) (w : Cert.MixRefIdeal.S3x512.Idx → EReal) (n : ℕ) (hn : n < 33792) (l : Fin 512) : EReal :=
  w (ix2 0 l) * (if 2 ≤ n % 8448 then u (ix2 ⟨n - 2, by omega⟩ l) else 0)
    + w (ix2 1 l) * (if 1 ≤ n % 8448 then u (ix2 ⟨n - 1, by omega⟩ l) else 0)
    + w (ix2 2 l) * u (ix2 ⟨n, hn⟩ l)

section
open Cert.MixRefIdeal Cert.MixRefIdeal.Gen

/-- The reference's convolution, as its operations spell it. -/
def convRef (u : FVec Ideal Cert.MixRefIdeal.S33792x512 .f32) (w : FVec Ideal Cert.MixRefIdeal.S3x512 .f32) : FVec Ideal Cert.MixRefIdeal.S33792x512 .f32 :=
  shapeCast _ (addf (addf (addf (broadcastInDim S4x8448x512 ![] bcast_S_S4x8448x512 (constant S_ .f32 0x00000000#32)) (mulf (broadcastInDim S4x8448x512 ![0, 1, 2] bcast_S1x1x512_S4x8448x512_0_1_2 (broadcastInDim S1x1x512 ![2] bcast_S512_S1x1x512_2 (shapeCast _ (extractStridedSlice S1x512 ![0, 0] (w) slices_S3x512_S1x512_0_0) shapeCasts_S1x512_S512))) (extractStridedSlice S4x8448x512 ![0, 0, 0] (concatenate S4x8450x512 1 [⟨S4x2x512, (broadcastInDim S4x2x512 ![] bcast_S_S4x2x512 (constant S_ .f32 0x00000000#32))⟩, ⟨S4x8448x512, (shapeCast _ (u) shapeCasts_S33792x512_S4x8448x512)⟩] concatenates_S4x2x512_S4x8448x512_S4x8450x512_d1) slices_S4x8450x512_S4x8448x512_0_0_0))) (mulf (broadcastInDim S4x8448x512 ![0, 1, 2] bcast_S1x1x512_S4x8448x512_0_1_2 (broadcastInDim S1x1x512 ![2] bcast_S512_S1x1x512_2 (shapeCast _ (extractStridedSlice S1x512 ![1, 0] (w) slices_S3x512_S1x512_1_0) shapeCasts_S1x512_S512))) (extractStridedSlice S4x8448x512 ![0, 1, 0] (concatenate S4x8450x512 1 [⟨S4x2x512, (broadcastInDim S4x2x512 ![] bcast_S_S4x2x512 (constant S_ .f32 0x00000000#32))⟩, ⟨S4x8448x512, (shapeCast _ (u) shapeCasts_S33792x512_S4x8448x512)⟩] concatenates_S4x2x512_S4x8448x512_S4x8450x512_d1) slices_S4x8450x512_S4x8448x512_0_1_0))) (mulf (broadcastInDim S4x8448x512 ![0, 1, 2] bcast_S1x1x512_S4x8448x512_0_1_2 (broadcastInDim S1x1x512 ![2] bcast_S512_S1x1x512_2 (shapeCast _ (extractStridedSlice S1x512 ![2, 0] (w) slices_S3x512_S1x512_2_0) shapeCasts_S1x512_S512))) (extractStridedSlice S4x8448x512 ![0, 2, 0] (concatenate S4x8450x512 1 [⟨S4x2x512, (broadcastInDim S4x2x512 ![] bcast_S_S4x2x512 (constant S_ .f32 0x00000000#32))⟩, ⟨S4x8448x512, (shapeCast _ (u) shapeCasts_S33792x512_S4x8448x512)⟩] concatenates_S4x2x512_S4x8448x512_S4x8450x512_d1) slices_S4x8450x512_S4x8448x512_0_2_0))) shapeCasts_S4x8448x512_S33792x512

theorem convRef_apply (u : FVec Ideal Cert.MixRefIdeal.S33792x512 .f32) (w : FVec Ideal Cert.MixRefIdeal.S3x512 .f32) (y : Cert.MixRefIdeal.S33792x512.Idx) :
    convRef u w y = convAt u w (y 0).val (y 0).isLt (y 1) := by
  pointwise [convRef, convAt]
  have e0 := (y 0).isLt
  have eu : ∀ a b : Fin 33792, a.val = b.val → u (ix2 a (y 1)) = u (ix2 b (y 1)) := fun a b h => by rw [Fin.ext h]
  refine congrArg₂ (· + ·) (congrArg₂ (· + ·) (congrArg _ ?_) (congrArg _ ?_)) rfl
  all_goals
    split_ifs <;> first | rfl | omega | (apply eu; dsimp only; omega) | skip
  all_goals first | rfl | (refine Eq.trans ?_ (if_pos (by omega)).symm; refine eu _ _ ?_; dsimp only; omega) | exact (if_neg (by omega)).symm

end

section
open Cert.MixIdeal Cert.MixIdeal.Gen

/-- Where each window's block sits at a grid point. -/
theorem idx : ∀ t : Fin grid0.N, win0_0.index t = ![(grid0.coords t 0).val, 0] ∧ win0_1.index t = ![(grid0.coords t 0).val, 0]
    ∧ win0_2.index t = ![(grid0.coords t 0).val, 0] ∧ win0_3.index t = ![(grid0.coords t 0).val, 0, 0]
    ∧ win0_4.index t = ![(grid0.coords t 0).val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, 0] := by
  decide +kernel

theorem V_halo (m : (ℓ : Loc nD τ sig) → Buf (Elt Ideal) ℓ) (c : Dev nD) (b : Fin 66) (s : Fin 16) (l : Fin 512) :
   (V m c main_v19 : FVec Ideal S66x16x512 .f32) (ix3 b s l) =
     if (2 * b.val + s.val / 8) % 33 = 0 then (0 : EReal)
     else (m (c.tc.loc main_arg2) : FVec Ideal S33792x512 .f32) (ix2 ⟨512 * b.val + s.val / 8 * 256 - 8 + s.val % 8, by omega⟩ l) := by
  have h5 : ∀ (i : Fin 4) (j : Fin 1) (k : Fin 8), (StableHlo.upto hostOps0 (fun b => m (c, b)) 8 (Proc.tc.devRef main_v5) : FVec Ideal S4x1x8x512 .f32) (ix4 i j k l) = (0 : EReal) := by
    intro i j k
    after_reads_at
    by_cases hk : k.val < 6
    · refine (dif_pos hk).trans ?_
      after_reads_at
    · refine (dif_neg hk).trans ?_
      after_reads_at
  have h4 : ∀ (i : Fin 4) (j : Fin 32) (k : Fin 8), (StableHlo.upto hostOps0 (fun b => m (c, b)) 8 (Proc.tc.devRef main_v4) : FVec Ideal S4x32x8x512 .f32) (ix4 i j k l) = (m (c.tc.loc main_arg2) : FVec Ideal S33792x512 .f32) (ix2 ⟨(i.val * 33 + j.val) * 256 + 248 + k.val, by omega⟩ l) := by
    intro i j k
    after_reads_simp
    generalize hu : (m (c.tc.loc main_arg2) : FVec Ideal S33792x512 .f32) = u
    change extractStridedSlice S4x32x8x512 ![0, 0, 248, 0] (shapeCast S4x33x256x512 u shapeCasts_S33792x512_S4x33x256x512) slices_S4x33x256x512_S4x32x8x512_0_0_248_0 (ix4 i j k l) = _
    have hs : ∀ z : FVec Ideal S4x33x256x512 .f32, extractStridedSlice S4x32x8x512 ![0, 0, 248, 0] z slices_S4x33x256x512_S4x32x8x512_0_0_248_0 (ix4 i j k l) = z (ix4 i ⟨j.val, by omega⟩ ⟨248 + k.val, by omega⟩ l) := by
      intro z
      pointwise
    refine (hs _).trans (Idealize.ShloMosaic.shapeCast_apply _ _ _ _ ?_)
    refine (Shape.rowMajor_val_two (d := S33792x512.size) _).trans (Eq.trans ?_ (Shape.rowMajor_val_four (d := S4x33x256x512.size) _).symm)
    show ((i.val * 33 + j.val) * 256 + 248 + k.val) * 512 + l.val = ((i.val * 33 + j.val) * 256 + (248 + k.val)) * 512 + l.val
    omega
  have em : ∀ a b : Fin 33792, a.val = b.val → (m (c.tc.loc main_arg2) : FVec Ideal S33792x512 .f32) (ix2 a l) = (m (c.tc.loc main_arg2) : FVec Ideal S33792x512 .f32) (ix2 b l) := fun a b h => by rw [Fin.ext h]
  unfold V
  after_reads_at
  by_cases hb : (2 * b.val + s.val / 8) % 33 = 0
  · exact (dif_pos (by omega)).trans ((h5 _ _ _).trans (if_pos hb).symm)
  · refine (dif_neg (by omega)).trans ((h4 _ _ _).trans (Eq.trans (em _ _ ?_) (if_neg hb).symm))
    dsimp only
    omega

/-- A select on the equality of two small index words is an `if`. -/
theorem sel (n k : ℕ) (hn : n < 2 ^ 32) (hk : k < 2 ^ 32) (a b : EReal) :
    Scalar.select (IntOp.cmpi .eq (BitVec.ofNat 32 n) (BitVec.ofNat 32 k)) a b = if n = k then a else b := by
  rw [WordCmp.cmpi_eq_ofNat hn hk, WordCmp.select_ofBool]
  simp only [decide_eq_true_eq]

set_option maxHeartbeats 1000000 in
/-- The kernel's convolution of one block. -/
theorem convK (m : (ℓ : Loc nD τ sig) → Buf (Elt Ideal) ℓ) (c : Dev nD) (t : Fin grid0.N) (y : S512x512.Idx) :
    k0_pay11 (k0_pay4 (View.ld (iblk m c 3 t) r0_4)) (iota .tc S512x1 32 [0] iota_S512x1_d0_w32) (k0_pay5 (View.ld (iblk m c 2 t) r0_3)) (k0_pay6 (View.ld (iblk m c 2 t) r0_3)) (k0_pay7 (View.ld (iblk m c 3 t) r0_4)) (k0_pay8 (View.ld (iblk m c 3 t) r0_4)) k0_pay9 (k0_pay10 (View.ld (iblk m c 3 t) r0_4)) (View.ld (iblk m c 7 t) r0_5) (View.ld (iblk m c 7 t) r0_6) y
      + k0_pay12 (View.ld (iblk m c 2 t) r0_3) (View.ld (iblk m c 7 t) r0_7) y
     = convAt (m (c.tc.loc main_arg2)) (m (c.tc.loc main_arg6)) ((grid0.coords t 0).val * 512 + (y 0).val) (by have h1 : (y 0).val < 512 := (y 0).isLt; have h2 : (grid0.coords t 0).val < 66 := (grid0.coords t 0).isLt; omega) (y 1) := by
  pointwise [k0_pay11, k0_pay4, k0_pay5, k0_pay6, k0_pay7, k0_pay8, k0_pay9, k0_pay10, k0_pay12, convAt]
  have hy : (y 0).val < 512 := (y 0).isLt
  have ht : (grid0.coords t 0).val < 66 := (grid0.coords t 0).isLt
  have hw : ∀ k, iblk m c 7 t (ix2 k (y 1)) = m (c.tc.loc main_arg6) (ix2 k (y 1)) := by
    intro k
    blk_point [iblk, V, idx t]
  have hu : ∀ r : Fin 512, iblk m c 2 t (ix2 r (y 1)) = m (c.tc.loc main_arg2) (ix2 ⟨(grid0.coords t 0).val * 512 + r.val, by omega⟩ (y 1)) := by
    intro r
    blk_point [iblk, V, idx t]
  have hu' : iblk m c 2 t y = m (c.tc.loc main_arg2) (ix2 ⟨(grid0.coords t 0).val * 512 + (y 0).val, by omega⟩ (y 1)) := by
    blk_point [iblk, V, idx t]
  have hh : ∀ s : Fin 16, iblk m c 3 t (ix3 0 s (y 1)) = if (2 * (grid0.coords t 0).val + s.val / 8) % 33 = 0 then (0 : EReal)
     else (m (c.tc.loc main_arg2) : FVec Ideal S33792x512 .f32) (ix2 ⟨512 * (grid0.coords t 0).val + s.val / 8 * 256 - 8 + s.val % 8, by omega⟩ (y 1)) := by
    intro s
    refine Eq.trans ?_ (V_halo m c (grid0.coords t 0) s (y 1))
    blk_simp [iblk, idx t]
    blk_ext [idx t]
  rw [hu']
  simp only [hw, hu, hh, sel _ _ (show (y 0).val < 2 ^ 32 by omega) (show 256 < 2 ^ 32 by omega),
    sel _ _ (show (y 0).val < 2 ^ 32 by omega) (show 257 < 2 ^ 32 by omega),
    sel _ _ (show (y 0).val < 2 ^ 32 by omega) (show 0 < 2 ^ 32 by omega),
    sel _ _ (show (y 0).val < 2 ^ 32 by omega) (show 1 < 2 ^ 32 by omega)]
  have eu : ∀ a b : Fin 33792, a.val = b.val → (m (c.tc.loc main_arg2) : FVec Ideal S33792x512 .f32) (ix2 a (y 1)) = (m (c.tc.loc main_arg2) : FVec Ideal S33792x512 .f32) (ix2 b (y 1)) := fun a b h => by rw [Fin.ext h]
  refine congrArg₂ (· + ·) (congrArg₂ (· + ·) (congrArg _ ?_) (congrArg _ ?_)) rfl
  all_goals try simp only [show (14 : Fin 16).val = 14 from rfl, show (15 : Fin 16).val = 15 from rfl, show (6 : Fin 16).val = 6 from rfl, show (7 : Fin 16).val = 7 from rfl]
  all_goals
    split_ifs <;> first | rfl | omega | (refine eu _ _ ?_; dsimp only; omega)

end

end Cert.Proof.Mix

end
-- ==== Proof.My.MixValue.lean ====
module

public import proofs.«01_k».proof.Defs
public import proofs.«01_k».proof.Proof.Gen.MixIdeal.Value
public import proofs.«01_k».proof.Proof.Gen.MixRefIdeal.Run
public import proofs.«01_k».proof.Proof.My.MixConv
public import Idealize.ShloMosaic.Lib.Claim
public import Idealize.ShloMosaic.Lib.Pointwise
public import Idealize.ShloMosaic.Lib.Quiescent
public import Idealize.ShloMosaic.Lib.Pipeline.ValueKit

@[expose] public section

set_option maxRecDepth 16384

noncomputable section

namespace Cert.Proof.Mix

open Idealize.ShloMosaic Idealize.ShloMosaic.TcCoe Idealize.SL.Sem

section
open Cert.MixRefIdeal Cert.MixRefIdeal.Gen

/-- The reference's rms norm of every row, before its weight. -/
def rmsRef (x : FVec Ideal S33792x1024 .f32) : FVec Ideal S33792x1024 .f32 :=
  mulf x (broadcastInDim S33792x1024 ![0, 1] bcast_S33792x1_S33792x1024_0_1 (Host.rsqrt (addf (Host.divf (broadcastInDim S33792x1 ![0] bcast_S33792_S33792x1_0 (Host.reduceAdd (mulf x x) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))

/-- The first norm with its weight. -/
def normRef (x : FVec Ideal S33792x1024 .f32) (l : FVec Ideal S4x1024 .f32) : FVec Ideal S33792x1024 .f32 :=
  mulf (rmsRef x) (broadcastInDim S33792x1024 ![0, 1] bcast_S1x1024_S33792x1024_0_1 (broadcastInDim S1x1024 ![1] bcast_S1024_S1x1024_1 (shapeCast _ (extractStridedSlice S1x1024 ![0, 0] l slices_S4x1024_S1x1024_0_0) shapeCasts_S1x1024_S1024)))

/-- The two gates before their sigmoid. -/
def gateA (x : FVec Ideal S33792x1024 .f32) (l : FVec Ideal S4x1024 .f32) (w : FVec Ideal S1024x4676 .f32) : FVec Ideal S33792x1024 .f32 :=
  Host.dotGeneral dot_S33792x1024_S1024x1024_S33792x1024_1_0_0_1_n_n none (normRef x l) (extractStridedSlice S1024x1024 ![0, 2628] w slices_S1024x4676_S1024x1024_0_2628)

@[inherit_doc gateA]
def gateC (x : FVec Ideal S33792x1024 .f32) (l : FVec Ideal S4x1024 .f32) (w : FVec Ideal S1024x4676 .f32) : FVec Ideal S33792x1024 .f32 :=
  Host.dotGeneral dot_S33792x1024_S1024x1024_S33792x1024_1_0_0_1_n_n none (normRef x l) (extractStridedSlice S1024x1024 ![0, 3652] w slices_S1024x4676_S1024x1024_0_3652)

/-- The attention's part before its gate. -/
def attnRef (a : FVec Ideal S33792x512 .bf16) (w : FVec Ideal S512x1024 .f32) : FVec Ideal S33792x1024 .f32 :=
  Host.dotGeneral dot_S33792x512_S512x1024_S33792x1024_1_0_0_1_n_n none (extf .f32 a bitsLt_bf16_f32) w

/-- The reference's sigmoid. -/
def sigRef (d : FVec Ideal S33792x1024 .f32) : FVec Ideal S33792x1024 .f32 :=
  Host.divf (broadcastInDim S33792x1024 ![] bcast_S_S33792x1024 (constant S_ .f32 0x3F800000#32)) (addf (broadcastInDim S33792x1024 ![] bcast_S_S33792x1024 (constant S_ .f32 0x3F800000#32)) (Host.exp (Host.negf d)))

/-- The gated sum of the two parts through the last weight. -/
def mixRef (d1 d2 a : FVec Ideal S33792x1024 .f32) (g cv : FVec Ideal S33792x512 .f32) (w8 : FVec Ideal S512x1024 .f32) (w9 : FVec Ideal S1024x1024 .f32) : FVec Ideal S33792x1024 .f32 :=
  Host.dotGeneral dot_S33792x1024_S1024x1024_S33792x1024_1_0_0_1_n_n none (addf (mulf (sigRef d1) a) (mulf (sigRef d2) (Host.dotGeneral dot_S33792x512_S512x1024_S33792x1024_1_0_0_1_n_n none (mulf g cv) w8))) w9

/-- The residual sum with the second norm. -/
def outRef (x z : FVec Ideal S33792x1024 .f32) (l : FVec Ideal S4x1024 .f32) : FVec Ideal S33792x1024 .f32 :=
  addf x (mulf (rmsRef z) (broadcastInDim S33792x1024 ![0, 1] bcast_S1x1024_S33792x1024_0_1 (broadcastInDim S1x1024 ![1] bcast_S1024_S1x1024_1 (shapeCast _ (extractStridedSlice S1x1024 ![1, 0] l slices_S4x1024_S1x1024_1_0) shapeCasts_S1x1024_S1024))))

set_option maxHeartbeats 1000000 in
/-- The reference's result by its stages. -/
theorem res_stages (m : (ℓ : Loc nD τ sig) → Buf (Elt Ideal) ℓ) (c : Dev nD) (x : FVec Ideal S33792x1024 .f32) (a : FVec Ideal S33792x512 .bf16) (u g : FVec Ideal S33792x512 .f32)
    (l : FVec Ideal S4x1024 .f32) (w : FVec Ideal S1024x4676 .f32) (cw : FVec Ideal S3x512 .f32) (w7 w8 : FVec Ideal S512x1024 .f32) (w9 : FVec Ideal S1024x1024 .f32)
    (h0 : m ((c.tc : Thread nD τ).loc main_arg0) = x) (h1 : m ((c.tc : Thread nD τ).loc main_arg1) = a) (h2 : m ((c.tc : Thread nD τ).loc main_arg2) = u) (h3 : m ((c.tc : Thread nD τ).loc main_arg3) = g)
    (h4 : m ((c.tc : Thread nD τ).loc main_arg4) = l) (h5 : m ((c.tc : Thread nD τ).loc main_arg5) = w) (h6 : m ((c.tc : Thread nD τ).loc main_arg6) = cw)
    (h7 : m ((c.tc : Thread nD τ).loc main_arg7) = w7) (h8 : m ((c.tc : Thread nD τ).loc main_arg8) = w8) (h9 : m ((c.tc : Thread nD τ).loc main_arg9) = w9) :
    Cert.MixRefIdeal.Value.res_main_v80 m c = outRef x (mixRef (gateA x l w) (gateC x l w) (attnRef a w7) g (convRef u cw) w8 w9) l := by
  subst h0 h1 h2 h3 h4 h5 h6 h7 h8 h9
  unfold Cert.MixRefIdeal.Value.res_main_v80 outRef mixRef rmsRef gateA gateC attnRef sigRef normRef rmsRef convRef
  rfl

end

section
open Cert.MixIdeal Cert.MixIdeal.Gen
open Idealize.ShloMosaic.Pipeline (Dat)

/-- The row of the whole array that row `r` of block `t` is. -/
def row (t : Fin grid0.N) (r : Fin 512) : Fin 33792 :=
  ⟨(grid0.coords t 0).val * 512 + r.val, by have h2 : (grid0.coords t 0).val < 66 := (grid0.coords t 0).isLt; omega⟩

/-- The first gate of a block of rows, before its sigmoid. -/
theorem gateA_block (m : (ℓ : Loc nD τ sig) → Buf (Elt Ideal) ℓ) (c : Dev nD) (t : Fin grid0.N) (r : Fin 512) (k : Fin 1024) :
    k0_pay2 (iblk m c 0 t) (iblk m c 5 t) (iblk m c 8 t) (ix2 r ⟨k.val, by omega⟩) = gateA (m (c.tc.loc main_arg0)) (m (c.tc.loc main_arg4)) (m (c.tc.loc main_arg5)) (ix2 (row t r) k) := by
  pointwise [k0_pay2, gateA, normRef, rmsRef, row]
  blk_point [iblk, V, idx t]

/-- The second gate of a block of rows, before its sigmoid. -/
theorem gateC_block (m : (ℓ : Loc nD τ sig) → Buf (Elt Ideal) ℓ) (c : Dev nD) (t : Fin grid0.N) (r : Fin 512) (k : Fin 1024) :
    k0_pay2 (iblk m c 0 t) (iblk m c 5 t) (iblk m c 8 t) (ix2 r ⟨1024 + k.val, by omega⟩) = gateC (m (c.tc.loc main_arg0)) (m (c.tc.loc main_arg4)) (m (c.tc.loc main_arg5)) (ix2 (row t r) k) := by
  pointwise [k0_pay2, gateC, normRef, rmsRef, row]
  blk_point [iblk, V, idx t]

/-- The attention's part of a block of rows. -/
theorem attn_block (m : (ℓ : Loc nD τ sig) → Buf (Elt Ideal) ℓ) (c : Dev nD) (t : Fin grid0.N) (r : Fin 512) (k : Fin 1024) :
    k0_pay3 (iblk m c 1 t) (iblk m c 9 t) (ix2 r k) = attnRef (m (c.tc.loc main_arg1)) (m (c.tc.loc main_arg7)) (ix2 (row t r) k) := by
  pointwise [k0_pay3, attnRef, row]
  blk_point [iblk, V, idx t]

/-- One row of the gated sum through the last weight, from equal rows of its operands. -/
theorem mix_row (v18 : FVec Ideal S512x2048 .f32) (v22 : FVec Ideal S512x1024 .f32) (v81 v84 v86 : FVec Ideal S512x512 .f32) (v89 : FVec Ideal S512x1024 .bf16) (v112 : FVec Ideal S1024x1024 .bf16)
    (d1 d2 a : FVec Ideal Cert.MixRefIdeal.S33792x1024 .f32) (g cv : FVec Ideal Cert.MixRefIdeal.S33792x512 .f32) (w8 : FVec Ideal Cert.MixRefIdeal.S512x1024 .f32) (w9 : FVec Ideal Cert.MixRefIdeal.S1024x1024 .f32)
    (r : Fin 512) (n : Fin 33792) (k : Fin 1024)
    (h1 : ∀ k : Fin 1024, v18 (ix2 r ⟨k.val, by omega⟩) = d1 (ix2 n k)) (h2 : ∀ k : Fin 1024, v18 (ix2 r ⟨1024 + k.val, by omega⟩) = d2 (ix2 n k))
    (h3 : ∀ k, v22 (ix2 r k) = a (ix2 n k)) (h4 : ∀ k, v81 (ix2 r k) + v84 (ix2 r k) = cv (ix2 n k)) (h5 : ∀ k, v86 (ix2 r k) = g (ix2 n k))
    (h6 : ∀ j k, v89 (ix2 j k) = w8 (ix2 j k)) (h7 : ∀ j k, v112 (ix2 j k) = w9 (ix2 j k)) :
    k0_pay13 v18 v22 v81 v84 v86 v89 v112 (ix2 r k) = mixRef d1 d2 a g cv w8 w9 (ix2 n k) := by
  pointwise [k0_pay13, mixRef, sigRef]
  simp only [h1, h2, h3, h4, h5, h6, h7, zero_sub]

/-- One row of the result, from equal rows of its operands. -/
theorem out_row (x : FVec Ideal S512x1024 .f32) (v115 : FVec Ideal S1x1024 .f32)
    (v18 : FVec Ideal S512x2048 .f32) (v22 : FVec Ideal S512x1024 .f32) (v81 v84 v86 : FVec Ideal S512x512 .f32) (v89 : FVec Ideal S512x1024 .bf16) (v112 : FVec Ideal S1024x1024 .bf16)
    (X z : FVec Ideal Cert.MixRefIdeal.S33792x1024 .f32) (l : FVec Ideal Cert.MixRefIdeal.S4x1024 .f32)
    (r : Fin 512) (n : Fin 33792) (k : Fin 1024)
    (h1 : ∀ k, x (ix2 r k) = X (ix2 n k)) (h2 : ∀ k, v115 (ix2 0 k) = l (ix2 1 k))
    (h3 : ∀ k, k0_pay13 v18 v22 v81 v84 v86 v89 v112 (ix2 r k) = z (ix2 n k)) :
    k0_pay1 x (k0_pay13 v18 v22 v81 v84 v86 v89 v112) (k0_pay14 v115) (k0_pay15 v18 v22 v81 v84 v86 v89 v112) (ix2 r k) = outRef X z l (ix2 n k) := by
  pointwise [k0_pay1, k0_pay14, k0_pay15, outRef, rmsRef]
  simp only [h1, h2, h3]

set_option maxHeartbeats 400000 in
/-- The array the call leaves is the reference's result. -/
theorem value (m : (ℓ : Loc nD τ sig) → Buf (Elt Ideal) ℓ) (m' : (ℓ : Loc Cert.MixRefIdeal.nD Cert.MixRefIdeal.τ Cert.MixRefIdeal.sig) → Buf (Elt Ideal) ℓ) (c : Dev nD)
   (h0 : m' ((c.tc : Thread Cert.MixRefIdeal.nD Cert.MixRefIdeal.τ).loc Cert.MixRefIdeal.main_arg0) = m ((c.tc : Thread nD τ).loc main_arg0))
   (h1 : m' ((c.tc : Thread Cert.MixRefIdeal.nD Cert.MixRefIdeal.τ).loc Cert.MixRefIdeal.main_arg1) = m ((c.tc : Thread nD τ).loc main_arg1))
   (h2 : m' ((c.tc : Thread Cert.MixRefIdeal.nD Cert.MixRefIdeal.τ).loc Cert.MixRefIdeal.main_arg2) = m ((c.tc : Thread nD τ).loc main_arg2))
   (h3 : m' ((c.tc : Thread Cert.MixRefIdeal.nD Cert.MixRefIdeal.τ).loc Cert.MixRefIdeal.main_arg3) = m ((c.tc : Thread nD τ).loc main_arg3))
   (h4 : m' ((c.tc : Thread Cert.MixRefIdeal.nD Cert.MixRefIdeal.τ).loc Cert.MixRefIdeal.main_arg4) = m ((c.tc : Thread nD τ).loc main_arg4))
   (h5 : m' ((c.tc : Thread Cert.MixRefIdeal.nD Cert.MixRefIdeal.τ).loc Cert.MixRefIdeal.main_arg5) = m ((c.tc : Thread nD τ).loc main_arg5))
   (h6 : m' ((c.tc : Thread Cert.MixRefIdeal.nD Cert.MixRefIdeal.τ).loc Cert.MixRefIdeal.main_arg6) = m ((c.tc : Thread nD τ).loc main_arg6))
   (h7 : m' ((c.tc : Thread Cert.MixRefIdeal.nD Cert.MixRefIdeal.τ).loc Cert.MixRefIdeal.main_arg7) = m ((c.tc : Thread nD τ).loc main_arg7))
   (h8 : m' ((c.tc : Thread Cert.MixRefIdeal.nD Cert.MixRefIdeal.τ).loc Cert.MixRefIdeal.main_arg8) = m ((c.tc : Thread nD τ).loc main_arg8))
   (h9 : m' ((c.tc : Thread Cert.MixRefIdeal.nD Cert.MixRefIdeal.τ).loc Cert.MixRefIdeal.main_arg9) = m ((c.tc : Thread nD τ).loc main_arg9)) :
    (dats m 0 c).arrAt 12 cfg0.N = Cert.MixRefIdeal.Value.res_out0 m' c := by
  refine (dats m 0 c).arrAt_eq_of_covers 12 _ (by decide +kernel) fun t hf y => ?_
  obtain ⟨r, k, rfl⟩ : ∃ (r : Fin 512) (k : Fin 1024), y = ix2 r k := ⟨y 0, y 1, by funext a; fin_cases a <;> rfl⟩
  blk_simp
  rw [after0_12]
  frame_out
  rw [Cert.MixRefIdeal.Value.res_out0, res_stages m' c _ _ _ _ _ _ _ _ _ _ h0 h1 h2 h3 h4 h5 h6 h7 h8 h9]
  have e16 := gateA_block m c t r
  have e17 := gateC_block m c t r
  have e18 := attn_block m c t r
  have e19 : ∀ j : Fin 512, k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      + k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = convRef (m (c.tc.loc main_arg2)) (m (c.tc.loc main_arg6)) (ix2 (row t r) j) := fun j =>
    (convK m c t (ix2 r j)).trans (convRef_apply _ _ (ix2 (row t r) j)).symm
  have eg : ∀ j, iblk m c 4 t (ix2 r j) = m (c.tc.loc main_arg3) (ix2 (row t r) j) := by
    intro j
    simp only [row]
    blk_point [iblk, V, idx t]
  have e8 : ∀ i j, iblk m c 10 t (ix2 i j) = m (c.tc.loc main_arg8) (ix2 i j) := by
    intro i j
    blk_point [iblk, V, idx t]
  have e9 : ∀ i j, iblk m c 11 t (ix2 i j) = m (c.tc.loc main_arg9) (ix2 i j) := by
    intro i j
    blk_point [iblk, V, idx t]
  have ex : ∀ j, iblk m c 0 t (ix2 r j) = m (c.tc.loc main_arg0) (ix2 (row t r) j) := by
    intro j
    simp only [row]
    blk_point [iblk, V, idx t]
  have el : ∀ j, iblk m c 6 t (ix2 0 j) = m (c.tc.loc main_arg4) (ix2 1 j) := by
    intro j
    blk_point [iblk, V, idx t]
  have ei : (((View.whole main_v20).slice (win0_12.rect t)).emb (ix2 r k)) = ix2 (row t r) k := by
    simp only [row]
    blk_ext [idx t]
  rw [ei]
  rw [show k0_pay16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = k0_pay2 (iblk m c 0 t) (iblk m c 5 t) (iblk m c 8 t) by unfold k0_pay16; frame_out]
  rw [show k0_pay17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = k0_pay3 (iblk m c 1 t) (iblk m c 9 t) by unfold k0_pay17; frame_out]
  generalize k0_pay2 (iblk m c 0 t) (iblk m c 5 t) (iblk m c 8 t) = v18 at *
  generalize k0_pay3 (iblk m c 1 t) (iblk m c 9 t) = v22 at *
  generalize k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = v81 at *
  generalize k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = v84 at *
  exact out_row _ _ v18 v22 v81 v84 _ _ _ _ _ _ r (row t r) k ex el fun j => mix_row v18 v22 v81 v84 _ _ _ _ _ _ _ _ _ _ r (row t r) j e16 e17 e18 e19 eg e8 e9

/-- Every run of the kernel's call and of the reference leaves the same array. -/
theorem algebraic : Cert.algebraic_MixIdeal_MixRefIdeal := by
  pair_intro
  · run_from (Cert.MixIdeal.Value.run_blocks m g)
  · run_from (Cert.MixRefIdeal.Value.run m' g')
    obtain ⟨h0, h1, h2, h3, h4, h5, h6, h7, h8, h9⟩ := hagree c
    exact (value m m' c h0 h1 h2 h3 h4 h5 h6 h7 h8 h9).symm

/-- The reference runs to its end, keeps its arguments and leaves no semaphore raised. -/
theorem reference_frame : Cert.quiescent_MixRefIdeal := fun m ρ _ =>
  (θ_run Cert.MixRefIdeal.defs _ _).mono
    (fun r h => ⟨fun c => (h c).2, Idealize.ShloMosaic.sem_eq_zero_of_no_sems (by decide) r.2⟩)
    (Cert.MixRefIdeal.Value.run (F := Ideal) m ρ)

end

end Cert.Proof.Mix

end
-- ==== Proof.My.SMixConv.lean ====
module

public import proofs.«01_k».proof.Defs
public import proofs.«01_k».proof.Proof.Gen.SMixIdeal.Frame
public import proofs.«01_k».proof.Proof.Gen.SMixRefIdeal.Run
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.SMix

open Idealize.ShloMosaic Idealize.ShloMosaic.TcCoe Idealize.SL.Sem

/-- Row `n`, lane `l` of the causal convolution of width three over each sequence of 32 rows: the two rows before the
    first of a sequence are its rows of `p` (below row two of a sequence, `n % 2` is the row's own number in it). -/
def convAt (u : Cert.SMixRefIdeal.S512x512.Idx → EReal) (w : Cert.SMixRefIdeal.S3x512.Idx → EReal) (p : Cert.SMixRefIdeal.S16x2x512.Idx → EReal) (n : ℕ) (hn : n < 512) (l : Fin 512) : EReal :=
  w (ix2 0 l) * (if 2 ≤ n % 32 then u (ix2 ⟨n - 2, by omega⟩ l) else p (ix3 ⟨n / 32, by omega⟩ ⟨n % 2, by omega⟩ l))
    + w (ix2 1 l) * (if 1 ≤ n % 32 then u (ix2 ⟨n - 1, by omega⟩ l) else p (ix3 ⟨n / 32, by omega⟩ 1 l))
    + w (ix2 2 l) * u (ix2 ⟨n, hn⟩ l)

section
open Cert.SMixRefIdeal Cert.SMixRefIdeal.Gen

/-- The reference's convolution, as its operations spell it. -/
def convRef (u : FVec Ideal Cert.SMixRefIdeal.S512x512 .f32) (w : FVec Ideal Cert.SMixRefIdeal.S3x512 .f32) (p : FVec Ideal Cert.SMixRefIdeal.S16x2x512 .f32) : FVec Ideal Cert.SMixRefIdeal.S512x512 .f32 :=
  shapeCast _ (addf (addf (addf (broadcastInDim S16x32x512 ![] bcast_S_S16x32x512 (constant S_ .f32 0x00000000#32)) (mulf (broadcastInDim S16x32x512 ![0, 1, 2] bcast_S1x1x512_S16x32x512_0_1_2 (broadcastInDim S1x1x512 ![2] bcast_S512_S1x1x512_2 (shapeCast _ (extractStridedSlice S1x512 ![0, 0] (w) slices_S3x512_S1x512_0_0) shapeCasts_S1x512_S512))) (extractStridedSlice S16x32x512 ![0, 0, 0] (concatenate S16x34x512 1 [⟨S16x2x512, p⟩, ⟨S16x32x512, (shapeCast _ (u) shapeCasts_S512x512_S16x32x512)⟩] concatenates_S16x2x512_S16x32x512_S16x34x512_d1) slices_S16x34x512_S16x32x512_0_0_0))) (mulf (broadcastInDim S16x32x512 ![0, 1, 2] bcast_S1x1x512_S16x32x512_0_1_2 (broadcastInDim S1x1x512 ![2] bcast_S512_S1x1x512_2 (shapeCast _ (extractStridedSlice S1x512 ![1, 0] (w) slices_S3x512_S1x512_1_0) shapeCasts_S1x512_S512))) (extractStridedSlice S16x32x512 ![0, 1, 0] (concatenate S16x34x512 1 [⟨S16x2x512, p⟩, ⟨S16x32x512, (shapeCast _ (u) shapeCasts_S512x512_S16x32x512)⟩] concatenates_S16x2x512_S16x32x512_S16x34x512_d1) slices_S16x34x512_S16x32x512_0_1_0))) (mulf (broadcastInDim S16x32x512 ![0, 1, 2] bcast_S1x1x512_S16x32x512_0_1_2 (broadcastInDim S1x1x512 ![2] bcast_S512_S1x1x512_2 (shapeCast _ (extractStridedSlice S1x512 ![2, 0] (w) slices_S3x512_S1x512_2_0) shapeCasts_S1x512_S512))) (extractStridedSlice S16x32x512 ![0, 2, 0] (concatenate S16x34x512 1 [⟨S16x2x512, p⟩, ⟨S16x32x512, (shapeCast _ (u) shapeCasts_S512x512_S16x32x512)⟩] concatenates_S16x2x512_S16x32x512_S16x34x512_d1) slices_S16x34x512_S16x32x512_0_2_0))) shapeCasts_S16x32x512_S512x512

theorem convRef_apply (u : FVec Ideal Cert.SMixRefIdeal.S512x512 .f32) (w : FVec Ideal Cert.SMixRefIdeal.S3x512 .f32) (p : FVec Ideal Cert.SMixRefIdeal.S16x2x512 .f32) (y : Cert.SMixRefIdeal.S512x512.Idx) :
    convRef u w p y = convAt u w p (y 0).val (y 0).isLt (y 1) := by
  pointwise [convRef, convAt]
  have e0 : (y 0).val < 512 := (y 0).isLt
  have eu : ∀ a b : Fin 512, a.val = b.val → u (ix2 a (y 1)) = u (ix2 b (y 1)) := fun a b h => by rw [Fin.ext h]
  have ep : ∀ (a b : Fin 16) (i j : Fin 2), a.val = b.val → i.val = j.val → p (ix3 a i (y 1)) = p (ix3 b j (y 1)) := fun a b i j h h' => by rw [Fin.ext h, Fin.ext h']
  refine congrArg₂ (· + ·) (congrArg₂ (· + ·) (congrArg _ ?_) (congrArg _ ?_)) rfl
  all_goals
    split_ifs <;> first | rfl | omega | (refine eu _ _ ?_; dsimp only; omega) | (refine ep _ _ _ _ ?_ ?_ <;> dsimp only <;> omega) | skip
  all_goals (refine Eq.trans ?_ (if_pos (by omega)).symm; refine eu _ _ ?_; dsimp only; omega)

end

section
open Cert.SMixIdeal Cert.SMixIdeal.Gen

/-- Where each window's block sits at a grid point. -/
theorem idx : ∀ t : Fin grid0.N, win0_0.index t = ![(grid0.coords t 0).val, 0] ∧ win0_1.index t = ![(grid0.coords t 0).val, 0]
    ∧ win0_2.index t = ![(grid0.coords t 0).val, 0] ∧ win0_3.index t = ![(grid0.coords t 0).val, 0, 0]
    ∧ win0_4.index t = ![(grid0.coords t 0).val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(grid0.coords t 0).val, 0] := by
  decide +kernel

/-- Row `s` of the halo: eight rows per sequence, the last two of them the sequence's rows of `p`, the rest zero. -/
def hal (p : FVec Ideal S16x2x512 .f32) (s : Fin 128) (l : Fin 512) : EReal :=
  if s.val % 8 < 6 then 0 else p (ix3 ⟨s.val / 8, by omega⟩ ⟨s.val % 8 - 6, by omega⟩ l)

/-- A kept row of the halo is a row of `p`. -/
theorem hal_eq (p : FVec Ideal S16x2x512 .f32) (s : Fin 128) (l : Fin 512) (n : Fin 16) (k : Fin 2) (h : s.val / 8 = n.val) (h' : s.val % 8 = k.val + 6) :
    hal p s l = p (ix3 n k l) := by
  unfold hal
  rw [if_neg (by omega)]
  refine congrArg p ?_
  have e : (⟨s.val / 8, by omega⟩ : Fin 16) = n := Fin.ext h
  have e' : (⟨s.val % 8 - 6, by omega⟩ : Fin 2) = k := Fin.ext (by dsimp only; omega)
  rw [e, e']

/-- The halo the host builds is `hal` of the kept rows. -/
theorem V_halo (m : (ℓ : Loc nD τ sig) → Buf (Elt Ideal) ℓ) (c : Dev nD) (s : Fin 128) (l : Fin 512) :
   (V m c main_v14 : FVec Ideal S1x128x512 .f32) (ix3 0 s l) = hal (m (c.tc.loc main_arg10)) s l := by
  unfold V hal
  after_reads_at
  have ep : ∀ (a b : Fin 16) (i j : Fin 2), a.val = b.val → i.val = j.val → (m (c.tc.loc main_arg10) : FVec Ideal S16x2x512 .f32) (ix3 a i l) = (m (c.tc.loc main_arg10) : FVec Ideal S16x2x512 .f32) (ix3 b j l) := fun a b i j h h' => by rw [Fin.ext h, Fin.ext h']
  by_cases hs : s.val % 8 < 6
  · refine Eq.trans ?_ (if_pos hs).symm
    split_ifs with h <;> first | exact absurd (show s.val % 64 % 8 < 6 by omega) h | after_reads_at
  · refine Eq.trans ?_ (if_neg hs).symm
    split_ifs with h <;> first | exact absurd h (by omega) | (after_reads_at; refine ep _ _ _ _ ?_ ?_ <;> dsimp only <;> omega)

/-- A row vector times a block, at an index. -/
def mulRow (w : FVec Ideal S1x512 .f32) (u : FVec Ideal S512x512 .f32) (y : S512x512.Idx) : EReal := w (ix2 0 (y 1)) * u y

/-- A select on the equality of two small index words is an `if`. -/
theorem sel (n k : ℕ) (hn : n < 2 ^ 32) (hk : k < 2 ^ 32) (a b : EReal) :
    Scalar.select (IntOp.cmpi .eq (BitVec.ofNat 32 n) (BitVec.ofNat 32 k)) a b = if n = k then a else b := by
  rw [WordCmp.cmpi_eq_ofNat hn hk, WordCmp.select_ofBool]
  simp only [decide_eq_true_eq]

/-- An `if` equals what both its cases equal. -/
theorem ite_step {q : Prop} [Decidable q] {a b z : EReal} (h : q → a = z) (h' : ¬q → b = z) : (if q then a else b) = z := by
  by_cases hq : q
  · exact (if_pos hq).trans (h hq)
  · exact (if_neg hq).trans (h' hq)

/-- A row below 512 begins a sequence of 32 or is past its first row. -/
theorem rows_one : ∀ n < 512, n = 0 ∨ n = 32 ∨ n = 64 ∨ n = 96 ∨ n = 128 ∨ n = 160 ∨ n = 192 ∨ n = 224 ∨ n = 256 ∨ n = 288 ∨ n = 320 ∨ n = 352 ∨ n = 384 ∨ n = 416 ∨ n = 448 ∨ n = 480 ∨ 1 ≤ n % 32 := by
  decide +kernel

set_option synthInstance.maxSize 4096 in
set_option synthInstance.maxHeartbeats 400000 in
/-- A row below 512 is one of the first two of a sequence of 32 or is past them. -/
theorem rows_two : ∀ n < 512, n = 0 ∨ n = 1 ∨ n = 32 ∨ n = 33 ∨ n = 64 ∨ n = 65 ∨ n = 96 ∨ n = 97 ∨ n = 128 ∨ n = 129 ∨ n = 160 ∨ n = 161 ∨ n = 192 ∨ n = 193 ∨ n = 224 ∨ n = 225 ∨ n = 256 ∨ n = 257 ∨ n = 288 ∨ n = 289 ∨ n = 320 ∨ n = 321 ∨ n = 352 ∨ n = 353 ∨ n = 384 ∨ n = 385 ∨ n = 416 ∨ n = 417 ∨ n = 448 ∨ n = 449 ∨ n = 480 ∨ n = 481 ∨ 2 ≤ n % 32 := by
  decide +kernel

set_option maxHeartbeats 4000000 in
/-- The kernel's convolution of the block. -/
theorem convK (m : (ℓ : Loc nD τ sig) → Buf (Elt Ideal) ℓ) (c : Dev nD) (t : Fin grid0.N) (y : S512x512.Idx) :
    k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y + mulRow (View.ld (iblk m c 7 t) r0_7) (iblk m c 2 t) y
     = convAt (m (c.tc.loc main_arg2)) (m (c.tc.loc main_arg6)) (m (c.tc.loc main_arg10)) ((grid0.coords t 0).val * 512 + (y 0).val) (by have h1 : (y 0).val < 512 := (y 0).isLt; have h2 : (grid0.coords t 0).val < 1 := (grid0.coords t 0).isLt; omega) (y 1) := by
  pointwise [k0_pay59, k0_pay58, k0_pay57, k0_pay54, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, mulRow, convAt]
  have hy : (y 0).val < 512 := (y 0).isLt
  have ht : (grid0.coords t 0).val < 1 := (grid0.coords t 0).isLt
  have hw : ∀ k, iblk m c 7 t (ix2 k (y 1)) = m (c.tc.loc main_arg6) (ix2 k (y 1)) := by
    intro k
    blk_point [iblk, V, idx t]
  have hu : ∀ r : Fin 512, iblk m c 2 t (ix2 r (y 1)) = m (c.tc.loc main_arg2) (ix2 ⟨(grid0.coords t 0).val * 512 + r.val, by omega⟩ (y 1)) := by
    intro r
    blk_point [iblk, V, idx t]
  have hu' : iblk m c 2 t y = m (c.tc.loc main_arg2) y := by
    blk_point [iblk, V, idx t]
  have hh : ∀ s : Fin 128, iblk m c 3 t (ix3 0 s (y 1)) = hal (m (c.tc.loc main_arg10)) s (y 1) := by
    intro s
    refine Eq.trans ?_ (V_halo m c s (y 1))
    blk_simp [iblk, idx t]
    blk_ext [idx t]
  rw [hu']
  simp only [hw, hu, hh,
    sel _ _ (show (y 0).val < 2 ^ 32 by omega) (show 0 < 2 ^ 32 by omega),
    sel _ _ (show (y 0).val < 2 ^ 32 by omega) (show 1 < 2 ^ 32 by omega),
    sel _ _ (show (y 0).val < 2 ^ 32 by omega) (show 32 < 2 ^ 32 by omega),
    sel _ _ (show (y 0).val < 2 ^ 32 by omega) (show 33 < 2 ^ 32 by omega),
    sel _ _ (show (y 0).val < 2 ^ 32 by omega) (show 64 < 2 ^ 32 by omega),
    sel _ _ (show (y 0).val < 2 ^ 32 by omega) (show 65 < 2 ^ 32 by omega),
    sel _ _ (show (y 0).val < 2 ^ 32 by omega) (show 96 < 2 ^ 32 by omega),
    sel _ _ (show (y 0).val < 2 ^ 32 by omega) (show 97 < 2 ^ 32 by omega),
    sel _ _ (show (y 0).val < 2 ^ 32 by omega) (show 128 < 2 ^ 32 by omega),
    sel _ _ (show (y 0).val < 2 ^ 32 by omega) (show 129 < 2 ^ 32 by omega),
    sel _ _ (show (y 0).val < 2 ^ 32 by omega) (show 160 < 2 ^ 32 by omega),
    sel _ _ (show (y 0).val < 2 ^ 32 by omega) (show 161 < 2 ^ 32 by omega),
    sel _ _ (show (y 0).val < 2 ^ 32 by omega) (show 192 < 2 ^ 32 by omega),
    sel _ _ (show (y 0).val < 2 ^ 32 by omega) (show 193 < 2 ^ 32 by omega),
    sel _ _ (show (y 0).val < 2 ^ 32 by omega) (show 224 < 2 ^ 32 by omega),
    sel _ _ (show (y 0).val < 2 ^ 32 by omega) (show 225 < 2 ^ 32 by omega),
    sel _ _ (show (y 0).val < 2 ^ 32 by omega) (show 256 < 2 ^ 32 by omega),
    sel _ _ (show (y 0).val < 2 ^ 32 by omega) (show 257 < 2 ^ 32 by omega),
    sel _ _ (show (y 0).val < 2 ^ 32 by omega) (show 288 < 2 ^ 32 by omega),
    sel _ _ (show (y 0).val < 2 ^ 32 by omega) (show 289 < 2 ^ 32 by omega),
    sel _ _ (show (y 0).val < 2 ^ 32 by omega) (show 320 < 2 ^ 32 by omega),
    sel _ _ (show (y 0).val < 2 ^ 32 by omega) (show 321 < 2 ^ 32 by omega),
    sel _ _ (show (y 0).val < 2 ^ 32 by omega) (show 352 < 2 ^ 32 by omega),
    sel _ _ (show (y 0).val < 2 ^ 32 by omega) (show 353 < 2 ^ 32 by omega),
    sel _ _ (show (y 0).val < 2 ^ 32 by omega) (show 384 < 2 ^ 32 by omega),
    sel _ _ (show (y 0).val < 2 ^ 32 by omega) (show 385 < 2 ^ 32 by omega),
    sel _ _ (show (y 0).val < 2 ^ 32 by omega) (show 416 < 2 ^ 32 by omega),
    sel _ _ (show (y 0).val < 2 ^ 32 by omega) (show 417 < 2 ^ 32 by omega),
    sel _ _ (show (y 0).val < 2 ^ 32 by omega) (show 448 < 2 ^ 32 by omega),
    sel _ _ (show (y 0).val < 2 ^ 32 by omega) (show 449 < 2 ^ 32 by omega),
    sel _ _ (show (y 0).val < 2 ^ 32 by omega) (show 480 < 2 ^ 32 by omega),
    sel _ _ (show (y 0).val < 2 ^ 32 by omega) (show 481 < 2 ^ 32 by omega)]
  have eu : ∀ a b : Fin 512, a.val = b.val → (m (c.tc.loc main_arg2) : FVec Ideal S512x512 .f32) (ix2 a (y 1)) = (m (c.tc.loc main_arg2) : FVec Ideal S512x512 .f32) (ix2 b (y 1)) := fun a b h => by rw [Fin.ext h]
  refine congrArg₂ (· + ·) (congrArg₂ (· + ·) (congrArg _ ?_) (congrArg _ ?_)) rfl
  · iterate 32 refine ite_step (fun h => (hal_eq _ _ _ _ _ (by (try dsimp only); first | rfl | (rw [h]; done) | (rw [h]; rfl)) (by (try dsimp only); first | rfl | (rw [h]; done) | (rw [h]; rfl))).trans (if_neg (by omega)).symm) (fun _ => ?_)
    have e : 2 ≤ (y 0).val % 32 := (((((((((((((((((((((((((((((((((rows_two _ hy).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption))
    refine (eu _ ⟨(y 0).val - 2, by omega⟩ ?_).trans (if_pos e).symm
    dsimp only
    omega
  · iterate 16 refine ite_step (fun h => (hal_eq _ _ _ _ _ (by (try dsimp only); first | rfl | (rw [h]; done) | (rw [h]; rfl)) (by (try dsimp only); first | rfl | (rw [h]; done) | (rw [h]; rfl))).trans (if_neg (by omega)).symm) (fun _ => ?_)
    have e : 1 ≤ (y 0).val % 32 := (((((((((((((((((rows_one _ hy).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption)).resolve_left (by assumption))
    refine (eu _ ⟨(y 0).val - 1, by omega⟩ ?_).trans (if_pos e).symm
    dsimp only
    omega

end

end Cert.Proof.SMix

end
-- ==== Proof.My.SMixValue.lean ====
module

public import proofs.«01_k».proof.Defs
public import proofs.«01_k».proof.Proof.Gen.SMixIdeal.Value
public import proofs.«01_k».proof.Proof.Gen.SMixRefIdeal.Run
public import proofs.«01_k».proof.Proof.My.SMixConv
public import Idealize.ShloMosaic.Lib.Claim
public import Idealize.ShloMosaic.Lib.Pointwise
public import Idealize.ShloMosaic.Lib.Quiescent
public import Idealize.ShloMosaic.Lib.Pipeline.ValueKit

@[expose] public section

set_option maxRecDepth 16384

noncomputable section

namespace Cert.Proof.SMix

open Idealize.ShloMosaic Idealize.ShloMosaic.TcCoe Idealize.SL.Sem

section
open Cert.SMixRefIdeal Cert.SMixRefIdeal.Gen

/-- The reference's rms norm of every row, before its weight. -/
def rmsRef (x : FVec Ideal S512x1024 .f32) : FVec Ideal S512x1024 .f32 :=
  mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))

/-- The first norm with its weight. -/
def normRef (x : FVec Ideal S512x1024 .f32) (l : FVec Ideal S4x1024 .f32) : FVec Ideal S512x1024 .f32 :=
  mulf (rmsRef x) (broadcastInDim S512x1024 ![0, 1] bcast_S1x1024_S512x1024_0_1 (broadcastInDim S1x1024 ![1] bcast_S1024_S1x1024_1 (shapeCast _ (extractStridedSlice S1x1024 ![0, 0] l slices_S4x1024_S1x1024_0_0) shapeCasts_S1x1024_S1024)))

/-- The two gates before their sigmoid. -/
def gateA (x : FVec Ideal S512x1024 .f32) (l : FVec Ideal S4x1024 .f32) (w : FVec Ideal S1024x4676 .f32) : FVec Ideal S512x1024 .f32 :=
  Host.dotGeneral dot_S512x1024_S1024x1024_S512x1024_1_0_0_1_n_n none (normRef x l) (extractStridedSlice S1024x1024 ![0, 2628] w slices_S1024x4676_S1024x1024_0_2628)

@[inherit_doc gateA]
def gateC (x : FVec Ideal S512x1024 .f32) (l : FVec Ideal S4x1024 .f32) (w : FVec Ideal S1024x4676 .f32) : FVec Ideal S512x1024 .f32 :=
  Host.dotGeneral dot_S512x1024_S1024x1024_S512x1024_1_0_0_1_n_n none (normRef x l) (extractStridedSlice S1024x1024 ![0, 3652] w slices_S1024x4676_S1024x1024_0_3652)

/-- The attention's part before its gate. -/
def attnRef (a : FVec Ideal S512x512 .bf16) (w : FVec Ideal S512x1024 .f32) : FVec Ideal S512x1024 .f32 :=
  Host.dotGeneral dot_S512x512_S512x1024_S512x1024_1_0_0_1_n_n none (extf .f32 a bitsLt_bf16_f32) w

/-- The reference's sigmoid. -/
def sigRef (d : FVec Ideal S512x1024 .f32) : FVec Ideal S512x1024 .f32 :=
  Host.divf (broadcastInDim S512x1024 ![] bcast_S_S512x1024 (constant S_ .f32 0x3F800000#32)) (addf (broadcastInDim S512x1024 ![] bcast_S_S512x1024 (constant S_ .f32 0x3F800000#32)) (Host.exp (Host.negf d)))

/-- The gated sum of the two parts through the last weight. -/
def mixRef (d1 d2 a : FVec Ideal S512x1024 .f32) (g cv : FVec Ideal S512x512 .f32) (w8 : FVec Ideal S512x1024 .f32) (w9 : FVec Ideal S1024x1024 .f32) : FVec Ideal S512x1024 .f32 :=
  Host.dotGeneral dot_S512x1024_S1024x1024_S512x1024_1_0_0_1_n_n none (addf (mulf (sigRef d1) a) (mulf (sigRef d2) (Host.dotGeneral dot_S512x512_S512x1024_S512x1024_1_0_0_1_n_n none (mulf g cv) w8))) w9

/-- The residual sum with the second norm. -/
def outRef (x z : FVec Ideal S512x1024 .f32) (l : FVec Ideal S4x1024 .f32) : FVec Ideal S512x1024 .f32 :=
  addf x (mulf (rmsRef z) (broadcastInDim S512x1024 ![0, 1] bcast_S1x1024_S512x1024_0_1 (broadcastInDim S1x1024 ![1] bcast_S1024_S1x1024_1 (shapeCast _ (extractStridedSlice S1x1024 ![1, 0] l slices_S4x1024_S1x1024_1_0) shapeCasts_S1x1024_S1024))))

set_option maxHeartbeats 1000000 in
/-- The reference's result by its stages. -/
theorem res_stages (m : (ℓ : Loc nD τ sig) → Buf (Elt Ideal) ℓ) (c : Dev nD) (x : FVec Ideal S512x1024 .f32) (a : FVec Ideal S512x512 .bf16) (u g : FVec Ideal S512x512 .f32)
    (l : FVec Ideal S4x1024 .f32) (w : FVec Ideal S1024x4676 .f32) (cw : FVec Ideal S3x512 .f32) (w7 w8 : FVec Ideal S512x1024 .f32) (w9 : FVec Ideal S1024x1024 .f32) (p : FVec Ideal S16x2x512 .f32)
    (h0 : m ((c.tc : Thread nD τ).loc main_arg0) = x) (h1 : m ((c.tc : Thread nD τ).loc main_arg1) = a) (h2 : m ((c.tc : Thread nD τ).loc main_arg2) = u) (h3 : m ((c.tc : Thread nD τ).loc main_arg3) = g)
    (h4 : m ((c.tc : Thread nD τ).loc main_arg4) = l) (h5 : m ((c.tc : Thread nD τ).loc main_arg5) = w) (h6 : m ((c.tc : Thread nD τ).loc main_arg6) = cw)
    (h7 : m ((c.tc : Thread nD τ).loc main_arg7) = w7) (h8 : m ((c.tc : Thread nD τ).loc main_arg8) = w8) (h9 : m ((c.tc : Thread nD τ).loc main_arg9) = w9) (h10 : m ((c.tc : Thread nD τ).loc main_arg10) = p) :
    Cert.SMixRefIdeal.Value.res_main_v79 m c = outRef x (mixRef (gateA x l w) (gateC x l w) (attnRef a w7) g (convRef u cw p) w8 w9) l := by
  subst h0 h1 h2 h3 h4 h5 h6 h7 h8 h9 h10
  unfold Cert.SMixRefIdeal.Value.res_main_v79 outRef mixRef rmsRef gateA gateC attnRef sigRef normRef rmsRef convRef
  rfl

end

section
open Cert.SMixIdeal Cert.SMixIdeal.Gen
open Idealize.ShloMosaic.Pipeline (Dat)

/-- The row of the whole array that row `r` of block `t` is. -/
def row (t : Fin grid0.N) (r : Fin 512) : Fin 512 :=
  ⟨(grid0.coords t 0).val * 512 + r.val, by have h2 : (grid0.coords t 0).val < 1 := (grid0.coords t 0).isLt; omega⟩

/-- The first gate of a block of rows, before its sigmoid. -/
theorem gateA_block (m : (ℓ : Loc nD τ sig) → Buf (Elt Ideal) ℓ) (c : Dev nD) (t : Fin grid0.N) (r : Fin 512) (k : Fin 1024) :
    k0_pay2 (iblk m c 0 t) (iblk m c 5 t) (iblk m c 8 t) (ix2 r ⟨k.val, by omega⟩) = gateA (m (c.tc.loc main_arg0)) (m (c.tc.loc main_arg4)) (m (c.tc.loc main_arg5)) (ix2 (row t r) k) := by
  pointwise [k0_pay2, gateA, normRef, rmsRef, row]
  blk_point [iblk, V, idx t]

/-- The second gate of a block of rows, before its sigmoid. -/
theorem gateC_block (m : (ℓ : Loc nD τ sig) → Buf (Elt Ideal) ℓ) (c : Dev nD) (t : Fin grid0.N) (r : Fin 512) (k : Fin 1024) :
    k0_pay2 (iblk m c 0 t) (iblk m c 5 t) (iblk m c 8 t) (ix2 r ⟨1024 + k.val, by omega⟩) = gateC (m (c.tc.loc main_arg0)) (m (c.tc.loc main_arg4)) (m (c.tc.loc main_arg5)) (ix2 (row t r) k) := by
  pointwise [k0_pay2, gateC, normRef, rmsRef, row]
  blk_point [iblk, V, idx t]

/-- The attention's part of a block of rows. -/
theorem attn_block (m : (ℓ : Loc nD τ sig) → Buf (Elt Ideal) ℓ) (c : Dev nD) (t : Fin grid0.N) (r : Fin 512) (k : Fin 1024) :
    k0_pay3 (iblk m c 1 t) (iblk m c 9 t) (ix2 r k) = attnRef (m (c.tc.loc main_arg1)) (m (c.tc.loc main_arg7)) (ix2 (row t r) k) := by
  pointwise [k0_pay3, attnRef, row]
  blk_point [iblk, V, idx t]

/-- One row of the gated sum through the last weight, from equal rows of its operands. -/
theorem mix_row (v18 : FVec Ideal S512x2048 .f32) (v22 : FVec Ideal S512x1024 .f32) (v23 v403 : FVec Ideal S512x512 .f32) (v404 : FVec Ideal S1x512 .f32) (v408 : FVec Ideal S512x512 .f32) (v411 : FVec Ideal S512x1024 .bf16) (v434 : FVec Ideal S1024x1024 .bf16)
    (d1 d2 a : FVec Ideal Cert.SMixRefIdeal.S512x1024 .f32) (g cv : FVec Ideal Cert.SMixRefIdeal.S512x512 .f32) (w8 : FVec Ideal Cert.SMixRefIdeal.S512x1024 .f32) (w9 : FVec Ideal Cert.SMixRefIdeal.S1024x1024 .f32)
    (r : Fin 512) (n : Fin 512) (k : Fin 1024)
    (h1 : ∀ k : Fin 1024, v18 (ix2 r ⟨k.val, by omega⟩) = d1 (ix2 n k)) (h2 : ∀ k : Fin 1024, v18 (ix2 r ⟨1024 + k.val, by omega⟩) = d2 (ix2 n k))
    (h3 : ∀ k, v22 (ix2 r k) = a (ix2 n k)) (h4 : ∀ k, v403 (ix2 r k) + v404 (ix2 0 k) * v23 (ix2 r k) = cv (ix2 n k)) (h5 : ∀ k, v408 (ix2 r k) = g (ix2 n k))
    (h6 : ∀ j k, v411 (ix2 j k) = w8 (ix2 j k)) (h7 : ∀ j k, v434 (ix2 j k) = w9 (ix2 j k)) :
    k0_pay51 v18 v22 v23 v403 v404 v408 v411 v434 (ix2 r k) = mixRef d1 d2 a g cv w8 w9 (ix2 n k) := by
  pointwise [k0_pay51, mixRef, sigRef]
  simp only [h1, h2, h3, h4, h5, h6, h7, zero_sub]

/-- One row of the result, from equal rows of its operands. -/
theorem out_row (x : FVec Ideal S512x1024 .f32) (v115 : FVec Ideal S1x1024 .f32)
    (v18 : FVec Ideal S512x2048 .f32) (v22 : FVec Ideal S512x1024 .f32) (v23 v403 : FVec Ideal S512x512 .f32) (v404 : FVec Ideal S1x512 .f32) (v408 : FVec Ideal S512x512 .f32) (v411 : FVec Ideal S512x1024 .bf16) (v434 : FVec Ideal S1024x1024 .bf16)
    (X z : FVec Ideal Cert.SMixRefIdeal.S512x1024 .f32) (l : FVec Ideal Cert.SMixRefIdeal.S4x1024 .f32)
    (r : Fin 512) (n : Fin 512) (k : Fin 1024)
    (h1 : ∀ k, x (ix2 r k) = X (ix2 n k)) (h2 : ∀ k, v115 (ix2 0 k) = l (ix2 1 k))
    (h3 : ∀ k, k0_pay51 v18 v22 v23 v403 v404 v408 v411 v434 (ix2 r k) = z (ix2 n k)) :
    k0_pay1 x (k0_pay51 v18 v22 v23 v403 v404 v408 v411 v434) (k0_pay52 v115) (k0_pay53 v18 v22 v23 v403 v404 v408 v411 v434) (Scalar.ofBits .f32 0x358637BD#32) (ix2 r k) = outRef X z l (ix2 n k) := by
  pointwise [k0_pay1, k0_pay52, k0_pay53, outRef, rmsRef]
  simp only [h1, h2, h3]

set_option maxHeartbeats 400000 in
/-- The array the call leaves is the reference's result. -/
theorem value (m : (ℓ : Loc nD τ sig) → Buf (Elt Ideal) ℓ) (m' : (ℓ : Loc Cert.SMixRefIdeal.nD Cert.SMixRefIdeal.τ Cert.SMixRefIdeal.sig) → Buf (Elt Ideal) ℓ) (c : Dev nD)
   (h0 : m' ((c.tc : Thread Cert.SMixRefIdeal.nD Cert.SMixRefIdeal.τ).loc Cert.SMixRefIdeal.main_arg0) = m ((c.tc : Thread nD τ).loc main_arg0))
   (h1 : m' ((c.tc : Thread Cert.SMixRefIdeal.nD Cert.SMixRefIdeal.τ).loc Cert.SMixRefIdeal.main_arg1) = m ((c.tc : Thread nD τ).loc main_arg1))
   (h2 : m' ((c.tc : Thread Cert.SMixRefIdeal.nD Cert.SMixRefIdeal.τ).loc Cert.SMixRefIdeal.main_arg2) = m ((c.tc : Thread nD τ).loc main_arg2))
   (h3 : m' ((c.tc : Thread Cert.SMixRefIdeal.nD Cert.SMixRefIdeal.τ).loc Cert.SMixRefIdeal.main_arg3) = m ((c.tc : Thread nD τ).loc main_arg3))
   (h4 : m' ((c.tc : Thread Cert.SMixRefIdeal.nD Cert.SMixRefIdeal.τ).loc Cert.SMixRefIdeal.main_arg4) = m ((c.tc : Thread nD τ).loc main_arg4))
   (h5 : m' ((c.tc : Thread Cert.SMixRefIdeal.nD Cert.SMixRefIdeal.τ).loc Cert.SMixRefIdeal.main_arg5) = m ((c.tc : Thread nD τ).loc main_arg5))
   (h6 : m' ((c.tc : Thread Cert.SMixRefIdeal.nD Cert.SMixRefIdeal.τ).loc Cert.SMixRefIdeal.main_arg6) = m ((c.tc : Thread nD τ).loc main_arg6))
   (h7 : m' ((c.tc : Thread Cert.SMixRefIdeal.nD Cert.SMixRefIdeal.τ).loc Cert.SMixRefIdeal.main_arg7) = m ((c.tc : Thread nD τ).loc main_arg7))
   (h8 : m' ((c.tc : Thread Cert.SMixRefIdeal.nD Cert.SMixRefIdeal.τ).loc Cert.SMixRefIdeal.main_arg8) = m ((c.tc : Thread nD τ).loc main_arg8))
   (h9 : m' ((c.tc : Thread Cert.SMixRefIdeal.nD Cert.SMixRefIdeal.τ).loc Cert.SMixRefIdeal.main_arg9) = m ((c.tc : Thread nD τ).loc main_arg9))
   (h10 : m' ((c.tc : Thread Cert.SMixRefIdeal.nD Cert.SMixRefIdeal.τ).loc Cert.SMixRefIdeal.main_arg10) = m ((c.tc : Thread nD τ).loc main_arg10)) :
    (dats m 0 c).arrAt 12 cfg0.N = Cert.SMixRefIdeal.Value.res_out0 m' c := by
  refine (dats m 0 c).arrAt_eq_of_covers 12 _ (by decide +kernel) fun t hf y => ?_
  obtain ⟨r, k, rfl⟩ : ∃ (r : Fin 512) (k : Fin 1024), y = ix2 r k := ⟨y 0, y 1, by funext a; fin_cases a <;> rfl⟩
  blk_simp
  rw [after0_12]
  frame_out
  rw [Cert.SMixRefIdeal.Value.res_out0, res_stages m' c _ _ _ _ _ _ _ _ _ _ _ h0 h1 h2 h3 h4 h5 h6 h7 h8 h9 h10]
  have e16 := gateA_block m c t r
  have e17 := gateC_block m c t r
  have e18 := attn_block m c t r
  have e19 : ∀ j : Fin 512, k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) + mulRow (View.ld (iblk m c 7 t) r0_7) (iblk m c 2 t) (ix2 r j)
      = convRef (m (c.tc.loc main_arg2)) (m (c.tc.loc main_arg6)) (m (c.tc.loc main_arg10)) (ix2 (row t r) j) := fun j =>
    (convK m c t (ix2 r j)).trans (convRef_apply _ _ _ (ix2 (row t r) j)).symm
  have eg : ∀ j, iblk m c 4 t (ix2 r j) = m (c.tc.loc main_arg3) (ix2 (row t r) j) := by
    intro j
    simp only [row]
    blk_point [iblk, V, idx t]
  have e8 : ∀ i j, iblk m c 10 t (ix2 i j) = m (c.tc.loc main_arg8) (ix2 i j) := by
    intro i j
    blk_point [iblk, V, idx t]
  have e9 : ∀ i j, iblk m c 11 t (ix2 i j) = m (c.tc.loc main_arg9) (ix2 i j) := by
    intro i j
    blk_point [iblk, V, idx t]
  have ex : ∀ j, iblk m c 0 t (ix2 r j) = m (c.tc.loc main_arg0) (ix2 (row t r) j) := by
    intro j
    simp only [row]
    blk_point [iblk, V, idx t]
  have el : ∀ j, iblk m c 6 t (ix2 0 j) = m (c.tc.loc main_arg4) (ix2 1 j) := by
    intro j
    blk_point [iblk, V, idx t]
  have ei : (((View.whole main_v15).slice (win0_12.rect t)).emb (ix2 r k)) = ix2 (row t r) k := by
    simp only [row]
    blk_ext [idx t]
  rw [ei]
  rw [show k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = k0_pay2 (iblk m c 0 t) (iblk m c 5 t) (iblk m c 8 t) by unfold k0_pay55; frame_out]
  rw [show k0_pay56 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = k0_pay3 (iblk m c 1 t) (iblk m c 9 t) by unfold k0_pay56; frame_out]
  generalize k0_pay2 (iblk m c 0 t) (iblk m c 5 t) (iblk m c 8 t) = v18 at *
  generalize k0_pay3 (iblk m c 1 t) (iblk m c 9 t) = v22 at *
  generalize k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = v403 at *
  exact out_row _ _ v18 v22 _ v403 _ _ _ _ _ _ _ r (row t r) k ex el fun j => mix_row v18 v22 _ v403 _ _ _ _ _ _ _ _ _ _ _ r (row t r) j e16 e17 e18 e19 eg e8 e9

/-- Every run of the kernel's call and of the reference leaves the same array. -/
theorem algebraic : Cert.algebraic_SMixIdeal_SMixRefIdeal := by
  pair_intro
  · run_from (Cert.SMixIdeal.Value.run_blocks m g)
  · run_from (Cert.SMixRefIdeal.Value.run m' g')
    obtain ⟨h0, h1, h2, h3, h4, h5, h6, h7, h8, h9, h10⟩ := hagree c
    exact (value m m' c h0 h1 h2 h3 h4 h5 h6 h7 h8 h9 h10).symm

/-- The reference runs to its end, keeps its arguments and leaves no semaphore raised. -/
theorem reference_frame : Cert.quiescent_SMixRefIdeal := fun m ρ _ =>
  (θ_run Cert.SMixRefIdeal.defs _ _).mono
    (fun r h => ⟨fun c => (h c).2, Idealize.ShloMosaic.sem_eq_zero_of_no_sems (by decide) r.2⟩)
    (Cert.SMixRefIdeal.Value.run (F := Ideal) m ρ)

end

end Cert.Proof.SMix

end
-- ==== Proof.My.ProjRope.lean ====
module

public import proofs.«01_k».proof.Defs
public import proofs.«01_k».proof.Proof.Gen.ProjIdeal.Value
public import proofs.«01_k».proof.Proof.Gen.ProjRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof.Proj

open Idealize.ShloMosaic Idealize.ShloMosaic.TcCoe Idealize.SL.Sem

/-- A function of the first `n` numbers is one of all numbers. -/
theorem natFun1 {n : ℕ} (f : Fin n → EReal) : ∃ g : ℕ → EReal, ∀ (i : ℕ) (h : i < n), f ⟨i, h⟩ = g i :=
  ⟨fun i => if h : i < n then f ⟨i, h⟩ else 0, fun i h => by simp only [h, dif_pos]⟩

/-- Equal products of two readings, subtracted. -/
theorem sub_eq {f g e : ℕ → EReal} {a b c d a' b' c' d' : ℕ} (ha : a = a') (hb : b = b') (hc : c = c') (hd : d = d') :
    f a * g b - f c * e d = f a' * g b' - f c' * e d' := by subst ha hb hc hd; rfl

/-- Equal products of two readings, added. -/
theorem add_eq {f g e : ℕ → EReal} {a b c d a' b' c' d' : ℕ} (ha : a = a') (hb : b = b') (hc : c = c') (hd : d = d') :
    f a * g b + f c * e d = f a' * g b' + f c' * e d' := by subst ha hb hc hd; rfl

section
open Cert.ProjRefIdeal Cert.ProjRefIdeal.Gen

/-- The reference's rotation of the key heads. -/
def ropeK (z : FVec Ideal S33792x2x64 .f32) (cs sn : FVec Ideal S33792x1x8 .f32) : FVec Ideal S33792x2x64 .f32 :=
  concatenate S33792x2x64 2 [⟨S33792x2x16, (concatenate S33792x2x16 2 [⟨S33792x2x8, (subf (mulf (extractStridedSlice S33792x2x8 ![0, 0, 0] z slices_S33792x2x64_S33792x2x8_0_0_0) (broadcastInDim S33792x2x8 ![0, 1, 2] bcast_S33792x1x8_S33792x2x8_0_1_2 cs)) (mulf (extractStridedSlice S33792x2x8 ![0, 0, 8] z slices_S33792x2x64_S33792x2x8_0_0_8) (broadcastInDim S33792x2x8 ![0, 1, 2] bcast_S33792x1x8_S33792x2x8_0_1_2 sn)))⟩, ⟨S33792x2x8, (addf (mulf (extractStridedSlice S33792x2x8 ![0, 0, 8] z slices_S33792x2x64_S33792x2x8_0_0_8) (broadcastInDim S33792x2x8 ![0, 1, 2] bcast_S33792x1x8_S33792x2x8_0_1_2 cs)) (mulf (extractStridedSlice S33792x2x8 ![0, 0, 0] z slices_S33792x2x64_S33792x2x8_0_0_0) (broadcastInDim S33792x2x8 ![0, 1, 2] bcast_S33792x1x8_S33792x2x8_0_1_2 sn)))⟩] concatenates_S33792x2x8_S33792x2x8_S33792x2x16_d2)⟩, ⟨S33792x2x48, (extractStridedSlice S33792x2x48 ![0, 0, 16] z slices_S33792x2x64_S33792x2x48_0_0_16)⟩] concatenates_S33792x2x16_S33792x2x48_S33792x2x64_d2

/-- The reference's rotation of the query heads. -/
def ropeQ (z : FVec Ideal S33792x8x64 .f32) (cs sn : FVec Ideal S33792x1x8 .f32) : FVec Ideal S33792x8x64 .f32 :=
  concatenate S33792x8x64 2 [⟨S33792x8x16, (concatenate S33792x8x16 2 [⟨S33792x8x8, (subf (mulf (extractStridedSlice S33792x8x8 ![0, 0, 0] z slices_S33792x8x64_S33792x8x8_0_0_0) (broadcastInDim S33792x8x8 ![0, 1, 2] bcast_S33792x1x8_S33792x8x8_0_1_2 cs)) (mulf (extractStridedSlice S33792x8x8 ![0, 0, 8] z slices_S33792x8x64_S33792x8x8_0_0_8) (broadcastInDim S33792x8x8 ![0, 1, 2] bcast_S33792x1x8_S33792x8x8_0_1_2 sn)))⟩, ⟨S33792x8x8, (addf (mulf (extractStridedSlice S33792x8x8 ![0, 0, 8] z slices_S33792x8x64_S33792x8x8_0_0_8) (broadcastInDim S33792x8x8 ![0, 1, 2] bcast_S33792x1x8_S33792x8x8_0_1_2 cs)) (mulf (extractStridedSlice S33792x8x8 ![0, 0, 0] z slices_S33792x8x64_S33792x8x8_0_0_0) (broadcastInDim S33792x8x8 ![0, 1, 2] bcast_S33792x1x8_S33792x8x8_0_1_2 sn)))⟩] concatenates_S33792x8x8_S33792x8x8_S33792x8x16_d2)⟩, ⟨S33792x8x48, (extractStridedSlice S33792x8x48 ![0, 0, 16] z slices_S33792x8x64_S33792x8x48_0_0_16)⟩] concatenates_S33792x8x16_S33792x8x48_S33792x8x64_d2

/-- The reference's scale of the rotated queries. -/
def scaleQ (z : FVec Ideal S33792x8x64 .f32) : FVec Ideal S33792x8x64 .f32 :=
  mulf z (broadcastInDim S33792x8x64 ![] bcast_S_S33792x8x64 (constant S_ .f32 0x3FB8AA3B#32))

/-- The reference's rotation of the indexer's query heads. -/
def ropeI (z : FVec Ideal S33792x4x64 .f32) (cs sn : FVec Ideal S33792x1x8 .f32) : FVec Ideal S33792x4x64 .f32 :=
  concatenate S33792x4x64 2 [⟨S33792x4x16, (concatenate S33792x4x16 2 [⟨S33792x4x8, (subf (mulf (extractStridedSlice S33792x4x8 ![0, 0, 0] z slices_S33792x4x64_S33792x4x8_0_0_0) (broadcastInDim S33792x4x8 ![0, 1, 2] bcast_S33792x1x8_S33792x4x8_0_1_2 cs)) (mulf (extractStridedSlice S33792x4x8 ![0, 0, 8] z slices_S33792x4x64_S33792x4x8_0_0_8) (broadcastInDim S33792x4x8 ![0, 1, 2] bcast_S33792x1x8_S33792x4x8_0_1_2 sn)))⟩, ⟨S33792x4x8, (addf (mulf (extractStridedSlice S33792x4x8 ![0, 0, 8] z slices_S33792x4x64_S33792x4x8_0_0_8) (broadcastInDim S33792x4x8 ![0, 1, 2] bcast_S33792x1x8_S33792x4x8_0_1_2 cs)) (mulf (extractStridedSlice S33792x4x8 ![0, 0, 0] z slices_S33792x4x64_S33792x4x8_0_0_0) (broadcastInDim S33792x4x8 ![0, 1, 2] bcast_S33792x1x8_S33792x4x8_0_1_2 sn)))⟩] concatenates_S33792x4x8_S33792x4x8_S33792x4x16_d2)⟩, ⟨S33792x4x48, (extractStridedSlice S33792x4x48 ![0, 0, 16] z slices_S33792x4x64_S33792x4x48_0_0_16)⟩] concatenates_S33792x4x16_S33792x4x48_S33792x4x64_d2

/-- The reference's rotation of the indexer's key. -/
def ropeJ (z : FVec Ideal S33792x1x64 .f32) (cs sn : FVec Ideal S33792x1x8 .f32) : FVec Ideal S33792x1x64 .f32 :=
  concatenate S33792x1x64 2 [⟨S33792x1x16, (concatenate S33792x1x16 2 [⟨S33792x1x8, (subf (mulf (extractStridedSlice S33792x1x8 ![0, 0, 0] z slices_S33792x1x64_S33792x1x8_0_0_0) cs) (mulf (extractStridedSlice S33792x1x8 ![0, 0, 8] z slices_S33792x1x64_S33792x1x8_0_0_8) sn))⟩, ⟨S33792x1x8, (addf (mulf (extractStridedSlice S33792x1x8 ![0, 0, 8] z slices_S33792x1x64_S33792x1x8_0_0_8) cs) (mulf (extractStridedSlice S33792x1x8 ![0, 0, 0] z slices_S33792x1x64_S33792x1x8_0_0_0) sn))⟩] concatenates_S33792x1x8_S33792x1x8_S33792x1x16_d2)⟩, ⟨S33792x1x48, (extractStridedSlice S33792x1x48 ![0, 0, 16] z slices_S33792x1x64_S33792x1x48_0_0_16)⟩] concatenates_S33792x1x16_S33792x1x48_S33792x1x64_d2

end

section
open Cert.ProjIdeal Cert.ProjIdeal.Gen

set_option maxHeartbeats 8000000 in
/-- Rotated key heads of one row. -/
theorem k_row (v18 : FVec Ideal S1096x512 .f32) (v20 v22 : FVec Ideal S8x512 .f32) (z : FVec Ideal Cert.ProjRefIdeal.S33792x2x64 .f32) (cs sn : FVec Ideal Cert.ProjRefIdeal.S33792x1x8 .f32) (r : Fin 512) (n : Fin 33792)
    (hz : ∀ (h : Fin 2) (d : Fin 64), v18 (ix2 ⟨512 + 64 * h.val + d.val, by omega⟩ r) = z (ix3 n h d))
    (hc : ∀ d, v20 (ix2 d r) = cs (ix3 n 0 d)) (hs : ∀ d, v22 (ix2 d r) = sn (ix3 n 0 d)) (h : Fin 2) (d : Fin 64) :
    k0_pay26 v18 v20 v22 (ix2 ⟨64 * h.val + d.val, by omega⟩ r) = ropeK z cs sn (ix3 n h d) := by
  pointwise [k0_pay26, ropeK]
  simp only [← hz, ← hc, ← hs]
  obtain ⟨f, hf⟩ := natFun1 (fun i => v18 (ix2 i r))
  obtain ⟨g, hg⟩ := natFun1 (fun i => v20 (ix2 i r))
  obtain ⟨e, he⟩ := natFun1 (fun i => v22 (ix2 i r))
  simp only [hf, hg, he, dite_eq_ite]
  have hd := d.isLt
  have hh' := h.isLt
  generalize d.val = d at *
  generalize h.val = h at *
  have hh : h = 0 ∨ h = 1 := by omega
  rcases hh with hh | hh <;> rw [hh] <;> rcases (by omega : d < 8 ∨ (8 ≤ d ∧ d < 16) ∨ 16 ≤ d) with h8 | h8 | h8 <;>
    simp (disch := omega) only [↓if_pos, ↓if_neg] <;>
    first | exact congrArg f (by omega) | exact sub_eq (by omega) (by omega) (by omega) (by omega) | exact add_eq (by omega) (by omega) (by omega) (by omega)

set_option maxHeartbeats 8000000 in
/-- Rotated query heads of the indexer, of one row. -/
theorem i_row (v18 : FVec Ideal S1096x512 .f32) (v20 v22 : FVec Ideal S8x512 .f32) (z : FVec Ideal Cert.ProjRefIdeal.S33792x4x64 .f32) (cs sn : FVec Ideal Cert.ProjRefIdeal.S33792x1x8 .f32) (r : Fin 512) (n : Fin 33792)
    (hz : ∀ (h : Fin 4) (d : Fin 64), v18 (ix2 ⟨768 + 64 * h.val + d.val, by omega⟩ r) = z (ix3 n h d))
    (hc : ∀ d, v20 (ix2 d r) = cs (ix3 n 0 d)) (hs : ∀ d, v22 (ix2 d r) = sn (ix3 n 0 d)) (h : Fin 4) (d : Fin 64) :
    k0_pay35 v18 v20 v22 (ix2 ⟨64 * h.val + d.val, by omega⟩ r) = ropeI z cs sn (ix3 n h d) := by
  pointwise [k0_pay35, ropeI]
  simp only [← hz, ← hc, ← hs]
  obtain ⟨f, hf⟩ := natFun1 (fun i => v18 (ix2 i r))
  obtain ⟨g, hg⟩ := natFun1 (fun i => v20 (ix2 i r))
  obtain ⟨e, he⟩ := natFun1 (fun i => v22 (ix2 i r))
  simp only [hf, hg, he, dite_eq_ite]
  have hd := d.isLt
  have hh' := h.isLt
  generalize d.val = d at *
  generalize h.val = h at *
  have hh : h = 0 ∨ h = 1 ∨ h = 2 ∨ h = 3 := by omega
  rcases hh with hh | hh | hh | hh <;> rw [hh] <;> rcases (by omega : d < 8 ∨ (8 ≤ d ∧ d < 16) ∨ 16 ≤ d) with h8 | h8 | h8 <;>
    simp (disch := omega) only [↓if_pos, ↓if_neg] <;>
    first | exact congrArg f (by omega) | exact sub_eq (by omega) (by omega) (by omega) (by omega) | exact add_eq (by omega) (by omega) (by omega) (by omega)

set_option maxHeartbeats 8000000 in
/-- The indexer's rotated key, of one row. -/
theorem j_row (v18 : FVec Ideal S1096x512 .f32) (v20 v22 : FVec Ideal S8x512 .f32) (z : FVec Ideal Cert.ProjRefIdeal.S33792x1x64 .f32) (cs sn : FVec Ideal Cert.ProjRefIdeal.S33792x1x8 .f32) (r : Fin 512) (n : Fin 33792)
    (hz : ∀ (h : Fin 1) (d : Fin 64), v18 (ix2 ⟨1024 + 64 * h.val + d.val, by omega⟩ r) = z (ix3 n h d))
    (hc : ∀ d, v20 (ix2 d r) = cs (ix3 n 0 d)) (hs : ∀ d, v22 (ix2 d r) = sn (ix3 n 0 d)) (h : Fin 1) (d : Fin 64) :
    k0_pay1 v18 v20 v22 (ix2 ⟨64 * h.val + d.val, by omega⟩ r) = ropeJ z cs sn (ix3 n h d) := by
  pointwise [k0_pay1, ropeJ]
  simp only [← hz, ← hc, ← hs]
  obtain ⟨f, hf⟩ := natFun1 (fun i => v18 (ix2 i r))
  obtain ⟨g, hg⟩ := natFun1 (fun i => v20 (ix2 i r))
  obtain ⟨e, he⟩ := natFun1 (fun i => v22 (ix2 i r))
  simp only [hf, hg, he, dite_eq_ite]
  have hd := d.isLt
  have hh' := h.isLt
  generalize d.val = d at *
  generalize h.val = h at *
  simp only [show ((0 : Fin 1) : ℕ) = 0 from rfl]
  rcases (by omega : d < 8 ∨ (8 ≤ d ∧ d < 16) ∨ 16 ≤ d) with h8 | h8 | h8 <;>
    simp (disch := omega) only [↓if_pos, ↓if_neg] <;>
    first | exact congrArg f (by omega) | exact sub_eq (by omega) (by omega) (by omega) (by omega) | exact add_eq (by omega) (by omega) (by omega) (by omega)

end

end Cert.Proof.Proj

end
-- ==== Proof.My.ProjZ.lean ====
module

public import proofs.«01_k».proof.Defs
public import proofs.«01_k».proof.Proof.Gen.ProjIdeal.Value
public import proofs.«01_k».proof.Proof.Gen.ProjRefIdeal.Run
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384
set_option maxHeartbeats 8000000

noncomputable section

namespace Cert.Proof.Proj

open Idealize.ShloMosaic Idealize.ShloMosaic.TcCoe Idealize.SL.Sem

section
open Cert.ProjRefIdeal Cert.ProjRefIdeal.Gen

/-- The reference's norm of every row with its weight. -/
def normRef (x : FVec Ideal S33792x1024 .f32) (l : FVec Ideal S4x1024 .f32) : FVec Ideal S33792x1024 .f32 :=
  mulf (mulf x (broadcastInDim S33792x1024 ![0, 1] bcast_S33792x1_S33792x1024_0_1 (Host.rsqrt (addf (Host.divf (broadcastInDim S33792x1 ![0] bcast_S33792_S33792x1_0 (Host.reduceAdd (mulf x x) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x358637BD#32)))))) (broadcastInDim S33792x1024 ![0, 1] bcast_S1x1024_S33792x1024_0_1 (broadcastInDim S1x1024 ![1] bcast_S1024_S1x1024_1 (shapeCast _ (extractStridedSlice S1x1024 ![0, 0] l slices_S4x1024_S1x1024_0_0) shapeCasts_S1x1024_S1024)))

/-- The reference's one projection of every row. -/
def zRef (x : FVec Ideal S33792x1024 .f32) (l : FVec Ideal S4x1024 .f32) (w : FVec Ideal S1024x4676 .f32) : FVec Ideal S33792x2628 .f32 :=
  Host.dotGeneral dot_S33792x1024_S1024x2628_S33792x2628_1_0_0_1_n_n none (normRef x l) (extractStridedSlice S1024x2628 ![0, 0] w slices_S1024x4676_S1024x2628_0_0)

/-- The reference's angles. -/
def angRef : FVec Ideal S33792x8 .f32 :=
  mulf (broadcastInDim S33792x8 ![0, 1] bcast_S33792x1_S33792x8_0_1 (broadcastInDim S33792x1 ![0] bcast_S33792_S33792x1_0 (sitofp .f32 (shapeCast S33792 (broadcastInDim S4x8448 ![1] bcast_S8448_S4x8448_1 (subi (iotaInDim S8448 32 0) (broadcastInDim S8448 ![] bcast_S_S8448 (constantI S_ 32 240#32)))) shapeCasts_S4x8448_S33792)))) (broadcastInDim S33792x8 ![0, 1] bcast_S1x8_S33792x8_0_1 (broadcastInDim S1x8 ![1] bcast_S8_S1x8_1 (Host.exp (mulf (mulf (broadcastInDim S8 ![] bcast_S_S8 (constant S_ .f32 0xC151F533#32)) (sitofp .f32 (iotaInDim S8 32 0))) (broadcastInDim S8 ![] bcast_S_S8 (constant S_ .f32 0x3E000000#32))))))

end

section
open Cert.ProjIdeal Cert.ProjIdeal.Gen

/-- The row of the whole array that row `r` of block `t` is. -/
def row (t : Fin grid0.N) (r : Fin 512) : Fin 33792 :=
  ⟨(grid0.coords t 0).val * 512 + r.val, by have h2 : (grid0.coords t 0).val < 66 := (grid0.coords t 0).isLt; omega⟩

/-- Where each window's block sits at a grid point. -/
theorem idx : ∀ t : Fin grid0.N, win0_0.index t = ![(grid0.coords t 0).val, 0] ∧ win0_1.index t = ![0, 0] ∧ win0_2.index t = ![0, 0] ∧ win0_3.index t = ![0, 0]
    ∧ win0_4.index t = ![0, (grid0.coords t 0).val] ∧ win0_5.index t = ![0, (grid0.coords t 0).val]
    ∧ win0_6.index t = ![0, (grid0.coords t 0).val] ∧ win0_7.index t = ![0, (grid0.coords t 0).val] ∧ win0_8.index t = ![0, (grid0.coords t 0).val]
    ∧ win0_9.index t = ![(grid0.coords t 0).val, 0, 0] ∧ win0_10.index t = ![0, (grid0.coords t 0).val, 0]
    ∧ win0_11.index t = ![(grid0.coords t 0).val, 0] ∧ win0_12.index t = ![0, (grid0.coords t 0).val] ∧ win0_13.index t = ![0, (grid0.coords t 0).val]
    ∧ win0_14.index t = ![0, (grid0.coords t 0).val] ∧ win0_15.index t = ![(grid0.coords t 0).val, 0] ∧ win0_16.index t = ![(grid0.coords t 0).val, 0] := by
  decide +kernel

variable (m : (ℓ : Loc nD τ sig) → Buf (Elt Ideal) ℓ) (c : Dev nD) (t : Fin grid0.N) (r : Fin 512)

/-- The layer's projection weight. -/
def wArr : FVec Ideal S1024x4676 .f32 := m (c.tc.loc main_arg2)

theorem x_read (j : Fin 1024) : iblk m c 0 t (ix2 r j) = m (c.tc.loc main_arg0) (ix2 (row t r) j) := by
  simp only [row]
  blk_point [iblk, V, idx t]

theorem l_read (j : Fin 1024) : iblk m c 1 t (ix2 0 j) = m (c.tc.loc main_arg1) (ix2 0 j) := by
  blk_point [iblk, V, idx t]

theorem wc_read (j : Fin 1024) (k : Fin 1536) : iblk m c 3 t (ix2 j k) = m (c.tc.loc main_arg2) (ix2 j ⟨1092 + k.val, by omega⟩) := by
  blk_point [iblk, V, idx t]

/-- The kernel's stacked weight columns, before they are turned to rows. -/
def catW (w : FVec Ideal S1024x4676 .f32) : FVec Ideal S1024x1096 .f32 :=
  concatenate S1024x1096 1 [⟨S1024x512, (mulf (extractStridedSlice S1024x512 ![0, 0] w slices_S1024x4676_S1024x512_0_0) (broadcastInDim S1024x512 ![] bcast_S_S1024x512 (constant S_ .f32 0x3E000000#32)))⟩, ⟨S1024x256, (extractStridedSlice S1024x256 ![0, 512] w slices_S1024x4676_S1024x256_0_512)⟩, ⟨S1024x256, (mulf (extractStridedSlice S1024x256 ![0, 768] w slices_S1024x4676_S1024x256_0_768) (broadcastInDim S1024x256 ![] bcast_S_S1024x256 (constant S_ .f32 0x3E000000#32)))⟩, ⟨S1024x64, (extractStridedSlice S1024x64 ![0, 1024] w slices_S1024x4676_S1024x64_0_1024)⟩, ⟨S1024x4, (mulf (extractStridedSlice S1024x4 ![0, 1088] w slices_S1024x4676_S1024x4_0_1088) (broadcastInDim S1024x4 ![] bcast_S_S1024x4 (constant S_ .f32 0x3F000000#32)))⟩, ⟨S1024x4, (broadcastInDim S1024x4 ![] bcast_S_S1024x4 (constant S_ .f32 0x00000000#32))⟩] concatenates_S1024x512_S1024x256_S1024x256_S1024x64_S1024x4_S1024x4_S1024x1096_d1

theorem V_w : (V m c main_v14 : FVec Ideal S1096x1024 .bf16) = transpose S1096x1024 [1, 0] (truncf .bf16 (catW (wArr m c)) bitsLt_bf16_f32) transposes_S1024x1096_S1096x1024_1_0 := by
  unfold V
  after_reads_simp
  rfl

theorem w_read (i : Fin 1096) (j : Fin 1024) : iblk m c 2 t (ix2 i j) = catW (wArr m c) (ix2 j i) := by
  have e : (V m c main_v14 : FVec Ideal S1096x1024 .bf16) (ix2 i j) = catW (wArr m c) (ix2 j i) := by
    rw [V_w]
    pointwise
  refine Eq.trans ?_ e
  blk_simp [iblk, idx t]
  blk_ext [idx t]

theorem w_kv (w : FVec Ideal S1024x4676 .f32) (j : Fin 1024) (k : Fin 256) : catW w (ix2 j ⟨512 + k.val, by omega⟩) = w (ix2 j ⟨512 + k.val, by omega⟩) := by
  pointwise [catW]

theorem w_q (w : FVec Ideal S1024x4676 .f32) (j : Fin 1024) (k : Fin 512) : catW w (ix2 j ⟨k.val, by omega⟩) = w (ix2 j ⟨k.val, by omega⟩) * (Ideal.ofBits .f32 0x3E000000#32 : EReal) := by
  pointwise [catW]

theorem w_iq (w : FVec Ideal S1024x4676 .f32) (j : Fin 1024) (k : Fin 256) : catW w (ix2 j ⟨768 + k.val, by omega⟩) = w (ix2 j ⟨768 + k.val, by omega⟩) * (Ideal.ofBits .f32 0x3E000000#32 : EReal) := by
  pointwise [catW]
  split_ifs <;> first | omega | rfl | exact congrArg (fun a => w (ix2 j a)) (Fin.ext (by dsimp only; omega)) | exact congrArg (fun a => w (ix2 j a) * _) (Fin.ext (by dsimp only; omega))

theorem w_ik (w : FVec Ideal S1024x4676 .f32) (j : Fin 1024) (k : Fin 64) : catW w (ix2 j ⟨1024 + k.val, by omega⟩) = w (ix2 j ⟨1024 + k.val, by omega⟩) := by
  pointwise [catW]
  split_ifs <;> first | omega | rfl | exact congrArg (fun a => w (ix2 j a)) (Fin.ext (by dsimp only; omega)) | exact congrArg (fun a => w (ix2 j a) * _) (Fin.ext (by dsimp only; omega))

theorem w_iw (w : FVec Ideal S1024x4676 .f32) (j : Fin 1024) (k : Fin 4) : catW w (ix2 j ⟨1088 + k.val, by omega⟩) = w (ix2 j ⟨1088 + k.val, by omega⟩) * (Ideal.ofBits .f32 0x3F000000#32 : EReal) := by
  pointwise [catW]
  split_ifs <;> first | omega | rfl | exact congrArg (fun a => w (ix2 j a)) (Fin.ext (by dsimp only; omega)) | exact congrArg (fun a => w (ix2 j a) * _) (Fin.ext (by dsimp only; omega))

theorem w_0 (w : FVec Ideal S1024x4676 .f32) (j : Fin 1024) (k : Fin 4) : catW w (ix2 j ⟨1092 + k.val, by omega⟩) = (0 : EReal) := by
  pointwise [catW]
  split_ifs <;> first | omega | rfl | exact congrArg (fun a => w (ix2 j a)) (Fin.ext (by dsimp only; omega)) | exact congrArg (fun a => w (ix2 j a) * _) (Fin.ext (by dsimp only; omega))

/-- The kernel's angles: one column for each row of the input. -/
def angK : FVec Ideal S8x33792 .f32 :=
  mulf (broadcastInDim S8x33792 ![0, 1] bcast_S8x1_S8x33792_0_1 (broadcastInDim S8x1 ![0] bcast_S8_S8x1_0 (Host.exp (mulf (mulf (broadcastInDim S8 ![] bcast_S_S8 (constant S_ .f32 0xC151F533#32)) (sitofp .f32 (iotaInDim S8 32 0))) (broadcastInDim S8 ![] bcast_S_S8 (constant S_ .f32 0x3E000000#32)))))) (broadcastInDim S8x33792 ![0, 1] bcast_S1x33792_S8x33792_0_1 (broadcastInDim S1x33792 ![1] bcast_S33792_S1x33792_1 (sitofp .f32 (shapeCast S33792 (broadcastInDim S4x8448 ![0, 1] bcast_S1x8448_S4x8448_0_1 (shapeCast S1x8448 (subi (iotaInDim S8448 32 0) (broadcastInDim S8448 ![] bcast_S_S8448 (constantI S_ 32 240#32))) shapeCasts_S8448_S1x8448)) shapeCasts_S4x8448_S33792))))

theorem angK_eq (n : Fin 33792) (d : Fin 8) : angK (ix2 d n) = angRef (ix2 n d) := by
  pointwise [angK, angRef]
  try exact mul_comm _ _
  try (rw [mul_comm (FloatOps.sitofp FTy.f32 _)]; blk_point)

theorem V_cos : (V m c main_v33 : FVec Ideal S8x33792 .f32) = Host.cos angK := by
  unfold V
  after_reads_simp
  rfl

theorem V_sin : (V m c main_v34 : FVec Ideal S8x33792 .f32) = Host.sin angK := by
  unfold V
  after_reads_simp
  rfl

/-- The rotation's cosines, of one row of a block. -/
theorem cos_read (d : Fin 8) : iblk m c 4 t (ix2 d r) = Host.cos angRef (ix2 (row t r) d) := by
  have e : (V m c main_v33 : FVec Ideal S8x33792 .f32) (ix2 d (row t r)) = Host.cos angRef (ix2 (row t r) d) := by
    rw [V_cos]
    exact congrArg _ (angK_eq (row t r) d)
  refine Eq.trans ?_ e
  simp only [row]
  blk_simp [iblk, idx t]
  blk_ext [idx t]

/-- The rotation's sines, of one row of a block. -/
theorem sin_read (d : Fin 8) : iblk m c 5 t (ix2 d r) = Host.sin angRef (ix2 (row t r) d) := by
  have e : (V m c main_v34 : FVec Ideal S8x33792 .f32) (ix2 d (row t r)) = Host.sin angRef (ix2 (row t r) d) := by
    rw [V_sin]
    exact congrArg _ (angK_eq (row t r) d)
  refine Eq.trans ?_ e
  simp only [row]
  blk_simp [iblk, idx t]
  blk_ext [idx t]

/-- The eighth of the scales is a number at least zero. -/
theorem eighth : (Ideal.ofBits .f32 0x3E000000#32 : EReal) = ((1 / 8 : ℝ) : EReal) := by
  simp [Ideal.ofBits, Ideal.ieee, -EReal.coe_mul]; norm_num

/-- The half of the scales is a number at least zero. -/
theorem half : (Ideal.ofBits .f32 0x3F000000#32 : EReal) = ((1 / 2 : ℝ) : EReal) := by
  simp [Ideal.ofBits, Ideal.ieee, -EReal.coe_mul]; norm_num

/-- A number at least zero comes out of a sum of products. -/
theorem sum_scale (s : ℝ) (hs : 0 ≤ s) (a b : Fin 1024 → EReal) : (∑ j, a j * (s : EReal) * b j) = (∑ j, b j * a j) * (s : EReal) := by
  have h : ∀ t : Finset (Fin 1024), (∑ j ∈ t, a j * (s : EReal) * b j) = (∑ j ∈ t, b j * a j) * (s : EReal) := by
    intro t
    induction t using Finset.induction_on with
    | empty => simp
    | insert i t hi ih =>
      rw [Finset.sum_insert hi, Finset.sum_insert hi, ih, EReal.right_distrib_of_nonneg_of_ne_top (by exact_mod_cast hs) (EReal.coe_ne_top s)]
      congr 1
      rw [mul_right_comm, mul_comm (a i)]
  exact h _

/-- The normed rows of a block are those of the input. -/
theorem h_read (j : Fin 1024) : (k0_pay7 (F := Ideal) (iblk m c 0 t) (iblk m c 1 t) (ix2 r j) : EReal) = normRef (m (c.tc.loc main_arg0)) (m (c.tc.loc main_arg1)) (ix2 (row t r) j) := by
  pointwise [k0_pay7, normRef]
  simp only [x_read, l_read]

theorem pay8_sum (x0 : FVec Ideal S512x1024 .f32) (x1 : FVec Ideal S1x1024 .f32) (x2 : FVec Ideal S1096x1024 .bf16) (i : Fin 1096) (r : Fin 512) :
    k0_pay8 (F := Ideal) x0 x1 x2 (ix2 i r) = ∑ j : Fin 1024, (x2 (ix2 i j) : EReal) * (k0_pay7 (F := Ideal) x0 x1 (ix2 r j) : EReal) := by
  pointwise [k0_pay8]

/-- One entry of the block product, over the stacked weight columns and the normed rows. -/
theorem z_sum (i : Fin 1096) : k0_pay8 (F := Ideal) (iblk m c 0 t) (iblk m c 1 t) (iblk m c 2 t) (ix2 i r) = ∑ j : Fin 1024, (catW (wArr m c) (ix2 j i) : EReal) * normRef (m (c.tc.loc main_arg0)) (m (c.tc.loc main_arg1)) (ix2 (row t r) j) :=
  (pay8_sum _ _ _ i r).trans (Finset.sum_congr rfl fun j _ => congrArg₂ (fun a b : EReal => a * b) (w_read m c t i j) (h_read m c t r j))

theorem zRef_sum (x : FVec Ideal Cert.ProjRefIdeal.S33792x1024 .f32) (l : FVec Ideal Cert.ProjRefIdeal.S4x1024 .f32) (w : FVec Ideal Cert.ProjRefIdeal.S1024x4676 .f32) (n : Fin 33792) (k : Fin 2628) :
    zRef x l w (ix2 n k) = ∑ j : Fin 1024, (normRef x l (ix2 n j) : EReal) * w (ix2 j ⟨k.val, by omega⟩) := by
  pointwise [zRef]

theorem z_kv (k : Fin 256) : k0_pay8 (F := Ideal) (iblk m c 0 t) (iblk m c 1 t) (iblk m c 2 t) (ix2 ⟨512 + k.val, by omega⟩ r) = zRef (m (c.tc.loc main_arg0)) (m (c.tc.loc main_arg1)) (wArr m c) (ix2 (row t r) ⟨512 + k.val, by omega⟩) := by
  rw [z_sum, zRef_sum]
  refine Finset.sum_congr rfl fun j _ => ?_
  rw [w_kv]
  exact mul_comm _ _

theorem z_ik (k : Fin 64) : k0_pay8 (F := Ideal) (iblk m c 0 t) (iblk m c 1 t) (iblk m c 2 t) (ix2 ⟨1024 + k.val, by omega⟩ r) = zRef (m (c.tc.loc main_arg0)) (m (c.tc.loc main_arg1)) (wArr m c) (ix2 (row t r) ⟨1024 + k.val, by omega⟩) := by
  rw [z_sum, zRef_sum]
  refine Finset.sum_congr rfl fun j _ => ?_
  rw [w_ik]
  exact mul_comm _ _

theorem z_q (k : Fin 512) : k0_pay8 (F := Ideal) (iblk m c 0 t) (iblk m c 1 t) (iblk m c 2 t) (ix2 ⟨k.val, by omega⟩ r) = (zRef (m (c.tc.loc main_arg0)) (m (c.tc.loc main_arg1)) (wArr m c) (ix2 (row t r) ⟨k.val, by omega⟩) : EReal) * (Ideal.ofBits .f32 0x3E000000#32 : EReal) := by
  rw [z_sum, zRef_sum]
  refine (Finset.sum_congr rfl fun j _ => ?_).trans ((sum_scale (1 / 8) (by norm_num) (fun j => wArr m c (ix2 j ⟨k.val, by omega⟩)) (fun j => normRef (m (c.tc.loc main_arg0)) (m (c.tc.loc main_arg1)) (ix2 (row t r) j))).trans (congrArg _ eighth.symm))
  rw [w_q, eighth]

theorem z_iq (k : Fin 256) : k0_pay8 (F := Ideal) (iblk m c 0 t) (iblk m c 1 t) (iblk m c 2 t) (ix2 ⟨768 + k.val, by omega⟩ r) = (zRef (m (c.tc.loc main_arg0)) (m (c.tc.loc main_arg1)) (wArr m c) (ix2 (row t r) ⟨768 + k.val, by omega⟩) : EReal) * (Ideal.ofBits .f32 0x3E000000#32 : EReal) := by
  rw [z_sum, zRef_sum]
  refine (Finset.sum_congr rfl fun j _ => ?_).trans ((sum_scale (1 / 8) (by norm_num) (fun j => wArr m c (ix2 j ⟨768 + k.val, by omega⟩)) (fun j => normRef (m (c.tc.loc main_arg0)) (m (c.tc.loc main_arg1)) (ix2 (row t r) j))).trans (congrArg _ eighth.symm))
  rw [w_iq, eighth]

theorem z_iw (k : Fin 4) : k0_pay8 (F := Ideal) (iblk m c 0 t) (iblk m c 1 t) (iblk m c 2 t) (ix2 ⟨1088 + k.val, by omega⟩ r) = (zRef (m (c.tc.loc main_arg0)) (m (c.tc.loc main_arg1)) (wArr m c) (ix2 (row t r) ⟨1088 + k.val, by omega⟩) : EReal) * (Ideal.ofBits .f32 0x3F000000#32 : EReal) := by
  rw [z_sum, zRef_sum]
  refine (Finset.sum_congr rfl fun j _ => ?_).trans ((sum_scale (1 / 2) (by norm_num) (fun j => wArr m c (ix2 j ⟨1088 + k.val, by omega⟩)) (fun j => normRef (m (c.tc.loc main_arg0)) (m (c.tc.loc main_arg1)) (ix2 (row t r) j))).trans (congrArg _ half.symm))
  rw [w_iw, half]

theorem z_0 (k : Fin 4) : k0_pay8 (F := Ideal) (iblk m c 0 t) (iblk m c 1 t) (iblk m c 2 t) (ix2 ⟨1092 + k.val, by omega⟩ r) = (0 : EReal) := by
  rw [z_sum]
  refine Finset.sum_eq_zero fun j _ => ?_
  rw [w_0]
  exact zero_mul _

/-- The convolution's columns of one row. -/
theorem zc_read (k : Fin 1536) : (k0_pay4 (F := Ideal) (k0_pay7 (F := Ideal) (iblk m c 0 t) (iblk m c 1 t)) (iblk m c 3 t) (ix2 r k) : EReal) = zRef (m (c.tc.loc main_arg0)) (m (c.tc.loc main_arg1)) (wArr m c) (ix2 (row t r) ⟨1092 + k.val, by omega⟩) := by
  rw [zRef_sum]
  have e : ∀ (a : FVec Ideal S512x1024 .bf16) (b : FVec Ideal S1024x1536 .bf16), (k0_pay4 (F := Ideal) a b (ix2 r k) : EReal) = ∑ j : Fin 1024, (a (ix2 r j) : EReal) * (b (ix2 j k) : EReal) := by
    intro a b
    pointwise [k0_pay4]
  exact (e _ _).trans (Finset.sum_congr rfl fun j _ => congrArg₂ (fun a b : EReal => a * b) (h_read m c t r j) (wc_read m c t j k))

end
end Cert.Proof.Proj
end
-- ==== Proof.My.ProjRef.lean ====
module

public import proofs.«01_k».proof.Proof.My.ProjRope
public import proofs.«01_k».proof.Proof.My.ProjZ
public import proofs.«01_k».proof.Proof.Gen.ProjIdeal.Value
public import proofs.«01_k».proof.Proof.Gen.ProjRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof.Proj

open Idealize.ShloMosaic Idealize.ShloMosaic.TcCoe Idealize.SL.Sem

section
open Cert.ProjRefIdeal Cert.ProjRefIdeal.Gen Cert.ProjRefIdeal.Value

/-- The cosines of every row's rotation, as one head sees them. -/
def cosRef : FVec Ideal S33792x1x8 .f32 := broadcastInDim S33792x1x8 ![0, 2] bcast_S33792x8_S33792x1x8_0_2 (Host.cos angRef)

/-- The sines of every row's rotation, as one head sees them. -/
def sinRef : FVec Ideal S33792x1x8 .f32 := broadcastInDim S33792x1x8 ![0, 2] bcast_S33792x8_S33792x1x8_0_2 (Host.sin angRef)

variable (z : FVec Ideal S33792x2628 .f32)

/-- The query heads before their rotation. -/
def zQ : FVec Ideal S33792x8x64 .f32 := shapeCast _ (mulf (extractStridedSlice S33792x512 ![0, 0] z slices_S33792x2628_S33792x512_0_0) (broadcastInDim S33792x512 ![] bcast_S_S33792x512 (constant S_ .f32 0x3E000000#32))) shapeCasts_S33792x512_S33792x8x64

/-- The key heads before their rotation. -/
def zK : FVec Ideal S33792x2x64 .f32 := shapeCast _ (extractStridedSlice S33792x128 ![0, 512] z slices_S33792x2628_S33792x128_0_512) shapeCasts_S33792x128_S33792x2x64

/-- The indexer's query heads before their rotation. -/
def zI : FVec Ideal S33792x4x64 .f32 := shapeCast _ (mulf (extractStridedSlice S33792x256 ![0, 768] z slices_S33792x2628_S33792x256_0_768) (broadcastInDim S33792x256 ![] bcast_S_S33792x256 (constant S_ .f32 0x3E000000#32))) shapeCasts_S33792x256_S33792x4x64

/-- The indexer's key before its rotation. -/
def zJ : FVec Ideal S33792x1x64 .f32 := broadcastInDim S33792x1x64 ![0, 2] bcast_S33792x64_S33792x1x64_0_2 (extractStridedSlice S33792x64 ![0, 1024] z slices_S33792x2628_S33792x64_0_1024)

/-- The rotated key heads. -/
def kR : FVec Ideal S33792x2x64 .f32 := ropeK (zK z) cosRef sinRef

/-- The rotated key of the indexer. -/
def jR : FVec Ideal S33792x64 .f32 := shapeCast _ (ropeJ (zJ z) cosRef sinRef) shapeCasts_S33792x1x64_S33792x64

/-- The values. -/
def vR : FVec Ideal S33792x128 .f32 := extractStridedSlice S33792x128 ![0, 640] z slices_S33792x2628_S33792x128_0_640

/-- Scaled rotated queries, a column for each row. -/
def qtR : FVec Ideal S512x33792 .bf16 :=
  truncf .bf16 (transpose S512x33792 [1, 0] (shapeCast _ (scaleQ (ropeQ (zQ z) cosRef sinRef)) shapeCasts_S33792x8x64_S33792x512) transposes_S33792x512_S512x33792_1_0) bitsLt_bf16_f32

/-- Rotated queries of the indexer, a column for each row. -/
def qiR : FVec Ideal S256x33792 .bf16 :=
  truncf .bf16 (transpose S256x33792 [1, 0] (shapeCast _ (ropeI (zI z) cosRef sinRef) shapeCasts_S33792x4x64_S33792x256) transposes_S33792x256_S256x33792_1_0) bitsLt_bf16_f32

/-- The indexer's head weights, a column for each row. -/
def wiR : FVec Ideal S8x33792 .f32 :=
  transpose S8x33792 [1, 0] (concatenate S33792x8 1 [⟨S33792x4, (mulf (extractStridedSlice S33792x4 ![0, 1088] z slices_S33792x2628_S33792x4_0_1088) (broadcastInDim S33792x4 ![] bcast_S_S33792x4 (constant (F := Ideal) S_ .f32 0x3F000000#32)))⟩, ⟨S33792x4, (broadcastInDim S33792x4 ![] bcast_S_S33792x4 (constant (F := Ideal) S_ .f32 0x00000000#32))⟩] concatenates_S33792x4_S33792x4_S33792x8_d1) transposes_S33792x8_S8x33792_1_0

/-- Values in tiles of 256 rows. -/
def vtR : FVec Ideal S132x128x256 .bf16 :=
  truncf .bf16 (transpose S132x128x256 [0, 2, 1] (shapeCast _ (vR z) shapeCasts_S33792x128_S132x256x128) transposes_S132x256x128_S132x128x256_0_2_1) bitsLt_bf16_f32

/-- Rotated keys of each head with a lane of ones after them. -/
def kbR : FVec Ideal S2x33792x128 .bf16 :=
  truncf .bf16 (transpose S2x33792x128 [1, 0, 2] ((concatenate S33792x2x128 2 [⟨S33792x2x64, ((kR z) : (⟨S33792x2x64, .f32⟩ : BufTy).Contents (Elt Ideal))⟩, ⟨S33792x2x1, ((broadcastInDim S33792x2x1 ![] bcast_S_S33792x2x1 (constant (F := Ideal) S_ .f32 0x3F800000#32)) : (⟨S33792x2x1, .f32⟩ : BufTy).Contents (Elt Ideal))⟩, ⟨S33792x2x63, ((broadcastInDim S33792x2x63 ![] bcast_S_S33792x2x63 (constant (F := Ideal) S_ .f32 0x00000000#32)) : (⟨S33792x2x63, .f32⟩ : BufTy).Contents (Elt Ideal))⟩] concatenates_S33792x2x64_S33792x2x1_S33792x2x63_S33792x2x128_d2 : (⟨S33792x2x128, .f32⟩ : BufTy).Contents (Elt Ideal))) transposes_S33792x2x128_S2x33792x128_1_0_2) bitsLt_bf16_f32

/-- The indexer's rotated keys, rounded. -/
def jbR : FVec Ideal S33792x64 .bf16 :=
  truncf .bf16 (jR z) bitsLt_bf16_f32

/-- Rotated keys, a column for each row. -/
def ktR : FVec Ideal S128x33792 .f32 :=
  transpose S128x33792 [1, 0] (shapeCast _ (kR z) shapeCasts_S33792x2x64_S33792x128) transposes_S33792x128_S128x33792_1_0

/-- Values, a column for each row. -/
def v3R : FVec Ideal S128x33792 .f32 :=
  transpose S128x33792 [1, 0] (vR z) transposes_S33792x128_S128x33792_1_0

/-- The indexer's rotated keys, a column for each row. -/
def jtR : FVec Ideal S64x33792 .f32 :=
  transpose S64x33792 [1, 0] (jR z) transposes_S33792x64_S64x33792_1_0

/-- The convolution's input. -/
def uR : FVec Ideal S33792x512 .f32 :=
  mulf (extractStridedSlice S33792x512 ![0, 1604] z slices_S33792x2628_S33792x512_0_1604) (extractStridedSlice S33792x512 ![0, 2116] z slices_S33792x2628_S33792x512_0_2116)

/-- The convolution's gate. -/
def gR : FVec Ideal S33792x512 .f32 :=
  extractStridedSlice S33792x512 ![0, 1092] z slices_S33792x2628_S33792x512_0_1092

end

section
open Cert.ProjRefIdeal Cert.ProjRefIdeal.Gen Cert.ProjRefIdeal.Value Idealize.ShloMosaic.StableHlo

variable (m : (ℓ : Loc nD τ sig) → Buf (Elt Ideal) ℓ) (c : Dev nD)

/-- The projection of every row, from the arguments of a run. -/
def zOf : FVec Ideal S33792x2628 .f32 := zRef (m ((c.tc : Thread nD τ).loc main_arg0)) (m ((c.tc : Thread nD τ).loc main_arg1)) (m ((c.tc : Thread nD τ).loc main_arg2))

theorem res_z : res_main_v16 (F := Ideal) (launchContents m c) = zOf m c := rfl

theorem res_v : res_main_v19 (F := Ideal) (launchContents m c) = vR (zOf m c) := rfl

theorem res_k : res_main_v98 (F := Ideal) (launchContents m c) = kR (zOf m c) := rfl

theorem res_j : res_main_v161 (F := Ideal) (launchContents m c) = jR (zOf m c) := rfl

theorem res_qtR : (truncf .bf16 (transpose S512x33792 [1, 0] (shapeCast _ (mulf (concatenate S33792x8x64 2 [⟨S33792x8x16, (concatenate S33792x8x16 2 [⟨S33792x8x8, (subf (mulf (res_main_v50 (launchContents m c)) (broadcastInDim S33792x8x8 ![0, 1, 2] bcast_S33792x1x8_S33792x8x8_0_1_2 (res_main_v47 (launchContents m c)))) (mulf (res_main_v51 (launchContents m c)) (broadcastInDim S33792x8x8 ![0, 1, 2] bcast_S33792x1x8_S33792x8x8_0_1_2 (res_main_v49 (launchContents m c)))))⟩, ⟨S33792x8x8, (addf (mulf (res_main_v51 (launchContents m c)) (broadcastInDim S33792x8x8 ![0, 1, 2] bcast_S33792x1x8_S33792x8x8_0_1_2 (res_main_v47 (launchContents m c)))) (mulf (res_main_v50 (launchContents m c)) (broadcastInDim S33792x8x8 ![0, 1, 2] bcast_S33792x1x8_S33792x8x8_0_1_2 (res_main_v49 (launchContents m c)))))⟩] concatenates_S33792x8x8_S33792x8x8_S33792x8x16_d2)⟩, ⟨S33792x8x48, (extractStridedSlice S33792x8x48 ![0, 0, 16] (res_main_v33 (launchContents m c)) slices_S33792x8x64_S33792x8x48_0_0_16)⟩] concatenates_S33792x8x16_S33792x8x48_S33792x8x64_d2) (broadcastInDim S33792x8x64 ![] bcast_S_S33792x8x64 (constant (F := Ideal) S_ .f32 0x3FB8AA3B#32))) shapeCasts_S33792x8x64_S33792x512) transposes_S33792x512_S512x33792_1_0) bitsLt_bf16_f32 : FVec Ideal S512x33792 .bf16) = qtR (zOf m c) := rfl

theorem res_qiR : (truncf .bf16 (transpose S256x33792 [1, 0] (shapeCast _ (concatenate S33792x4x64 2 [⟨S33792x4x16, (concatenate S33792x4x16 2 [⟨S33792x4x8, (subf (mulf (res_main_v118 (launchContents m c)) (broadcastInDim S33792x4x8 ![0, 1, 2] bcast_S33792x1x8_S33792x4x8_0_1_2 (res_main_v115 (launchContents m c)))) (mulf (res_main_v119 (launchContents m c)) (broadcastInDim S33792x4x8 ![0, 1, 2] bcast_S33792x1x8_S33792x4x8_0_1_2 (res_main_v117 (launchContents m c)))))⟩, ⟨S33792x4x8, (addf (mulf (res_main_v119 (launchContents m c)) (broadcastInDim S33792x4x8 ![0, 1, 2] bcast_S33792x1x8_S33792x4x8_0_1_2 (res_main_v115 (launchContents m c)))) (mulf (res_main_v118 (launchContents m c)) (broadcastInDim S33792x4x8 ![0, 1, 2] bcast_S33792x1x8_S33792x4x8_0_1_2 (res_main_v117 (launchContents m c)))))⟩] concatenates_S33792x4x8_S33792x4x8_S33792x4x16_d2)⟩, ⟨S33792x4x48, (extractStridedSlice S33792x4x48 ![0, 0, 16] (res_main_v101 (launchContents m c)) slices_S33792x4x64_S33792x4x48_0_0_16)⟩] concatenates_S33792x4x16_S33792x4x48_S33792x4x64_d2) shapeCasts_S33792x4x64_S33792x256) transposes_S33792x256_S256x33792_1_0) bitsLt_bf16_f32 : FVec Ideal S256x33792 .bf16) = qiR (zOf m c) := rfl

theorem res_wiR : (transpose S8x33792 [1, 0] (concatenate S33792x8 1 [⟨S33792x4, (mulf (extractStridedSlice S33792x4 ![0, 1088] (res_main_v16 (launchContents m c)) slices_S33792x2628_S33792x4_0_1088) (broadcastInDim S33792x4 ![] bcast_S_S33792x4 (constant (F := Ideal) S_ .f32 0x3F000000#32)))⟩, ⟨S33792x4, (broadcastInDim S33792x4 ![] bcast_S_S33792x4 (constant (F := Ideal) S_ .f32 0x00000000#32))⟩] concatenates_S33792x4_S33792x4_S33792x8_d1) transposes_S33792x8_S8x33792_1_0 : FVec Ideal S8x33792 .f32) = wiR (zOf m c) := rfl

theorem res_vtR : (truncf .bf16 (transpose S132x128x256 [0, 2, 1] (shapeCast _ (res_main_v19 (launchContents m c)) shapeCasts_S33792x128_S132x256x128) transposes_S132x256x128_S132x128x256_0_2_1) bitsLt_bf16_f32 : FVec Ideal S132x128x256 .bf16) = vtR (zOf m c) := rfl

theorem res_kbR : (truncf .bf16 (transpose S2x33792x128 [1, 0, 2] ((concatenate S33792x2x128 2 [⟨S33792x2x64, ((res_main_v98 (launchContents m c)) : (⟨S33792x2x64, .f32⟩ : BufTy).Contents (Elt Ideal))⟩, ⟨S33792x2x1, ((broadcastInDim S33792x2x1 ![] bcast_S_S33792x2x1 (constant (F := Ideal) S_ .f32 0x3F800000#32)) : (⟨S33792x2x1, .f32⟩ : BufTy).Contents (Elt Ideal))⟩, ⟨S33792x2x63, ((broadcastInDim S33792x2x63 ![] bcast_S_S33792x2x63 (constant (F := Ideal) S_ .f32 0x00000000#32)) : (⟨S33792x2x63, .f32⟩ : BufTy).Contents (Elt Ideal))⟩] concatenates_S33792x2x64_S33792x2x1_S33792x2x63_S33792x2x128_d2 : (⟨S33792x2x128, .f32⟩ : BufTy).Contents (Elt Ideal))) transposes_S33792x2x128_S2x33792x128_1_0_2) bitsLt_bf16_f32 : FVec Ideal S2x33792x128 .bf16) = kbR (zOf m c) := rfl

theorem res_jbR : (truncf .bf16 (res_main_v161 (launchContents m c)) bitsLt_bf16_f32 : FVec Ideal S33792x64 .bf16) = jbR (zOf m c) := rfl

theorem res_ktR : (transpose S128x33792 [1, 0] (shapeCast _ (res_main_v98 (launchContents m c)) shapeCasts_S33792x2x64_S33792x128) transposes_S33792x128_S128x33792_1_0 : FVec Ideal S128x33792 .f32) = ktR (zOf m c) := rfl

theorem res_v3R : (transpose S128x33792 [1, 0] (res_main_v19 (launchContents m c)) transposes_S33792x128_S128x33792_1_0 : FVec Ideal S128x33792 .f32) = v3R (zOf m c) := rfl

theorem res_jtR : (transpose S64x33792 [1, 0] (res_main_v161 (launchContents m c)) transposes_S33792x64_S64x33792_1_0 : FVec Ideal S64x33792 .f32) = jtR (zOf m c) := rfl

theorem res_uR : (mulf (extractStridedSlice S33792x512 ![0, 1604] (res_main_v16 (launchContents m c)) slices_S33792x2628_S33792x512_0_1604) (extractStridedSlice S33792x512 ![0, 2116] (res_main_v16 (launchContents m c)) slices_S33792x2628_S33792x512_0_2116) : FVec Ideal S33792x512 .f32) = uR (zOf m c) := rfl

theorem res_gR : (extractStridedSlice S33792x512 ![0, 1092] (res_main_v16 (launchContents m c)) slices_S33792x2628_S33792x512_0_1092 : FVec Ideal S33792x512 .f32) = gR (zOf m c) := rfl

end

end Cert.Proof.Proj

end
-- ==== Proof.My.ProjAt.lean ====
module

public import proofs.«01_k».proof.Proof.My.ProjRope
public import proofs.«01_k».proof.Proof.My.ProjZ
public import proofs.«01_k».proof.Proof.My.ProjRef
public import proofs.«01_k».proof.Proof.Gen.ProjIdeal.Value
public import proofs.«01_k».proof.Proof.Gen.ProjRefIdeal.Run
public import Idealize.ShloMosaic.Lib.Claim
public import Idealize.ShloMosaic.Lib.Pointwise
public import Idealize.ShloMosaic.Lib.Pipeline.ValueKit

@[expose] public section

set_option maxRecDepth 16384
set_option maxHeartbeats 8000000

noncomputable section

namespace Cert.Proof.Proj

open Idealize.ShloMosaic Idealize.ShloMosaic.TcCoe Idealize.SL.Sem

section
open Cert.ProjRefIdeal Cert.ProjRefIdeal.Gen

variable (z : FVec Ideal S33792x2628 .f32) (n : Fin 33792)

theorem zQ_at (h : Fin 8) (d : Fin 64) : zQ z (ix3 n h d) = (z (ix2 n ⟨64 * h.val + d.val, by omega⟩) : EReal) * (Ideal.ofBits .f32 0x3E000000#32 : EReal) := by
  pointwise [zQ]
  exact congrArg (fun a => (z (ix2 n a) : EReal) * _) (Fin.ext (by dsimp only; omega))

theorem zK_at (h : Fin 2) (d : Fin 64) : zK z (ix3 n h d) = z (ix2 n ⟨512 + (64 * h.val + d.val), by omega⟩) := by
  pointwise [zK]
  blk_ext

theorem zI_at (h : Fin 4) (d : Fin 64) : zI z (ix3 n h d) = (z (ix2 n ⟨768 + (64 * h.val + d.val), by omega⟩) : EReal) * (Ideal.ofBits .f32 0x3E000000#32 : EReal) := by
  pointwise [zI]
  exact congrArg (fun a => (z (ix2 n a) : EReal) * _) (Fin.ext (by dsimp only; omega))

theorem zJ_at (h : Fin 1) (d : Fin 64) : zJ z (ix3 n h d) = z (ix2 n ⟨1024 + d.val, by omega⟩) := by
  pointwise [zJ]

theorem qtR_at (h : Fin 8) (d : Fin 64) : (qtR z (ix2 ⟨64 * h.val + d.val, by omega⟩ n) : EReal) = (scaleQ (ropeQ (zQ z) cosRef sinRef) (ix3 n h d) : EReal) := by
  unfold qtR
  generalize scaleQ (ropeQ (zQ z) cosRef sinRef) = a
  pointwise

theorem qiR_at (h : Fin 4) (d : Fin 64) : (qiR z (ix2 ⟨64 * h.val + d.val, by omega⟩ n) : EReal) = (ropeI (zI z) cosRef sinRef (ix3 n h d) : EReal) := by
  unfold qiR
  generalize ropeI (zI z) cosRef sinRef = a
  pointwise

theorem ktR_at (h : Fin 2) (d : Fin 64) : ktR z (ix2 ⟨64 * h.val + d.val, by omega⟩ n) = kR z (ix3 n h d) := by
  unfold ktR
  generalize kR z = a
  pointwise

theorem jR_at (d : Fin 64) : jR z (ix2 n d) = ropeJ (zJ z) cosRef sinRef (ix3 n 0 d) := by
  unfold jR
  generalize ropeJ (zJ z) cosRef sinRef = a
  pointwise

theorem cosRef_at (d : Fin 8) : cosRef (ix3 n 0 d) = Host.cos angRef (ix2 n d) := by
  unfold cosRef
  generalize Host.cos angRef = a
  pointwise

theorem sinRef_at (d : Fin 8) : sinRef (ix3 n 0 d) = Host.sin angRef (ix2 n d) := by
  unfold sinRef
  generalize Host.sin angRef = a
  pointwise

end

section
open Cert.ProjIdeal Cert.ProjIdeal.Gen

variable (m : (ℓ : Loc nD τ sig) → Buf (Elt Ideal) ℓ) (c : Dev nD)

/-- The reference's projection, from the kernel's own arguments. -/
def Z : FVec Ideal Cert.ProjRefIdeal.S33792x2628 .f32 := zRef (m (c.tc.loc main_arg0)) (m (c.tc.loc main_arg1)) (wArr m c)

variable (t : Fin grid0.N) (r : Fin 512)

theorem hzQ (h : Fin 8) (d : Fin 64) : k0_pay8 (F := Ideal) (iblk m c 0 t) (iblk m c 1 t) (iblk m c 2 t) (ix2 ⟨0 + 64 * h.val + d.val, by omega⟩ r) = zQ (Z m c) (ix3 (row t r) h d) := by
  rw [show (⟨0 + 64 * h.val + d.val, by omega⟩ : Fin 1096) = ⟨64 * h.val + d.val, by omega⟩ from Fin.ext (by dsimp only; omega)]
  exact (z_q m c t r ⟨64 * h.val + d.val, by omega⟩).trans (zQ_at _ _ h d).symm

theorem hzK (h : Fin 2) (d : Fin 64) : k0_pay8 (F := Ideal) (iblk m c 0 t) (iblk m c 1 t) (iblk m c 2 t) (ix2 ⟨512 + 64 * h.val + d.val, by omega⟩ r) = zK (Z m c) (ix3 (row t r) h d) := by
  rw [show (⟨512 + 64 * h.val + d.val, by omega⟩ : Fin 1096) = ⟨512 + (64 * h.val + d.val), by omega⟩ from Fin.ext (by dsimp only; omega)]
  exact (z_kv m c t r ⟨64 * h.val + d.val, by omega⟩).trans (zK_at _ _ h d).symm

theorem hzI (h : Fin 4) (d : Fin 64) : k0_pay8 (F := Ideal) (iblk m c 0 t) (iblk m c 1 t) (iblk m c 2 t) (ix2 ⟨768 + 64 * h.val + d.val, by omega⟩ r) = zI (Z m c) (ix3 (row t r) h d) := by
  rw [show (⟨768 + 64 * h.val + d.val, by omega⟩ : Fin 1096) = ⟨768 + (64 * h.val + d.val), by omega⟩ from Fin.ext (by dsimp only; omega)]
  exact (z_iq m c t r ⟨64 * h.val + d.val, by omega⟩).trans (zI_at _ _ h d).symm

theorem hzJ (h : Fin 1) (d : Fin 64) : k0_pay8 (F := Ideal) (iblk m c 0 t) (iblk m c 1 t) (iblk m c 2 t) (ix2 ⟨1024 + 64 * h.val + d.val, by omega⟩ r) = zJ (Z m c) (ix3 (row t r) h d) := by
  rw [show (⟨1024 + 64 * h.val + d.val, by omega⟩ : Fin 1096) = ⟨1024 + d.val, by omega⟩ from Fin.ext (by dsimp only; omega)]
  exact (z_ik m c t r d).trans (zJ_at _ _ h d).symm

theorem hc (d : Fin 8) : iblk m c 4 t (ix2 d r) = cosRef (ix3 (row t r) 0 d) := (cos_read m c t r d).trans (cosRef_at _ d).symm

theorem hs (d : Fin 8) : iblk m c 5 t (ix2 d r) = sinRef (ix3 (row t r) 0 d) := (sin_read m c t r d).trans (sinRef_at _ d).symm

theorem hc9 (d : Fin 8) : k0_pay9 (F := Ideal) (iblk m c 4 t) (ix2 d r) = cosRef (ix3 (row t r) 0 d) := by
  refine Eq.trans ?_ (hc m c t r d)
  generalize iblk m c 4 t = a
  pointwise [k0_pay9]

theorem hs10 (d : Fin 8) : k0_pay10 (F := Ideal) (iblk m c 5 t) (ix2 d r) = sinRef (ix3 (row t r) 0 d) := by
  refine Eq.trans ?_ (hs m c t r d)
  generalize iblk m c 5 t = a
  pointwise [k0_pay10]

end

end Cert.Proof.Proj

end
-- ==== Proof.My.ProjRopeQ.lean ====
module

public import proofs.«01_k».proof.Proof.My.ProjRope
public import proofs.«01_k».proof.Proof.Gen.ProjIdeal.Value
public import proofs.«01_k».proof.Proof.Gen.ProjRefIdeal.Run
public import Idealize.ShloMosaic.Lib.Claim
public import Idealize.ShloMosaic.Lib.Pointwise
public import Idealize.ShloMosaic.Lib.Pipeline.ValueKit

@[expose] public section

set_option maxRecDepth 16384
set_option maxHeartbeats 4000000

noncomputable section

namespace Cert.Proof.Proj

open Idealize.ShloMosaic Idealize.ShloMosaic.TcCoe Idealize.SL.Sem

section
open Cert.ProjIdeal Cert.ProjIdeal.Gen

/-- The kernel's query heads, stacked: of each head its two turned eighths and the rest. -/
def catQ (v20 : FVec Ideal S8x512 .f32) (v22 : FVec Ideal S8x512 .f32) (v23 : FVec Ideal S512x512 .f32) (v28 : FVec Ideal S8x512 .f32) (v31 : FVec Ideal S8x512 .f32) (v32 : FVec Ideal S48x512 .f32) (v37 : FVec Ideal S8x512 .f32) (v40 : FVec Ideal S8x512 .f32) (v41 : FVec Ideal S48x512 .f32) (v42 : FVec Ideal S8x512 .f32) (v43 : FVec Ideal S8x512 .f32) (v44 : FVec Ideal S8x512 .f32) : FVec Ideal S512x512 .f32 :=
  concatenate S512x512 0 [⟨S8x512, v28⟩, ⟨S8x512, v31⟩, ⟨S48x512, v32⟩, ⟨S8x512, v37⟩, ⟨S8x512, v40⟩, ⟨S48x512, v41⟩, ⟨S8x512, (subf v44 (mulf v43 v22))⟩, ⟨S8x512, (addf (mulf v43 v20) (mulf v42 v22))⟩, ⟨S48x512, (extractStridedSlice S48x512 ![144, 0] v23 slices_S512x512_o144_0_S48x512)⟩, ⟨S8x512, (subf (mulf (extractStridedSlice S8x512 ![192, 0] v23 slices_S512x512_o192_0_S8x512) v20) (mulf (extractStridedSlice S8x512 ![200, 0] v23 slices_S512x512_o200_0_S8x512) v22))⟩, ⟨S8x512, (addf (mulf (extractStridedSlice S8x512 ![200, 0] v23 slices_S512x512_o200_0_S8x512) v20) (mulf (extractStridedSlice S8x512 ![192, 0] v23 slices_S512x512_o192_0_S8x512) v22))⟩, ⟨S48x512, (extractStridedSlice S48x512 ![208, 0] v23 slices_S512x512_o208_0_S48x512)⟩, ⟨S8x512, (subf (mulf (extractStridedSlice S8x512 ![256, 0] v23 slices_S512x512_o256_0_S8x512) v20) (mulf (extractStridedSlice S8x512 ![264, 0] v23 slices_S512x512_o264_0_S8x512) v22))⟩, ⟨S8x512, (addf (mulf (extractStridedSlice S8x512 ![264, 0] v23 slices_S512x512_o264_0_S8x512) v20) (mulf (extractStridedSlice S8x512 ![256, 0] v23 slices_S512x512_o256_0_S8x512) v22))⟩, ⟨S48x512, (extractStridedSlice S48x512 ![272, 0] v23 slices_S512x512_o272_0_S48x512)⟩, ⟨S8x512, (subf (mulf (extractStridedSlice S8x512 ![320, 0] v23 slices_S512x512_o320_0_S8x512) v20) (mulf (extractStridedSlice S8x512 ![328, 0] v23 slices_S512x512_o328_0_S8x512) v22))⟩, ⟨S8x512, (addf (mulf (extractStridedSlice S8x512 ![328, 0] v23 slices_S512x512_o328_0_S8x512) v20) (mulf (extractStridedSlice S8x512 ![320, 0] v23 slices_S512x512_o320_0_S8x512) v22))⟩, ⟨S48x512, (extractStridedSlice S48x512 ![336, 0] v23 slices_S512x512_o336_0_S48x512)⟩, ⟨S8x512, (subf (mulf (extractStridedSlice S8x512 ![384, 0] v23 slices_S512x512_o384_0_S8x512) v20) (mulf (extractStridedSlice S8x512 ![392, 0] v23 slices_S512x512_o392_0_S8x512) v22))⟩, ⟨S8x512, (addf (mulf (extractStridedSlice S8x512 ![392, 0] v23 slices_S512x512_o392_0_S8x512) v20) (mulf (extractStridedSlice S8x512 ![384, 0] v23 slices_S512x512_o384_0_S8x512) v22))⟩, ⟨S48x512, (extractStridedSlice S48x512 ![400, 0] v23 slices_S512x512_o400_0_S48x512)⟩, ⟨S8x512, (subf (mulf (extractStridedSlice S8x512 ![448, 0] v23 slices_S512x512_o448_0_S8x512) v20) (mulf (extractStridedSlice S8x512 ![456, 0] v23 slices_S512x512_o456_0_S8x512) v22))⟩, ⟨S8x512, (addf (mulf (extractStridedSlice S8x512 ![456, 0] v23 slices_S512x512_o456_0_S8x512) v20) (mulf (extractStridedSlice S8x512 ![448, 0] v23 slices_S512x512_o448_0_S8x512) v22))⟩, ⟨S48x512, (extractStridedSlice S48x512 ![464, 0] v23 slices_S512x512_o464_0_S48x512)⟩] concatenates_S8x512_S8x512_S48x512_S8x512_S8x512_S48x512_S8x512_S8x512_S48x512_S8x512_S8x512_S48x512_S8x512_S8x512_S48x512_S8x512_S8x512_S48x512_S8x512_S8x512_S48x512_S8x512_S8x512_S48x512_S512x512_d0

theorem pay25_at (v20 : FVec Ideal S8x512 .f32) (v22 : FVec Ideal S8x512 .f32) (v23 : FVec Ideal S512x512 .f32) (v28 : FVec Ideal S8x512 .f32) (v31 : FVec Ideal S8x512 .f32) (v32 : FVec Ideal S48x512 .f32) (v37 : FVec Ideal S8x512 .f32) (v40 : FVec Ideal S8x512 .f32) (v41 : FVec Ideal S48x512 .f32) (v42 : FVec Ideal S8x512 .f32) (v43 : FVec Ideal S8x512 .f32) (v44 : FVec Ideal S8x512 .f32) (j : S512x512.Idx) :
    (k0_pay25 (F := Ideal) v20 v22 v23 v28 v31 v32 v37 v40 v41 v42 v43 v44 j : EReal) = (catQ v20 v22 v23 v28 v31 v32 v37 v40 v41 v42 v43 v44 j : EReal) * (Ideal.ofBits .f32 0x3FB8AA3B#32 : EReal) := rfl

theorem scaleQ_at (z : FVec Ideal Cert.ProjRefIdeal.S33792x8x64 .f32) (n : Fin 33792) (h : Fin 8) (d : Fin 64) :
    (scaleQ z (ix3 n h d) : EReal) = (z (ix3 n h d) : EReal) * (Ideal.ofBits .f32 0x3FB8AA3B#32 : EReal) := by
  pointwise [scaleQ]

/-- Off the stacked axis nothing moves. -/
theorem stays {a : Nat} (i : Fin a) (j : Fin 512) (r : Fin 512) (b : Fin 2) (hb : b ≠ 0) :
    (ix2 i r b).val = (ix2 j r b).val := by
  fin_cases b
  · exact absurd rfl hb
  · rfl

variable (v0 : FVec Ideal S512x1024 .f32) (v1 : FVec Ideal S1x1024 .f32) (v16 : FVec Ideal S1096x1024 .bf16) (v20 v22 : FVec Ideal S8x512 .f32) (z : FVec Ideal Cert.ProjRefIdeal.S33792x8x64 .f32) (cs sn : FVec Ideal Cert.ProjRefIdeal.S33792x1x8 .f32) (r : Fin 512) (n : Fin 33792)

/-- Head 0 of the stacked queries is the reference's. -/
theorem q_head_0
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 0) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 0 ?hk0 S8x512 ?x0 ?hx0 rfl 0 ?hp0 (ix2 ⟨d.val - 0, by omega⟩ r) ?ho0 ?ha0) ?_
    case hk0 => show 0 < 24; omega
    case hx0 => rfl
    case hp0 => show (([] : List Nat)).sum = 0; decide +kernel
    case ho0 => exact fun b hb => stays _ _ r b hb
    case ha0 => show 0 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 1 ?hk1 S8x512 ?x1 ?hx1 rfl 8 ?hp1 (ix2 ⟨d.val - 8, by omega⟩ r) ?ho1 ?ha1) ?_
    case hk1 => show 1 < 24; omega
    case hx1 => rfl
    case hp1 => show (([8] : List Nat)).sum = 8; decide +kernel
    case ho1 => exact fun b hb => stays _ _ r b hb
    case ha1 => show 8 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 2 ?hk2 S48x512 ?x2 ?hx2 rfl 16 ?hp2 (ix2 ⟨d.val - 16, by omega⟩ r) ?ho2 ?ha2) ?_
    case hk2 => show 2 < 24; omega
    case hx2 => rfl
    case hp2 => show (([8, 8] : List Nat)).sum = 16; decide +kernel
    case ho2 => exact fun b hb => stays _ _ r b hb
    case ha2 => show 16 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 1 of the stacked queries is the reference's. -/
theorem q_head_1
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 1) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 3 ?hk3 S8x512 ?x3 ?hx3 rfl 64 ?hp3 (ix2 ⟨d.val - 0, by omega⟩ r) ?ho3 ?ha3) ?_
    case hk3 => show 3 < 24; omega
    case hx3 => rfl
    case hp3 => show (([8, 8, 48] : List Nat)).sum = 64; decide +kernel
    case ho3 => exact fun b hb => stays _ _ r b hb
    case ha3 => show 64 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 4 ?hk4 S8x512 ?x4 ?hx4 rfl 72 ?hp4 (ix2 ⟨d.val - 8, by omega⟩ r) ?ho4 ?ha4) ?_
    case hk4 => show 4 < 24; omega
    case hx4 => rfl
    case hp4 => show (([8, 8, 48, 8] : List Nat)).sum = 72; decide +kernel
    case ho4 => exact fun b hb => stays _ _ r b hb
    case ha4 => show 72 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 5 ?hk5 S48x512 ?x5 ?hx5 rfl 80 ?hp5 (ix2 ⟨d.val - 16, by omega⟩ r) ?ho5 ?ha5) ?_
    case hk5 => show 5 < 24; omega
    case hx5 => rfl
    case hp5 => show (([8, 8, 48, 8, 8] : List Nat)).sum = 80; decide +kernel
    case ho5 => exact fun b hb => stays _ _ r b hb
    case ha5 => show 80 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 2 of the stacked queries is the reference's. -/
theorem q_head_2
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 2) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 6 ?hk6 S8x512 ?x6 ?hx6 rfl 128 ?hp6 (ix2 ⟨d.val - 0, by omega⟩ r) ?ho6 ?ha6) ?_
    case hk6 => show 6 < 24; omega
    case hx6 => rfl
    case hp6 => show (([8, 8, 48, 8, 8, 48] : List Nat)).sum = 128; decide +kernel
    case ho6 => exact fun b hb => stays _ _ r b hb
    case ha6 => show 128 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 7 ?hk7 S8x512 ?x7 ?hx7 rfl 136 ?hp7 (ix2 ⟨d.val - 8, by omega⟩ r) ?ho7 ?ha7) ?_
    case hk7 => show 7 < 24; omega
    case hx7 => rfl
    case hp7 => show (([8, 8, 48, 8, 8, 48, 8] : List Nat)).sum = 136; decide +kernel
    case ho7 => exact fun b hb => stays _ _ r b hb
    case ha7 => show 136 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 8 ?hk8 S48x512 ?x8 ?hx8 rfl 144 ?hp8 (ix2 ⟨d.val - 16, by omega⟩ r) ?ho8 ?ha8) ?_
    case hk8 => show 8 < 24; omega
    case hx8 => rfl
    case hp8 => show (([8, 8, 48, 8, 8, 48, 8, 8] : List Nat)).sum = 144; decide +kernel
    case ho8 => exact fun b hb => stays _ _ r b hb
    case ha8 => show 144 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 3 of the stacked queries is the reference's. -/
theorem q_head_3
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 3) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 9 ?hk9 S8x512 ?x9 ?hx9 rfl 192 ?hp9 (ix2 ⟨d.val - 0, by omega⟩ r) ?ho9 ?ha9) ?_
    case hk9 => show 9 < 24; omega
    case hx9 => rfl
    case hp9 => show (([8, 8, 48, 8, 8, 48, 8, 8, 48] : List Nat)).sum = 192; decide +kernel
    case ho9 => exact fun b hb => stays _ _ r b hb
    case ha9 => show 192 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 10 ?hk10 S8x512 ?x10 ?hx10 rfl 200 ?hp10 (ix2 ⟨d.val - 8, by omega⟩ r) ?ho10 ?ha10) ?_
    case hk10 => show 10 < 24; omega
    case hx10 => rfl
    case hp10 => show (([8, 8, 48, 8, 8, 48, 8, 8, 48, 8] : List Nat)).sum = 200; decide +kernel
    case ho10 => exact fun b hb => stays _ _ r b hb
    case ha10 => show 200 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 11 ?hk11 S48x512 ?x11 ?hx11 rfl 208 ?hp11 (ix2 ⟨d.val - 16, by omega⟩ r) ?ho11 ?ha11) ?_
    case hk11 => show 11 < 24; omega
    case hx11 => rfl
    case hp11 => show (([8, 8, 48, 8, 8, 48, 8, 8, 48, 8, 8] : List Nat)).sum = 208; decide +kernel
    case ho11 => exact fun b hb => stays _ _ r b hb
    case ha11 => show 208 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 4 of the stacked queries is the reference's. -/
theorem q_head_4
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 4) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 12 ?hk12 S8x512 ?x12 ?hx12 rfl 256 ?hp12 (ix2 ⟨d.val - 0, by omega⟩ r) ?ho12 ?ha12) ?_
    case hk12 => show 12 < 24; omega
    case hx12 => rfl
    case hp12 => show (([8, 8, 48, 8, 8, 48, 8, 8, 48, 8, 8, 48] : List Nat)).sum = 256; decide +kernel
    case ho12 => exact fun b hb => stays _ _ r b hb
    case ha12 => show 256 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 13 ?hk13 S8x512 ?x13 ?hx13 rfl 264 ?hp13 (ix2 ⟨d.val - 8, by omega⟩ r) ?ho13 ?ha13) ?_
    case hk13 => show 13 < 24; omega
    case hx13 => rfl
    case hp13 => show (([8, 8, 48, 8, 8, 48, 8, 8, 48, 8, 8, 48, 8] : List Nat)).sum = 264; decide +kernel
    case ho13 => exact fun b hb => stays _ _ r b hb
    case ha13 => show 264 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 14 ?hk14 S48x512 ?x14 ?hx14 rfl 272 ?hp14 (ix2 ⟨d.val - 16, by omega⟩ r) ?ho14 ?ha14) ?_
    case hk14 => show 14 < 24; omega
    case hx14 => rfl
    case hp14 => show (([8, 8, 48, 8, 8, 48, 8, 8, 48, 8, 8, 48, 8, 8] : List Nat)).sum = 272; decide +kernel
    case ho14 => exact fun b hb => stays _ _ r b hb
    case ha14 => show 272 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 5 of the stacked queries is the reference's. -/
theorem q_head_5
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 5) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 15 ?hk15 S8x512 ?x15 ?hx15 rfl 320 ?hp15 (ix2 ⟨d.val - 0, by omega⟩ r) ?ho15 ?ha15) ?_
    case hk15 => show 15 < 24; omega
    case hx15 => rfl
    case hp15 => show (([8, 8, 48, 8, 8, 48, 8, 8, 48, 8, 8, 48, 8, 8, 48] : List Nat)).sum = 320; decide +kernel
    case ho15 => exact fun b hb => stays _ _ r b hb
    case ha15 => show 320 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 16 ?hk16 S8x512 ?x16 ?hx16 rfl 328 ?hp16 (ix2 ⟨d.val - 8, by omega⟩ r) ?ho16 ?ha16) ?_
    case hk16 => show 16 < 24; omega
    case hx16 => rfl
    case hp16 => show (([8, 8, 48, 8, 8, 48, 8, 8, 48, 8, 8, 48, 8, 8, 48, 8] : List Nat)).sum = 328; decide +kernel
    case ho16 => exact fun b hb => stays _ _ r b hb
    case ha16 => show 328 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 17 ?hk17 S48x512 ?x17 ?hx17 rfl 336 ?hp17 (ix2 ⟨d.val - 16, by omega⟩ r) ?ho17 ?ha17) ?_
    case hk17 => show 17 < 24; omega
    case hx17 => rfl
    case hp17 => show (([8, 8, 48, 8, 8, 48, 8, 8, 48, 8, 8, 48, 8, 8, 48, 8, 8] : List Nat)).sum = 336; decide +kernel
    case ho17 => exact fun b hb => stays _ _ r b hb
    case ha17 => show 336 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 6 of the stacked queries is the reference's. -/
theorem q_head_6
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 6) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 18 ?hk18 S8x512 ?x18 ?hx18 rfl 384 ?hp18 (ix2 ⟨d.val - 0, by omega⟩ r) ?ho18 ?ha18) ?_
    case hk18 => show 18 < 24; omega
    case hx18 => rfl
    case hp18 => show (([8, 8, 48, 8, 8, 48, 8, 8, 48, 8, 8, 48, 8, 8, 48, 8, 8, 48] : List Nat)).sum = 384; decide +kernel
    case ho18 => exact fun b hb => stays _ _ r b hb
    case ha18 => show 384 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 19 ?hk19 S8x512 ?x19 ?hx19 rfl 392 ?hp19 (ix2 ⟨d.val - 8, by omega⟩ r) ?ho19 ?ha19) ?_
    case hk19 => show 19 < 24; omega
    case hx19 => rfl
    case hp19 => show (([8, 8, 48, 8, 8, 48, 8, 8, 48, 8, 8, 48, 8, 8, 48, 8, 8, 48, 8] : List Nat)).sum = 392; decide +kernel
    case ho19 => exact fun b hb => stays _ _ r b hb
    case ha19 => show 392 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 20 ?hk20 S48x512 ?x20 ?hx20 rfl 400 ?hp20 (ix2 ⟨d.val - 16, by omega⟩ r) ?ho20 ?ha20) ?_
    case hk20 => show 20 < 24; omega
    case hx20 => rfl
    case hp20 => show (([8, 8, 48, 8, 8, 48, 8, 8, 48, 8, 8, 48, 8, 8, 48, 8, 8, 48, 8, 8] : List Nat)).sum = 400; decide +kernel
    case ho20 => exact fun b hb => stays _ _ r b hb
    case ha20 => show 400 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 7 of the stacked queries is the reference's. -/
theorem q_head_7
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 7) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 21 ?hk21 S8x512 ?x21 ?hx21 rfl 448 ?hp21 (ix2 ⟨d.val - 0, by omega⟩ r) ?ho21 ?ha21) ?_
    case hk21 => show 21 < 24; omega
    case hx21 => rfl
    case hp21 => show (([8, 8, 48, 8, 8, 48, 8, 8, 48, 8, 8, 48, 8, 8, 48, 8, 8, 48, 8, 8, 48] : List Nat)).sum = 448; decide +kernel
    case ho21 => exact fun b hb => stays _ _ r b hb
    case ha21 => show 448 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 22 ?hk22 S8x512 ?x22 ?hx22 rfl 456 ?hp22 (ix2 ⟨d.val - 8, by omega⟩ r) ?ho22 ?ha22) ?_
    case hk22 => show 22 < 24; omega
    case hx22 => rfl
    case hp22 => show (([8, 8, 48, 8, 8, 48, 8, 8, 48, 8, 8, 48, 8, 8, 48, 8, 8, 48, 8, 8, 48, 8] : List Nat)).sum = 456; decide +kernel
    case ho22 => exact fun b hb => stays _ _ r b hb
    case ha22 => show 456 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 23 ?hk23 S48x512 ?x23 ?hx23 rfl 464 ?hp23 (ix2 ⟨d.val - 16, by omega⟩ r) ?ho23 ?ha23) ?_
    case hk23 => show 23 < 24; omega
    case hx23 => rfl
    case hp23 => show (([8, 8, 48, 8, 8, 48, 8, 8, 48, 8, 8, 48, 8, 8, 48, 8, 8, 48, 8, 8, 48, 8, 8] : List Nat)).sum = 464; decide +kernel
    case ho23 => exact fun b hb => stays _ _ r b hb
    case ha23 => show 464 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Rotated and scaled query heads of one row. -/
theorem q_row
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) :
    (k0_pay25 (F := Ideal) (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = (scaleQ (ropeQ z cs sn) (ix3 n h d) : EReal) := by
  rw [scaleQ_at]
  refine (pay25_at _ _ _ _ _ _ _ _ _ _ _ _ _).trans (congrArg (fun x : EReal => x * _) ?_)
  have hh := h.isLt
  rcases (by omega : h.val = 0 ∨ h.val = 1 ∨ h.val = 2 ∨ h.val = 3 ∨ h.val = 4 ∨ h.val = 5 ∨ h.val = 6 ∨ h.val = 7) with e | e | e | e | e | e | e | e
  · exact q_head_0 v0 v1 v16 v20 v22 z cs sn r n hz hc hs h d e
  · exact q_head_1 v0 v1 v16 v20 v22 z cs sn r n hz hc hs h d e
  · exact q_head_2 v0 v1 v16 v20 v22 z cs sn r n hz hc hs h d e
  · exact q_head_3 v0 v1 v16 v20 v22 z cs sn r n hz hc hs h d e
  · exact q_head_4 v0 v1 v16 v20 v22 z cs sn r n hz hc hs h d e
  · exact q_head_5 v0 v1 v16 v20 v22 z cs sn r n hz hc hs h d e
  · exact q_head_6 v0 v1 v16 v20 v22 z cs sn r n hz hc hs h d e
  · exact q_head_7 v0 v1 v16 v20 v22 z cs sn r n hz hc hs h d e

end

end Cert.Proof.Proj

end
-- ==== Proof.My.ProjValue.lean ====
module

public import proofs.«01_k».proof.Proof.My.ProjRope
public import proofs.«01_k».proof.Defs
public import proofs.«01_k».proof.Proof.My.ProjZ
public import proofs.«01_k».proof.Proof.My.ProjRef
public import proofs.«01_k».proof.Proof.My.ProjAt
public import proofs.«01_k».proof.Proof.My.ProjRopeQ
public import proofs.«01_k».proof.Proof.Gen.ProjIdeal.Value
public import proofs.«01_k».proof.Proof.Gen.ProjRefIdeal.Run
public import Idealize.ShloMosaic.Lib.Claim
public import Idealize.ShloMosaic.Lib.Pointwise
public import Idealize.ShloMosaic.Lib.Pipeline.ValueKit

@[expose] public section

set_option maxRecDepth 16384
set_option maxHeartbeats 8000000

noncomputable section

namespace Cert.Proof.Proj

open Idealize.ShloMosaic Idealize.ShloMosaic.TcCoe Idealize.SL.Sem

section
open Cert.ProjIdeal Cert.ProjIdeal.Gen
open Idealize.ShloMosaic.Pipeline (Dat)

/-- What the two stores of a window leave in its first plane, -/
theorem two9_lo (w1 w0 : S1x128x256.Idx → Elt Ideal .bf16) (i : Fin 128) (r : Fin 256) :
    View.canon [(⟨r0_9, w1⟩ : View.Piece (Elt Ideal) S2x128x256 .bf16), ⟨r0_8, w0⟩] (ix3 0 i r) = w0 (ix3 0 i r) := by
  rw [View.canon_cons_of_not_mem]
  · rw [show (ix3 0 i r : S2x128x256.Idx) = r0_8.emb (ix3 0 i r) by blk_ext]
    exact View.canon_cons_emb r0_8 w0 [] _
  · intro h
    obtain ⟨x, hx⟩ := r0_9.exists_idx_of_mem h
    have := congrArg Fin.val (congrFun hx 0)
    change 1 + _ = 0 at this
    omega

/-- and in its second one. -/
theorem two9_hi (w1 w0 : S1x128x256.Idx → Elt Ideal .bf16) (i : Fin 128) (r : Fin 256) :
    View.canon [(⟨r0_9, w1⟩ : View.Piece (Elt Ideal) S2x128x256 .bf16), ⟨r0_8, w0⟩] (ix3 1 i r) = w1 (ix3 0 i r) := by
  rw [show (ix3 1 i r : S2x128x256.Idx) = r0_9.emb (ix3 0 i r) by blk_ext]
  exact View.canon_cons_emb r0_9 w1 _ _

/-- What the two stores of a window leave in its first plane, -/
theorem two10_lo (w1 w0 : S1x512x128.Idx → Elt Ideal .bf16) (i : Fin 512) (r : Fin 128) :
    View.canon [(⟨r0_7, w1⟩ : View.Piece (Elt Ideal) S2x512x128 .bf16), ⟨r0_6, w0⟩] (ix3 0 i r) = w0 (ix3 0 i r) := by
  rw [View.canon_cons_of_not_mem]
  · rw [show (ix3 0 i r : S2x512x128.Idx) = r0_6.emb (ix3 0 i r) by blk_ext]
    exact View.canon_cons_emb r0_6 w0 [] _
  · intro h
    obtain ⟨x, hx⟩ := r0_7.exists_idx_of_mem h
    have := congrArg Fin.val (congrFun hx 0)
    change 1 + _ = 0 at this
    omega

/-- and in its second one. -/
theorem two10_hi (w1 w0 : S1x512x128.Idx → Elt Ideal .bf16) (i : Fin 512) (r : Fin 128) :
    View.canon [(⟨r0_7, w1⟩ : View.Piece (Elt Ideal) S2x512x128 .bf16), ⟨r0_6, w0⟩] (ix3 1 i r) = w1 (ix3 0 i r) := by
  rw [show (ix3 1 i r : S2x512x128.Idx) = r0_7.emb (ix3 0 i r) by blk_ext]
  exact View.canon_cons_emb r0_7 w1 _ _

/-- Beside the keys a lane of ones and zeros. -/
theorem ones_at (r : Fin 512) (i : Fin 64) : (k0_pay28 (F := Ideal) (ix2 r i) : EReal) = if i.val = 0 then 1 else 0 := by
  pointwise [k0_pay28]
  by_cases h : i.val = 0
  · rw [if_pos h, h]
    rfl
  · rw [if_neg h]
    have hb : BitVec.ofNat 32 i.val ≠ 0#32 := by
      intro e
      have e' := congrArg BitVec.toNat e
      have hi := i.isLt
      simp only [BitVec.toNat_ofNat] at e'
      omega
    simp [Scalar.select, IntOp.cmpi, beq_eq_false_iff_ne.mpr hb]

theorem kb_k0 (v18 : FVec Ideal S1096x512 .f32) (v20 v22 : FVec Ideal S8x512 .f32) (r : Fin 512) (i : Fin 128) :
    (k0_pay29 (F := Ideal) v18 v20 v22 (ix3 0 r i) : EReal) = if h : i.val < 64 then k0_pay26 (F := Ideal) v18 v20 v22 (ix2 ⟨64 * 0 + i.val, by omega⟩ r) else if i.val = 64 then 1 else 0 := by
  unfold k0_pay29 k0_pay27
  generalize k0_pay26 (F := Ideal) v18 v20 v22 = a
  have e := ones_at r
  generalize k0_pay28 (F := Ideal) = w at e
  pointwise
  by_cases h : i.val < 64
  · rw [dif_pos h, dif_pos h]
    first | done | rfl | blk_ext
  · rw [dif_neg h, dif_neg h, e]
    by_cases h' : i.val = 64
    · rw [if_pos h', if_pos (by dsimp only; omega)]
    · rw [if_neg h', if_neg (by dsimp only; omega)]

theorem kb_k1 (v18 : FVec Ideal S1096x512 .f32) (v20 v22 : FVec Ideal S8x512 .f32) (r : Fin 512) (i : Fin 128) :
    (k0_pay30 (F := Ideal) v18 v20 v22 (ix3 0 r i) : EReal) = if h : i.val < 64 then k0_pay26 (F := Ideal) v18 v20 v22 (ix2 ⟨64 * 1 + i.val, by omega⟩ r) else if i.val = 64 then 1 else 0 := by
  unfold k0_pay30 k0_pay27
  generalize k0_pay26 (F := Ideal) v18 v20 v22 = a
  have e := ones_at r
  generalize k0_pay28 (F := Ideal) = w at e
  pointwise
  by_cases h : i.val < 64
  · rw [dif_pos h, dif_pos h]
    first | done | rfl | blk_ext
  · rw [dif_neg h, dif_neg h, e]
    by_cases h' : i.val = 64
    · rw [if_pos h', if_pos (by dsimp only; omega)]
    · rw [if_neg h', if_neg (by dsimp only; omega)]

theorem kbR_at (z : FVec Ideal Cert.ProjRefIdeal.S33792x2628 .f32) (b : Fin 2) (n : Fin 33792) (i : Fin 128) :
    (kbR z (ix3 b n i) : EReal) = if h : i.val < 64 then (kR z (ix3 n b ⟨i.val, h⟩) : EReal) else if i.val = 64 then 1 else 0 := by
  unfold kbR
  generalize kR z = a
  pointwise
  split_ifs <;> first | rfl | omega

variable (m : (ℓ : Loc nD τ sig) → Buf (Elt Ideal) ℓ) (c : Dev nD)

/-- The scaled queries. -/
theorem val6 : (dats m 0 c).arrAt 6 cfg0.N = qtR (Z m c) := by
  refine (dats m 0 c).arrAt_eq_of_covers 6 _ (by decide +kernel) fun t hf y => ?_
  obtain ⟨i, r, rfl⟩ : ∃ (i : Fin 512) (r : Fin 512), y = ix2 i r := ⟨y 0, y 1, by funext a; fin_cases a <;> rfl⟩
  blk_simp
  rw [after0_6]
  frame_out
  have ei : (((View.whole main_v40_0).slice (win0_6.rect t)).emb (ix2 i r)) = ix2 i (row t r) := by
    simp only [row]
    blk_ext [idx t]
  rw [ei]
  obtain ⟨h, d, rfl⟩ : ∃ (h : Fin 8) (d : Fin 64), i = ⟨64 * h.val + d.val, by omega⟩ := ⟨⟨i.val / 64, by omega⟩, ⟨i.val % 64, by omega⟩, Fin.ext (by dsimp only; omega)⟩
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  exact (q_row _ _ _ _ _ (zQ (Z m c)) cosRef sinRef r (row t r) (hzQ m c t r) (hc m c t r) (hs m c t r) h d).trans (qtR_at _ _ h d).symm

/-- The indexer's queries. -/
theorem val7 : (dats m 0 c).arrAt 7 cfg0.N = qiR (Z m c) := by
  refine (dats m 0 c).arrAt_eq_of_covers 7 _ (by decide +kernel) fun t hf y => ?_
  obtain ⟨i, r, rfl⟩ : ∃ (i : Fin 256) (r : Fin 512), y = ix2 i r := ⟨y 0, y 1, by funext a; fin_cases a <;> rfl⟩
  blk_simp
  rw [after0_7]
  frame_out
  have ei : (((View.whole main_v40_1).slice (win0_7.rect t)).emb (ix2 i r)) = ix2 i (row t r) := by
    simp only [row]
    blk_ext [idx t]
  rw [ei]
  obtain ⟨h, d, rfl⟩ : ∃ (h : Fin 4) (d : Fin 64), i = ⟨64 * h.val + d.val, by omega⟩ := ⟨⟨i.val / 64, by omega⟩, ⟨i.val % 64, by omega⟩, Fin.ext (by dsimp only; omega)⟩
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  exact (i_row _ _ _ (zI (Z m c)) cosRef sinRef r (row t r) (hzI m c t r) (hc9 m c t r) (hs10 m c t r) h d).trans (qiR_at _ _ h d).symm

/-- The indexer's head weights. -/
theorem val8 : (dats m 0 c).arrAt 8 cfg0.N = wiR (Z m c) := by
  refine (dats m 0 c).arrAt_eq_of_covers 8 _ (by decide +kernel) fun t hf y => ?_
  obtain ⟨i, r, rfl⟩ : ∃ (i : Fin 8) (r : Fin 512), y = ix2 i r := ⟨y 0, y 1, by funext a; fin_cases a <;> rfl⟩
  blk_simp
  rw [after0_8]
  frame_out
  have ei : (((View.whole main_v40_2).slice (win0_8.rect t)).emb (ix2 i r)) = ix2 i (row t r) := by
    simp only [row]
    blk_ext [idx t]
  rw [ei]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  have e3 : ∀ a, k0_pay3 (F := Ideal) a (ix2 i r) = a (ix2 ⟨1088 + i.val, by omega⟩ r) := by
    intro a
    pointwise [k0_pay3]
  rw [e3]
  rcases (by omega : i.val < 4 ∨ 4 ≤ i.val) with h | h
  · refine (z_iw m c t r ⟨i.val, h⟩).trans ?_
    show (Z m c _ : EReal) * _ = _
    generalize Z m c = a
    pointwise [wiR]
    rw [dif_pos h]
  · rw [show (⟨1088 + i.val, by omega⟩ : Fin 1096) = ⟨1092 + (i.val - 4), by omega⟩ from Fin.ext (by dsimp only; omega)]
    refine (z_0 m c t r ⟨i.val - 4, by omega⟩).trans ?_
    generalize Z m c = a
    pointwise [wiR]
    rw [dif_neg (by omega)]

/-- The values, in tiles. -/
theorem val9 : (dats m 0 c).arrAt 9 cfg0.N = vtR (Z m c) := by
  refine (dats m 0 c).arrAt_eq_of_covers 9 _ (by decide +kernel) fun t hf y => ?_
  obtain ⟨b, i, r, rfl⟩ : ∃ (b : Fin 2) (i : Fin 128) (r : Fin 256), y = ix3 b i r := ⟨y 0, y 1, y 2, by funext a; fin_cases a <;> rfl⟩
  blk_simp
  rw [after0_9]
  frame_out
  rw [show k0_pay40 (iblk m c 0 t) (iblk m c 1 t) (iblk m c 2 t) (iblk m c 3 t) (iblk m c 4 t) (iblk m c 5 t) = k0_pay31 (k0_pay8 (F := Ideal) (iblk m c 0 t) (iblk m c 1 t) (iblk m c 2 t)) by unfold k0_pay40; rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  have ht := t.isLt
  have hN : cfg0.grid.N = 66 := by decide +kernel
  have ei : (((View.whole main_v40_3).slice (win0_9.rect t)).emb (ix3 b i r)) = ix3 ⟨2 * (grid0.coords t 0).val + b.val, by have := (grid0.coords t 0).isLt; show 2 * _ + _ < 132; change _ < 66 at this; omega⟩ i r := by
    blk_ext [idx t]
  rw [ei]
  fin_cases b
  · refine (two9_lo _ _ i r).trans (Eq.trans ?_ ((z_kv m c t ⟨r.val, by omega⟩ ⟨128 + i.val, by omega⟩).trans ?_))
    · generalize k0_pay8 (F := Ideal) (iblk m c 0 t) (iblk m c 1 t) (iblk m c 2 t) = a
      pointwise [k0_pay33, k0_pay32, k0_pay31]
      blk_ext
    · show Z m c _ = _
      generalize Z m c = a
      pointwise [vtR, vR, row]
      blk_ext
  · refine (two9_hi _ _ i r).trans (Eq.trans ?_ ((z_kv m c t ⟨256 + r.val, by omega⟩ ⟨128 + i.val, by omega⟩).trans ?_))
    · generalize k0_pay8 (F := Ideal) (iblk m c 0 t) (iblk m c 1 t) (iblk m c 2 t) = a
      pointwise [k0_pay34, k0_pay31]
      blk_ext
    · show Z m c _ = _
      generalize Z m c = a
      pointwise [vtR, vR, row]
      blk_ext

/-- The keys with their lane of ones. -/
theorem val10 : (dats m 0 c).arrAt 10 cfg0.N = kbR (Z m c) := by
  refine (dats m 0 c).arrAt_eq_of_covers 10 _ (by decide +kernel) fun t hf y => ?_
  obtain ⟨b, r, i, rfl⟩ : ∃ (b : Fin 2) (r : Fin 512) (i : Fin 128), y = ix3 b r i := ⟨y 0, y 1, y 2, by funext a; fin_cases a <;> rfl⟩
  blk_simp
  rw [after0_10]
  frame_out
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  have ei : (((View.whole main_v40_4).slice (win0_10.rect t)).emb (ix3 b r i)) = ix3 b (row t r) i := by
    simp only [row]
    blk_ext [idx t]
  rw [ei]
  have hk := fun h d => k_row _ _ _ (zK (Z m c)) cosRef sinRef r (row t r) (hzK m c t r) (hc9 m c t r) (hs10 m c t r) h d
  rw [show ropeK (zK (Z m c)) cosRef sinRef = kR (Z m c) from rfl] at hk
  rw [kbR_at]
  fin_cases b
  · refine (two10_lo _ _ r i).trans ((kb_k0 _ _ _ r i).trans ?_)
    by_cases h : i.val < 64
    · rw [dif_pos h, dif_pos h]
      exact hk 0 ⟨i.val, h⟩
    · rw [dif_neg h, dif_neg h]
  · refine (two10_hi _ _ r i).trans ((kb_k1 _ _ _ r i).trans ?_)
    by_cases h : i.val < 64
    · rw [dif_pos h, dif_pos h]
      exact hk 1 ⟨i.val, h⟩
    · rw [dif_neg h, dif_neg h]

/-- The indexer's rounded keys. -/
theorem val11 : (dats m 0 c).arrAt 11 cfg0.N = jbR (Z m c) := by
  refine (dats m 0 c).arrAt_eq_of_covers 11 _ (by decide +kernel) fun t hf y => ?_
  obtain ⟨r, i, rfl⟩ : ∃ (r : Fin 512) (i : Fin 64), y = ix2 r i := ⟨y 0, y 1, by funext a; fin_cases a <;> rfl⟩
  blk_simp
  rw [after0_11]
  frame_out
  have ei : (((View.whole main_v40_5).slice (win0_11.rect t)).emb (ix2 r i)) = ix2 (row t r) i := by
    simp only [row]
    blk_ext [idx t]
  rw [ei]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  have ej := j_row _ _ _ (zJ (Z m c)) cosRef sinRef r (row t r) (hzJ m c t r) (hc9 m c t r) (hs10 m c t r) 0 i
  rw [show (⟨64 * (0 : Fin 1).val + i.val, by omega⟩ : Fin 64) = i from Fin.ext (by show 64 * 0 + i.val = i.val; omega)] at ej
  have e2 : ∀ a b e, (k0_pay2 (F := Ideal) a b e (ix2 r i) : EReal) = k0_pay1 (F := Ideal) a b e (ix2 i r) := by
    intro a b e
    pointwise [k0_pay2]
  refine (e2 _ _ _).trans (ej.trans ((jR_at _ _ i).symm.trans ?_))
  unfold jbR
  generalize jR (Z m c) = a
  pointwise

/-- The keys, in columns. -/
theorem val12 : (dats m 0 c).arrAt 12 cfg0.N = ktR (Z m c) := by
  refine (dats m 0 c).arrAt_eq_of_covers 12 _ (by decide +kernel) fun t hf y => ?_
  obtain ⟨i, r, rfl⟩ : ∃ (i : Fin 128) (r : Fin 512), y = ix2 i r := ⟨y 0, y 1, by funext a; fin_cases a <;> rfl⟩
  blk_simp
  rw [after0_12]
  frame_out
  have ei : (((View.whole main_v40_6).slice (win0_12.rect t)).emb (ix2 i r)) = ix2 i (row t r) := by
    simp only [row]
    blk_ext [idx t]
  rw [ei]
  obtain ⟨h, d, rfl⟩ : ∃ (h : Fin 2) (d : Fin 64), i = ⟨64 * h.val + d.val, by omega⟩ := ⟨⟨i.val / 64, by omega⟩, ⟨i.val % 64, by omega⟩, Fin.ext (by dsimp only; omega)⟩
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  exact (k_row _ _ _ (zK (Z m c)) cosRef sinRef r (row t r) (hzK m c t r) (hc9 m c t r) (hs10 m c t r) h d).trans (ktR_at _ _ h d).symm

/-- The values, in columns. -/
theorem val13 : (dats m 0 c).arrAt 13 cfg0.N = v3R (Z m c) := by
  refine (dats m 0 c).arrAt_eq_of_covers 13 _ (by decide +kernel) fun t hf y => ?_
  obtain ⟨i, r, rfl⟩ : ∃ (i : Fin 128) (r : Fin 512), y = ix2 i r := ⟨y 0, y 1, by funext a; fin_cases a <;> rfl⟩
  blk_simp
  rw [after0_13]
  frame_out
  have ei : (((View.whole main_v40_7).slice (win0_13.rect t)).emb (ix2 i r)) = ix2 i (row t r) := by
    simp only [row]
    blk_ext [idx t]
  rw [ei]
  rw [show k0_pay40 (iblk m c 0 t) (iblk m c 1 t) (iblk m c 2 t) (iblk m c 3 t) (iblk m c 4 t) (iblk m c 5 t) = k0_pay31 (k0_pay8 (F := Ideal) (iblk m c 0 t) (iblk m c 1 t) (iblk m c 2 t)) by unfold k0_pay40; rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]]
  refine Eq.trans ?_ ((z_kv m c t r ⟨128 + i.val, by omega⟩).trans ?_)
  · generalize k0_pay8 (F := Ideal) (iblk m c 0 t) (iblk m c 1 t) (iblk m c 2 t) = a
    pointwise [k0_pay31]
    try blk_ext
  · show Z m c _ = _
    generalize Z m c = a
    pointwise [v3R, vR]
    try blk_ext

/-- The indexer's keys, in columns. -/
theorem val14 : (dats m 0 c).arrAt 14 cfg0.N = jtR (Z m c) := by
  refine (dats m 0 c).arrAt_eq_of_covers 14 _ (by decide +kernel) fun t hf y => ?_
  obtain ⟨i, r, rfl⟩ : ∃ (i : Fin 64) (r : Fin 512), y = ix2 i r := ⟨y 0, y 1, by funext a; fin_cases a <;> rfl⟩
  blk_simp
  rw [after0_14]
  frame_out
  have ei : (((View.whole main_v40_8).slice (win0_14.rect t)).emb (ix2 i r)) = ix2 i (row t r) := by
    simp only [row]
    blk_ext [idx t]
  rw [ei]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  have ej := j_row _ _ _ (zJ (Z m c)) cosRef sinRef r (row t r) (hzJ m c t r) (hc9 m c t r) (hs10 m c t r) 0 i
  rw [show (⟨64 * (0 : Fin 1).val + i.val, by omega⟩ : Fin 64) = i from Fin.ext (by show 64 * 0 + i.val = i.val; omega)] at ej
  refine ej.trans ((jR_at _ _ i).symm.trans ?_)
  unfold jtR
  generalize jR (Z m c) = a
  pointwise

/-- The convolution's input. -/
theorem val15 : (dats m 0 c).arrAt 15 cfg0.N = uR (Z m c) := by
  refine (dats m 0 c).arrAt_eq_of_covers 15 _ (by decide +kernel) fun t hf y => ?_
  obtain ⟨r, i, rfl⟩ : ∃ (r : Fin 512) (i : Fin 512), y = ix2 r i := ⟨y 0, y 1, by funext a; fin_cases a <;> rfl⟩
  blk_simp
  rw [after0_15]
  frame_out
  have ei : (((View.whole main_v40_9).slice (win0_15.rect t)).emb (ix2 r i)) = ix2 (row t r) i := by
    simp only [row]
    blk_ext [idx t]
  rw [ei]
  rw [show k0_pay36 (iblk m c 0 t) (iblk m c 1 t) (iblk m c 2 t) (iblk m c 3 t) (iblk m c 4 t) (iblk m c 5 t) = k0_pay7 (F := Ideal) (iblk m c 0 t) (iblk m c 1 t) by unfold k0_pay36; frame_out]
  have e5 : ∀ a b, (k0_pay6 (F := Ideal) a b (ix2 r i) : EReal) = (k0_pay4 (F := Ideal) a b (ix2 r ⟨512 + i.val, by omega⟩) : EReal) * (k0_pay4 (F := Ideal) a b (ix2 r ⟨1024 + i.val, by omega⟩) : EReal) := by
    intro a b
    unfold k0_pay6
    generalize k0_pay4 (F := Ideal) a b = e
    pointwise
  refine (e5 _ _).trans ((congrArg₂ (fun a b : EReal => a * b) (zc_read m c t r ⟨512 + i.val, by omega⟩) (zc_read m c t r ⟨1024 + i.val, by omega⟩)).trans ?_)
  show (Z m c _ : EReal) * (Z m c _ : EReal) = _
  generalize Z m c = a
  pointwise [uR]
  blk_point

/-- The convolution's gate. -/
theorem val16 : (dats m 0 c).arrAt 16 cfg0.N = gR (Z m c) := by
  refine (dats m 0 c).arrAt_eq_of_covers 16 _ (by decide +kernel) fun t hf y => ?_
  obtain ⟨r, i, rfl⟩ : ∃ (r : Fin 512) (i : Fin 512), y = ix2 r i := ⟨y 0, y 1, by funext a; fin_cases a <;> rfl⟩
  blk_simp
  rw [after0_16]
  frame_out
  have ei : (((View.whole main_v40_10).slice (win0_16.rect t)).emb (ix2 r i)) = ix2 (row t r) i := by
    simp only [row]
    blk_ext [idx t]
  rw [ei]
  rw [show k0_pay36 (iblk m c 0 t) (iblk m c 1 t) (iblk m c 2 t) (iblk m c 3 t) (iblk m c 4 t) (iblk m c 5 t) = k0_pay7 (F := Ideal) (iblk m c 0 t) (iblk m c 1 t) by unfold k0_pay36; frame_out]
  have e5 : ∀ a b, (k0_pay5 (F := Ideal) a b (ix2 r i) : EReal) = (k0_pay4 (F := Ideal) a b (ix2 r ⟨i.val, by omega⟩) : EReal) := by
    intro a b
    unfold k0_pay5
    generalize k0_pay4 (F := Ideal) a b = e
    pointwise
  refine (e5 _ _).trans ((zc_read m c t r ⟨i.val, by omega⟩).trans ?_)
  show (Z m c _ : EReal) = _
  generalize Z m c = a
  pointwise [gR]

end

/-- Every run of the kernel's call and of the reference leaves the same eleven arrays. -/
theorem algebraic : Cert.algebraic_ProjIdeal_ProjRefIdeal := by
  pair_intro
  · run_from (Cert.ProjIdeal.Value.run_blocks m g)
  · run_from (Cert.ProjRefIdeal.Value.run m' g')
    all_goals obtain ⟨h0, h1, h2⟩ := hagree c
    all_goals
      have hz : zOf m' c = Z m c := by
        unfold zOf Z wArr
        rw [h0, h1, h2]
    · exact ((res_qtR m' c).trans (congrArg qtR hz)).trans (val6 m c).symm
    · exact ((res_qiR m' c).trans (congrArg qiR hz)).trans (val7 m c).symm
    · exact ((res_wiR m' c).trans (congrArg wiR hz)).trans (val8 m c).symm
    · exact ((res_vtR m' c).trans (congrArg vtR hz)).trans (val9 m c).symm
    · exact ((res_kbR m' c).trans (congrArg kbR hz)).trans (val10 m c).symm
    · exact ((res_jbR m' c).trans (congrArg jbR hz)).trans (val11 m c).symm
    · exact ((res_ktR m' c).trans (congrArg ktR hz)).trans (val12 m c).symm
    · exact ((res_v3R m' c).trans (congrArg v3R hz)).trans (val13 m c).symm
    · exact ((res_jtR m' c).trans (congrArg jtR hz)).trans (val14 m c).symm
    · exact ((res_uR m' c).trans (congrArg uR hz)).trans (val15 m c).symm
    · exact ((res_gR m' c).trans (congrArg gR hz)).trans (val16 m c).symm

/-- The reference runs to its end, keeps its arguments and leaves no semaphore raised. -/
theorem reference_frame : Cert.quiescent_ProjRefIdeal := fun m ρ _ =>
  (θ_run Cert.ProjRefIdeal.defs _ _).mono
    (fun r h => ⟨fun c => (h c).2.2.2.2.2.2.2.2.2.2.2, Idealize.ShloMosaic.sem_eq_zero_of_no_sems (by decide) r.2⟩)
    (Cert.ProjRefIdeal.Value.run (F := Ideal) m ρ)

end Cert.Proof.Proj

end
-- ==== Proof.My.LastValue.lean ====
module

public import proofs.«01_k».proof.Defs
public import proofs.«01_k».proof.Proof.Gen.LastIdeal.Value
public import proofs.«01_k».proof.Proof.Gen.LastRefIdeal.Run
public import Idealize.ShloMosaic.Lib.Claim
public import Idealize.ShloMosaic.Lib.Pointwise
public import Idealize.ShloMosaic.Lib.Quiescent
public import Idealize.ShloMosaic.Lib.Pipeline.ValueKit

@[expose] public section

set_option maxRecDepth 16384
set_option maxHeartbeats 2000000

noncomputable section

namespace Cert.Proof.Last

open Idealize.ShloMosaic Idealize.ShloMosaic.TcCoe Idealize.SL.Sem
open Idealize.ShloMosaic.Pipeline (Dat)

section

open Cert.LastRefIdeal Cert.LastRefIdeal.Gen

/-- The reference, as a function of the rows it keeps. -/
def ofKept (X : FVec Ideal S32768x1024 .f32) (l : FVec Ideal S4x1024 .f32) (u : FVec Ideal S1024x4096 .f32) (d : FVec Ideal S4096x1024 .f32) : FVec Ideal S32768x1024 .f32 :=
  addf X (mulf (mulf (Host.dotGeneral dot_S32768x4096_S4096x1024_S32768x1024_1_0_0_1_n_n none (mulf (maximumf (Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![2, 0] l slices_S4x1024_S1x1024_2_0) shapeCasts_S1x1024_S1024)))) u) (broadcastInDim S32768x4096 ![] bcast_S_S32768x4096 (constant S_ .f32 0x00000000#32))) (maximumf (Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![2, 0] l slices_S4x1024_S1x1024_2_0) shapeCasts_S1x1024_S1024)))) u) (broadcastInDim S32768x4096 ![] bcast_S_S32768x4096 (constant S_ .f32 0x00000000#32)))) d) (broadcastInDim S32768x1024 ![0, 1] bcast_S32768x1_S32768x1024_0_1 (Host.rsqrt (addf (Host.divf (broadcastInDim S32768x1 ![0] bcast_S32768_S32768x1_0 (Host.reduceAdd (mulf (Host.dotGeneral dot_S32768x4096_S4096x1024_S32768x1024_1_0_0_1_n_n none (mulf (maximumf (Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![2, 0] l slices_S4x1024_S1x1024_2_0) shapeCasts_S1x1024_S1024)))) u) (broadcastInDim S32768x4096 ![] bcast_S_S32768x4096 (constant S_ .f32 0x00000000#32))) (maximumf (Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![2, 0] l slices_S4x1024_S1x1024_2_0) shapeCasts_S1x1024_S1024)))) u) (broadcastInDim S32768x4096 ![] bcast_S_S32768x4096 (constant S_ .f32 0x00000000#32)))) d) (Host.dotGeneral dot_S32768x4096_S4096x1024_S32768x1024_1_0_0_1_n_n none (mulf (maximumf (Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![2, 0] l slices_S4x1024_S1x1024_2_0) shapeCasts_S1x1024_S1024)))) u) (broadcastInDim S32768x4096 ![] bcast_S_S32768x4096 (constant S_ .f32 0x00000000#32))) (maximumf (Host.dotGeneral dot_S32768x1024_S1024x4096_S32768x4096_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![2, 0] l slices_S4x1024_S1x1024_2_0) shapeCasts_S1x1024_S1024)))) u) (broadcastInDim S32768x4096 ![] bcast_S_S32768x4096 (constant S_ .f32 0x00000000#32)))) d)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![3, 0] l slices_S4x1024_S1x1024_3_0) shapeCasts_S1x1024_S1024))))

end

open Cert.LastIdeal Cert.LastIdeal.Gen

/-- The rows of the input the reference keeps: of each stream's 8448 rows, those from 256 on. -/
def kept (x : FVec Ideal Cert.LastRefIdeal.S33792x1024 .f32) : FVec Ideal Cert.LastRefIdeal.S32768x1024 .f32 :=
  shapeCast _ (extractStridedSlice Cert.LastRefIdeal.S4x8192x1024 ![0, 256, 0] (shapeCast _ x Cert.LastRefIdeal.Gen.shapeCasts_S33792x1024_S4x8448x1024) Cert.LastRefIdeal.Gen.slices_S4x8448x1024_S4x8192x1024_0_256_0) Cert.LastRefIdeal.Gen.shapeCasts_S4x8192x1024_S32768x1024

/-- Row `n` of the kept rows is row `n % 8192` of stream `n / 8192`, after the stream's first 256 rows. -/
theorem kept_at (x : FVec Ideal Cert.LastRefIdeal.S33792x1024 .f32) (n : Fin 32768) (k : Fin 1024) :
    kept x (ix2 n k) = x (ix2 ⟨n.val / 8192 * 8448 + (256 + n.val % 8192), by omega⟩ k) := by
  pointwise [kept]

/-- Where each window's block sits at a grid point. -/
theorem idx : ∀ t : Fin grid0.N, win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val / 33 * 32 + ((grid0.coords t 0).val % 33 - 1), 0] := by
  decide +kernel

/-- A block is written back only after its last visit, which is never a stream's first grid point. -/
theorem pos : ∀ t : Fin grid0.N, win0_5.flush t = true → (grid0.coords t 0).val % 33 ≠ 0 := by
  decide +kernel

/-- A block of the input holds rows of the whole input. -/
theorem x_read (m : (ℓ : Loc nD τ sig) → Buf (Elt Ideal) ℓ) (c : Dev nD) (t : Fin grid0.N) (r : Fin 256) (k : Fin 1024) :
    iblk m c 0 t (ix2 r k) = m (c.tc.loc main_arg0) (ix2 ⟨(grid0.coords t 0).val * 256 + r.val, by have h2 : (grid0.coords t 0).val < 132 := (grid0.coords t 0).isLt; omega⟩ k) := by
  blk_point [iblk, V, idx t]

/-- The row of the result that row `r` of block `t` is written to. -/
def orow (t : Fin grid0.N) (r : Fin 256) : Fin 32768 :=
  ⟨((grid0.coords t 0).val / 33 * 32 + ((grid0.coords t 0).val % 33 - 1)) * 256 + r.val, by have h2 : (grid0.coords t 0).val < 132 := (grid0.coords t 0).isLt; omega⟩

/-- At every grid point that writes back, the block of the input holds the kept rows its block of the result is computed of. -/
theorem kept_read (m : (ℓ : Loc nD τ sig) → Buf (Elt Ideal) ℓ) (c : Dev nD) (t : Fin grid0.N) (hp : (grid0.coords t 0).val % 33 ≠ 0) (r : Fin 256) (k : Fin 1024) :
    iblk m c 0 t (ix2 r k) = kept (m (c.tc.loc main_arg0)) (ix2 (orow t r) k) := by
  rw [x_read, kept_at]
  refine congrArg (fun a => m (c.tc.loc main_arg0) (ix2 a k)) (Fin.ext ?_)
  have h2 : (grid0.coords t 0).val < 132 := (grid0.coords t 0).isLt
  simp only [orow]
  omega

/-- The array the call leaves is the reference's result. -/
theorem value (m : (ℓ : Loc nD τ sig) → Buf (Elt Ideal) ℓ) (m' : (ℓ : Loc Cert.LastRefIdeal.nD Cert.LastRefIdeal.τ Cert.LastRefIdeal.sig) → Buf (Elt Ideal) ℓ) (c : Dev nD)
   (h0 : m' ((c.tc : Thread Cert.LastRefIdeal.nD Cert.LastRefIdeal.τ).loc Cert.LastRefIdeal.main_arg0) = m ((c.tc : Thread nD τ).loc main_arg0))
   (h1 : m' ((c.tc : Thread Cert.LastRefIdeal.nD Cert.LastRefIdeal.τ).loc Cert.LastRefIdeal.main_arg1) = m ((c.tc : Thread nD τ).loc main_arg1))
   (h2 : m' ((c.tc : Thread Cert.LastRefIdeal.nD Cert.LastRefIdeal.τ).loc Cert.LastRefIdeal.main_arg2) = m ((c.tc : Thread nD τ).loc main_arg2))
   (h3 : m' ((c.tc : Thread Cert.LastRefIdeal.nD Cert.LastRefIdeal.τ).loc Cert.LastRefIdeal.main_arg3) = m ((c.tc : Thread nD τ).loc main_arg3)) :
    (dats m 0 c).arrAt 5 cfg0.N = Cert.LastRefIdeal.Value.res_out0 m' c := by
  refine (dats m 0 c).arrAt_eq_of_covers 5 _ (by decide +kernel) fun t hf y => ?_
  have hp := pos t hf
  blk_simp
  rw [after0_5]
  frame_out
  have hx := kept_read m c t hp
  rw [show Cert.LastRefIdeal.Value.res_out0 m' c = ofKept (kept (m ((c.tc : Thread nD τ).loc main_arg0))) (m ((c.tc : Thread nD τ).loc main_arg1)) (m ((c.tc : Thread nD τ).loc main_arg2)) (m ((c.tc : Thread nD τ).loc main_arg3)) by
    rw [← h0, ← h1, ← h2, ← h3]; rfl]
  generalize kept (m ((c.tc : Thread nD τ).loc main_arg0)) = X at hx ⊢
  simp only [orow] at hx
  have hr : ∀ k : Fin 1024, iblk m c 0 t (ix2 (y 0) k) = X (ix2 ((win0_5.blk t).view.emb y 0) k) := fun k => by
    refine (hx (y 0) k).trans (congrArg X ?_)
    blk_ext [idx t]
  have hy : iblk m c 0 t y = X ((win0_5.blk t).view.emb y) := by
    have e1 : y = ix2 (y 0) (y 1) := by blk_ext []
    refine (congrArg (iblk m c 0 t) e1).trans ((hx (y 0) (y 1)).trans (congrArg X ?_))
    blk_ext [idx t]
  pointwise [ofKept, Gen.k0_pay1, Gen.k0_pay2]
  simp only [hr, hy]
  blk_point [iblk, V, idx t]

/-- Every run of the kernel's call and of the reference leaves the same array. -/
theorem algebraic : Cert.algebraic_LastIdeal_LastRefIdeal := by
  pair_intro
  · run_from (Cert.LastIdeal.Value.run_blocks m g)
  · run_from (Cert.LastRefIdeal.Value.run m' g')
    obtain ⟨h0, h1, h2, h3⟩ := hagree c
    exact (value m m' c h0 h1 h2 h3).symm

/-- The reference runs to its end, keeps its arguments and leaves no semaphore raised. -/
theorem reference_frame : Cert.quiescent_LastRefIdeal := fun m ρ _ =>
  (θ_run Cert.LastRefIdeal.defs _ _).mono
    (fun r h => ⟨fun c => ⟨(h c).2.1, (h c).2.2⟩, Idealize.ShloMosaic.sem_eq_zero_of_no_sems (by decide) r.2⟩)
    (Cert.LastRefIdeal.Value.run (F := Ideal) m ρ)

end Cert.Proof.Last

end
-- ==== Proof.My.SMlpValue.lean ====
module

public import proofs.«01_k».proof.Defs
public import proofs.«01_k».proof.Proof.Gen.SMlpIdeal.Value
public import proofs.«01_k».proof.Proof.Gen.SMlpRefIdeal.Run
public import Idealize.ShloMosaic.Lib.Claim
public import Idealize.ShloMosaic.Lib.Pointwise
public import Idealize.ShloMosaic.Lib.Quiescent
public import Idealize.ShloMosaic.Lib.Pipeline.ValueKit

@[expose] public section

set_option maxRecDepth 16384

noncomputable section

namespace Cert.Proof.SMlp

open Idealize.ShloMosaic Idealize.ShloMosaic.TcCoe Idealize.SL.Sem
open Cert.SMlpIdeal Cert.SMlpIdeal.Gen
open Idealize.ShloMosaic.Pipeline (Dat)

/-- Where each window's block sits at a grid point. -/
theorem idx : ∀ t : Fin grid0.N, win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0] := by
  decide +kernel

/-- The array the call leaves for the running streams is the reference's result: row by row `x + rms (relu (rms x · up)² · down)`. -/
theorem value (m : (ℓ : Loc nD τ sig) → Buf (Elt Ideal) ℓ) (m' : (ℓ : Loc Cert.SMlpRefIdeal.nD Cert.SMlpRefIdeal.τ Cert.SMlpRefIdeal.sig) → Buf (Elt Ideal) ℓ) (c : Dev nD)
   (h0 : m' ((c.tc : Thread Cert.SMlpRefIdeal.nD Cert.SMlpRefIdeal.τ).loc Cert.SMlpRefIdeal.main_arg0) = m ((c.tc : Thread nD τ).loc main_arg0))
   (h1 : m' ((c.tc : Thread Cert.SMlpRefIdeal.nD Cert.SMlpRefIdeal.τ).loc Cert.SMlpRefIdeal.main_arg1) = m ((c.tc : Thread nD τ).loc main_arg1))
   (h2 : m' ((c.tc : Thread Cert.SMlpRefIdeal.nD Cert.SMlpRefIdeal.τ).loc Cert.SMlpRefIdeal.main_arg2) = m ((c.tc : Thread nD τ).loc main_arg2))
   (h3 : m' ((c.tc : Thread Cert.SMlpRefIdeal.nD Cert.SMlpRefIdeal.τ).loc Cert.SMlpRefIdeal.main_arg3) = m ((c.tc : Thread nD τ).loc main_arg3)) :
    (dats m 0 c).arrAt 5 cfg0.N = Cert.SMlpRefIdeal.Value.res_out0 m' c := by
  refine (dats m 0 c).arrAt_eq_of_covers 5 _ (by decide +kernel) fun t hf y => ?_
  blk_simp
  rw [after0_5]
  frame_out
  simp only [Cert.SMlpRefIdeal.Value.res_main_v34, h0, h1, h2, h3]
  pointwise [Gen.k0_pay1, Gen.k0_pay2]
  blk_point [iblk, V, idx t]

/-- Every run of the kernel's call and of the reference leaves the same array. -/
theorem algebraic : Cert.algebraic_SMlpIdeal_SMlpRefIdeal := by
  pair_intro
  · run_from (Cert.SMlpIdeal.Value.run_blocks m g)
  · run_from (Cert.SMlpRefIdeal.Value.run m' g')
    obtain ⟨h0, h1, h2, h3⟩ := hagree c
    exact (value m m' c h0 h1 h2 h3).symm

/-- The reference runs to its end, keeps its arguments and leaves no semaphore raised. -/
theorem reference_frame : Cert.quiescent_SMlpRefIdeal := fun m ρ _ =>
  (θ_run Cert.SMlpRefIdeal.defs _ _).mono
    (fun r h => ⟨fun c => ⟨(h c).2.1, (h c).2.2⟩, Idealize.ShloMosaic.sem_eq_zero_of_no_sems (by decide) r.2⟩)
    (Cert.SMlpRefIdeal.Value.run (F := Ideal) m ρ)

end Cert.Proof.SMlp

end
-- ==== Proof.My.SProjRope.lean ====
module

public import proofs.«01_k».proof.Defs
public import proofs.«01_k».proof.Proof.Gen.SProjIdeal.Value
public import proofs.«01_k».proof.Proof.Gen.SProjRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof.SProj

open Idealize.ShloMosaic Idealize.ShloMosaic.TcCoe Idealize.SL.Sem

/-- A function of the first `n` numbers is one of all numbers. -/
theorem natFun1 {n : ℕ} (f : Fin n → EReal) : ∃ g : ℕ → EReal, ∀ (i : ℕ) (h : i < n), f ⟨i, h⟩ = g i :=
  ⟨fun i => if h : i < n then f ⟨i, h⟩ else 0, fun i h => by simp only [h, dif_pos]⟩

/-- Equal products of two readings, subtracted. -/
theorem sub_eq {f g e : ℕ → EReal} {a b c d a' b' c' d' : ℕ} (ha : a = a') (hb : b = b') (hc : c = c') (hd : d = d') :
    f a * g b - f c * e d = f a' * g b' - f c' * e d' := by subst ha hb hc hd; rfl

/-- Equal products of two readings, added. -/
theorem add_eq {f g e : ℕ → EReal} {a b c d a' b' c' d' : ℕ} (ha : a = a') (hb : b = b') (hc : c = c') (hd : d = d') :
    f a * g b + f c * e d = f a' * g b' + f c' * e d' := by subst ha hb hc hd; rfl

section
open Cert.SProjRefIdeal Cert.SProjRefIdeal.Gen

/-- The reference's rotation of the key heads. -/
def ropeK (z : FVec Ideal S512x2x64 .f32) (cs sn : FVec Ideal S512x1x8 .f32) : FVec Ideal S512x2x64 .f32 :=
  concatenate S512x2x64 2 [⟨S512x2x16, (concatenate S512x2x16 2 [⟨S512x2x8, (subf (mulf (extractStridedSlice S512x2x8 ![0, 0, 0] z slices_S512x2x64_S512x2x8_0_0_0) (broadcastInDim S512x2x8 ![0, 1, 2] bcast_S512x1x8_S512x2x8_0_1_2 cs)) (mulf (extractStridedSlice S512x2x8 ![0, 0, 8] z slices_S512x2x64_S512x2x8_0_0_8) (broadcastInDim S512x2x8 ![0, 1, 2] bcast_S512x1x8_S512x2x8_0_1_2 sn)))⟩, ⟨S512x2x8, (addf (mulf (extractStridedSlice S512x2x8 ![0, 0, 8] z slices_S512x2x64_S512x2x8_0_0_8) (broadcastInDim S512x2x8 ![0, 1, 2] bcast_S512x1x8_S512x2x8_0_1_2 cs)) (mulf (extractStridedSlice S512x2x8 ![0, 0, 0] z slices_S512x2x64_S512x2x8_0_0_0) (broadcastInDim S512x2x8 ![0, 1, 2] bcast_S512x1x8_S512x2x8_0_1_2 sn)))⟩] concatenates_S512x2x8_S512x2x8_S512x2x16_d2)⟩, ⟨S512x2x48, (extractStridedSlice S512x2x48 ![0, 0, 16] z slices_S512x2x64_S512x2x48_0_0_16)⟩] concatenates_S512x2x16_S512x2x48_S512x2x64_d2

/-- The reference's rotation of the query heads. -/
def ropeQ (z : FVec Ideal S512x8x64 .f32) (cs sn : FVec Ideal S512x1x8 .f32) : FVec Ideal S512x8x64 .f32 :=
  concatenate S512x8x64 2 [⟨S512x8x16, (concatenate S512x8x16 2 [⟨S512x8x8, (subf (mulf (extractStridedSlice S512x8x8 ![0, 0, 0] z slices_S512x8x64_S512x8x8_0_0_0) (broadcastInDim S512x8x8 ![0, 1, 2] bcast_S512x1x8_S512x8x8_0_1_2 cs)) (mulf (extractStridedSlice S512x8x8 ![0, 0, 8] z slices_S512x8x64_S512x8x8_0_0_8) (broadcastInDim S512x8x8 ![0, 1, 2] bcast_S512x1x8_S512x8x8_0_1_2 sn)))⟩, ⟨S512x8x8, (addf (mulf (extractStridedSlice S512x8x8 ![0, 0, 8] z slices_S512x8x64_S512x8x8_0_0_8) (broadcastInDim S512x8x8 ![0, 1, 2] bcast_S512x1x8_S512x8x8_0_1_2 cs)) (mulf (extractStridedSlice S512x8x8 ![0, 0, 0] z slices_S512x8x64_S512x8x8_0_0_0) (broadcastInDim S512x8x8 ![0, 1, 2] bcast_S512x1x8_S512x8x8_0_1_2 sn)))⟩] concatenates_S512x8x8_S512x8x8_S512x8x16_d2)⟩, ⟨S512x8x48, (extractStridedSlice S512x8x48 ![0, 0, 16] z slices_S512x8x64_S512x8x48_0_0_16)⟩] concatenates_S512x8x16_S512x8x48_S512x8x64_d2

/-- The reference's scale of the rotated queries. -/
def scaleQ (z : FVec Ideal S512x8x64 .f32) : FVec Ideal S512x8x64 .f32 :=
  mulf z (broadcastInDim S512x8x64 ![] bcast_S_S512x8x64 (constant S_ .f32 0x3FB8AA3B#32))

/-- The reference's rotation of the indexer's query heads. -/
def ropeI (z : FVec Ideal S512x4x64 .f32) (cs sn : FVec Ideal S512x1x8 .f32) : FVec Ideal S512x4x64 .f32 :=
  concatenate S512x4x64 2 [⟨S512x4x16, (concatenate S512x4x16 2 [⟨S512x4x8, (subf (mulf (extractStridedSlice S512x4x8 ![0, 0, 0] z slices_S512x4x64_S512x4x8_0_0_0) (broadcastInDim S512x4x8 ![0, 1, 2] bcast_S512x1x8_S512x4x8_0_1_2 cs)) (mulf (extractStridedSlice S512x4x8 ![0, 0, 8] z slices_S512x4x64_S512x4x8_0_0_8) (broadcastInDim S512x4x8 ![0, 1, 2] bcast_S512x1x8_S512x4x8_0_1_2 sn)))⟩, ⟨S512x4x8, (addf (mulf (extractStridedSlice S512x4x8 ![0, 0, 8] z slices_S512x4x64_S512x4x8_0_0_8) (broadcastInDim S512x4x8 ![0, 1, 2] bcast_S512x1x8_S512x4x8_0_1_2 cs)) (mulf (extractStridedSlice S512x4x8 ![0, 0, 0] z slices_S512x4x64_S512x4x8_0_0_0) (broadcastInDim S512x4x8 ![0, 1, 2] bcast_S512x1x8_S512x4x8_0_1_2 sn)))⟩] concatenates_S512x4x8_S512x4x8_S512x4x16_d2)⟩, ⟨S512x4x48, (extractStridedSlice S512x4x48 ![0, 0, 16] z slices_S512x4x64_S512x4x48_0_0_16)⟩] concatenates_S512x4x16_S512x4x48_S512x4x64_d2

/-- The reference's rotation of the indexer's key. -/
def ropeJ (z : FVec Ideal S512x1x64 .f32) (cs sn : FVec Ideal S512x1x8 .f32) : FVec Ideal S512x1x64 .f32 :=
  concatenate S512x1x64 2 [⟨S512x1x16, (concatenate S512x1x16 2 [⟨S512x1x8, (subf (mulf (extractStridedSlice S512x1x8 ![0, 0, 0] z slices_S512x1x64_S512x1x8_0_0_0) cs) (mulf (extractStridedSlice S512x1x8 ![0, 0, 8] z slices_S512x1x64_S512x1x8_0_0_8) sn))⟩, ⟨S512x1x8, (addf (mulf (extractStridedSlice S512x1x8 ![0, 0, 8] z slices_S512x1x64_S512x1x8_0_0_8) cs) (mulf (extractStridedSlice S512x1x8 ![0, 0, 0] z slices_S512x1x64_S512x1x8_0_0_0) sn))⟩] concatenates_S512x1x8_S512x1x8_S512x1x16_d2)⟩, ⟨S512x1x48, (extractStridedSlice S512x1x48 ![0, 0, 16] z slices_S512x1x64_S512x1x48_0_0_16)⟩] concatenates_S512x1x16_S512x1x48_S512x1x64_d2

end

section
open Cert.SProjIdeal Cert.SProjIdeal.Gen

set_option maxHeartbeats 8000000 in
/-- Rotated key heads of one row. -/
theorem k_row (v18 : FVec Ideal S1096x512 .f32) (v20 v22 : FVec Ideal S8x512 .f32) (z : FVec Ideal Cert.SProjRefIdeal.S512x2x64 .f32) (cs sn : FVec Ideal Cert.SProjRefIdeal.S512x1x8 .f32) (r : Fin 512) (n : Fin 512)
    (hz : ∀ (h : Fin 2) (d : Fin 64), v18 (ix2 ⟨512 + 64 * h.val + d.val, by omega⟩ r) = z (ix3 n h d))
    (hc : ∀ d, v20 (ix2 d r) = cs (ix3 n 0 d)) (hs : ∀ d, v22 (ix2 d r) = sn (ix3 n 0 d)) (h : Fin 2) (d : Fin 64) :
    k0_pay26 v18 v20 v22 (ix2 ⟨64 * h.val + d.val, by omega⟩ r) = ropeK z cs sn (ix3 n h d) := by
  pointwise [k0_pay26, ropeK]
  simp only [← hz, ← hc, ← hs]
  obtain ⟨f, hf⟩ := natFun1 (fun i => v18 (ix2 i r))
  obtain ⟨g, hg⟩ := natFun1 (fun i => v20 (ix2 i r))
  obtain ⟨e, he⟩ := natFun1 (fun i => v22 (ix2 i r))
  simp only [hf, hg, he, dite_eq_ite]
  have hd := d.isLt
  have hh' := h.isLt
  generalize d.val = d at *
  generalize h.val = h at *
  have hh : h = 0 ∨ h = 1 := by omega
  rcases hh with hh | hh <;> rw [hh] <;> rcases (by omega : d < 8 ∨ (8 ≤ d ∧ d < 16) ∨ 16 ≤ d) with h8 | h8 | h8 <;>
    simp (disch := omega) only [↓if_pos, ↓if_neg] <;>
    first | exact congrArg f (by omega) | exact sub_eq (by omega) (by omega) (by omega) (by omega) | exact add_eq (by omega) (by omega) (by omega) (by omega)

set_option maxHeartbeats 8000000 in
/-- Rotated query heads of the indexer, of one row. -/
theorem i_row (v18 : FVec Ideal S1096x512 .f32) (v20 v22 : FVec Ideal S8x512 .f32) (z : FVec Ideal Cert.SProjRefIdeal.S512x4x64 .f32) (cs sn : FVec Ideal Cert.SProjRefIdeal.S512x1x8 .f32) (r : Fin 512) (n : Fin 512)
    (hz : ∀ (h : Fin 4) (d : Fin 64), v18 (ix2 ⟨768 + 64 * h.val + d.val, by omega⟩ r) = z (ix3 n h d))
    (hc : ∀ d, v20 (ix2 d r) = cs (ix3 n 0 d)) (hs : ∀ d, v22 (ix2 d r) = sn (ix3 n 0 d)) (h : Fin 4) (d : Fin 64) :
    k0_pay35 v18 v20 v22 (ix2 ⟨64 * h.val + d.val, by omega⟩ r) = ropeI z cs sn (ix3 n h d) := by
  pointwise [k0_pay35, ropeI]
  simp only [← hz, ← hc, ← hs]
  obtain ⟨f, hf⟩ := natFun1 (fun i => v18 (ix2 i r))
  obtain ⟨g, hg⟩ := natFun1 (fun i => v20 (ix2 i r))
  obtain ⟨e, he⟩ := natFun1 (fun i => v22 (ix2 i r))
  simp only [hf, hg, he, dite_eq_ite]
  have hd := d.isLt
  have hh' := h.isLt
  generalize d.val = d at *
  generalize h.val = h at *
  have hh : h = 0 ∨ h = 1 ∨ h = 2 ∨ h = 3 := by omega
  rcases hh with hh | hh | hh | hh <;> rw [hh] <;> rcases (by omega : d < 8 ∨ (8 ≤ d ∧ d < 16) ∨ 16 ≤ d) with h8 | h8 | h8 <;>
    simp (disch := omega) only [↓if_pos, ↓if_neg] <;>
    first | exact congrArg f (by omega) | exact sub_eq (by omega) (by omega) (by omega) (by omega) | exact add_eq (by omega) (by omega) (by omega) (by omega)

set_option maxHeartbeats 8000000 in
/-- The indexer's rotated key, of one row. -/
theorem j_row (v18 : FVec Ideal S1096x512 .f32) (v20 v22 : FVec Ideal S8x512 .f32) (z : FVec Ideal Cert.SProjRefIdeal.S512x1x64 .f32) (cs sn : FVec Ideal Cert.SProjRefIdeal.S512x1x8 .f32) (r : Fin 512) (n : Fin 512)
    (hz : ∀ (h : Fin 1) (d : Fin 64), v18 (ix2 ⟨1024 + 64 * h.val + d.val, by omega⟩ r) = z (ix3 n h d))
    (hc : ∀ d, v20 (ix2 d r) = cs (ix3 n 0 d)) (hs : ∀ d, v22 (ix2 d r) = sn (ix3 n 0 d)) (h : Fin 1) (d : Fin 64) :
    k0_pay1 v18 v20 v22 (ix2 ⟨64 * h.val + d.val, by omega⟩ r) = ropeJ z cs sn (ix3 n h d) := by
  pointwise [k0_pay1, ropeJ]
  simp only [← hz, ← hc, ← hs]
  obtain ⟨f, hf⟩ := natFun1 (fun i => v18 (ix2 i r))
  obtain ⟨g, hg⟩ := natFun1 (fun i => v20 (ix2 i r))
  obtain ⟨e, he⟩ := natFun1 (fun i => v22 (ix2 i r))
  simp only [hf, hg, he, dite_eq_ite]
  have hd := d.isLt
  have hh' := h.isLt
  generalize d.val = d at *
  generalize h.val = h at *
  simp only [show ((0 : Fin 1) : ℕ) = 0 from rfl]
  rcases (by omega : d < 8 ∨ (8 ≤ d ∧ d < 16) ∨ 16 ≤ d) with h8 | h8 | h8 <;>
    simp (disch := omega) only [↓if_pos, ↓if_neg] <;>
    first | exact congrArg f (by omega) | exact sub_eq (by omega) (by omega) (by omega) (by omega) | exact add_eq (by omega) (by omega) (by omega) (by omega)

end

end Cert.Proof.SProj

end
-- ==== Proof.My.SProjZ.lean ====
module

public import proofs.«01_k».proof.Defs
public import proofs.«01_k».proof.Proof.Gen.SProjIdeal.Value
public import proofs.«01_k».proof.Proof.Gen.SProjRefIdeal.Run
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384
set_option maxHeartbeats 8000000

noncomputable section

namespace Cert.Proof.SProj

open Idealize.ShloMosaic Idealize.ShloMosaic.TcCoe Idealize.SL.Sem

section
open Cert.SProjRefIdeal Cert.SProjRefIdeal.Gen

/-- The reference's norm of every row with its weight. -/
def normRef (x : FVec Ideal S512x1024 .f32) (l : FVec Ideal S4x1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 (shapeCast _ (extractStridedSlice S1x1024 ![0, 0] l slices_S4x1024_S1x1024_0_0) shapeCasts_S1x1024_S1024)))

/-- The reference's one projection of every row. -/
def zRef (x : FVec Ideal S512x1024 .f32) (l : FVec Ideal S4x1024 .f32) (w : FVec Ideal S1024x4676 .f32) : FVec Ideal S512x2628 .f32 :=
  Host.dotGeneral dot_S512x1024_S1024x2628_S512x2628_1_0_0_1_n_n none (normRef x l) (extractStridedSlice S1024x2628 ![0, 0] w slices_S1024x4676_S1024x2628_0_0)

/-- The reference's angles. -/
def angRef : FVec Ideal S512x8 .f32 :=
  mulf (broadcastInDim S512x8 ![0, 1] bcast_S512x1_S512x8_0_1 (broadcastInDim S512x1 ![0] bcast_S512_S512x1_0 (sitofp .f32 (shapeCast S512 (broadcastInDim S16x32 ![1] bcast_S32_S16x32_1 (addi (broadcastInDim S32 ![] bcast_S_S32 (constantI S_ 32 1024#32)) (iotaInDim S32 32 0))) shapeCasts_S16x32_S512)))) (broadcastInDim S512x8 ![0, 1] bcast_S1x8_S512x8_0_1 (broadcastInDim S1x8 ![1] bcast_S8_S1x8_1 (Host.exp (mulf (mulf (broadcastInDim S8 ![] bcast_S_S8 (constant S_ .f32 0xC151F533#32)) (sitofp .f32 (iotaInDim S8 32 0))) (broadcastInDim S8 ![] bcast_S_S8 (constant S_ .f32 0x3E000000#32))))))

end

section
open Cert.SProjIdeal Cert.SProjIdeal.Gen

/-- The row of the whole array that row `r` of block `t` is. -/
def row (t : Fin grid0.N) (r : Fin 512) : Fin 512 :=
  ⟨(grid0.coords t 0).val * 512 + r.val, by have h2 : (grid0.coords t 0).val < 1 := (grid0.coords t 0).isLt; omega⟩

/-- Where each window's block sits at a grid point. -/
theorem idx : ∀ t : Fin grid0.N, win0_0.index t = ![(grid0.coords t 0).val, 0] ∧ win0_1.index t = ![0, 0] ∧ win0_2.index t = ![0, 0] ∧ win0_3.index t = ![0, 0]
    ∧ win0_4.index t = ![0, (grid0.coords t 0).val] ∧ win0_5.index t = ![0, (grid0.coords t 0).val]
    ∧ win0_6.index t = ![0, (grid0.coords t 0).val] ∧ win0_7.index t = ![0, (grid0.coords t 0).val] ∧ win0_8.index t = ![0, (grid0.coords t 0).val]
    ∧ win0_9.index t = ![(grid0.coords t 0).val, 0, 0] ∧ win0_10.index t = ![0, (grid0.coords t 0).val, 0]
    ∧ win0_11.index t = ![(grid0.coords t 0).val, 0] ∧ win0_12.index t = ![0, (grid0.coords t 0).val] ∧ win0_13.index t = ![0, (grid0.coords t 0).val]
    ∧ win0_14.index t = ![0, (grid0.coords t 0).val] ∧ win0_15.index t = ![(grid0.coords t 0).val, 0] ∧ win0_16.index t = ![(grid0.coords t 0).val, 0] := by
  decide +kernel

variable (m : (ℓ : Loc nD τ sig) → Buf (Elt Ideal) ℓ) (c : Dev nD) (t : Fin grid0.N) (r : Fin 512)

/-- The layer's projection weight. -/
def wArr : FVec Ideal S1024x4676 .f32 := m (c.tc.loc main_arg2)

theorem x_read (j : Fin 1024) : iblk m c 0 t (ix2 r j) = m (c.tc.loc main_arg0) (ix2 (row t r) j) := by
  simp only [row]
  blk_point [iblk, V, idx t]

theorem l_read (j : Fin 1024) : iblk m c 1 t (ix2 0 j) = m (c.tc.loc main_arg1) (ix2 0 j) := by
  blk_point [iblk, V, idx t]

theorem wc_read (j : Fin 1024) (k : Fin 1536) : iblk m c 3 t (ix2 j k) = m (c.tc.loc main_arg2) (ix2 j ⟨1092 + k.val, by omega⟩) := by
  blk_point [iblk, V, idx t]

/-- The kernel's stacked weight columns, before they are turned to rows. -/
def catW (w : FVec Ideal S1024x4676 .f32) : FVec Ideal S1024x1096 .f32 :=
  concatenate S1024x1096 1 [⟨S1024x512, (mulf (extractStridedSlice S1024x512 ![0, 0] w slices_S1024x4676_S1024x512_0_0) (broadcastInDim S1024x512 ![] bcast_S_S1024x512 (constant S_ .f32 0x3E000000#32)))⟩, ⟨S1024x256, (extractStridedSlice S1024x256 ![0, 512] w slices_S1024x4676_S1024x256_0_512)⟩, ⟨S1024x256, (mulf (extractStridedSlice S1024x256 ![0, 768] w slices_S1024x4676_S1024x256_0_768) (broadcastInDim S1024x256 ![] bcast_S_S1024x256 (constant S_ .f32 0x3E000000#32)))⟩, ⟨S1024x64, (extractStridedSlice S1024x64 ![0, 1024] w slices_S1024x4676_S1024x64_0_1024)⟩, ⟨S1024x4, (mulf (extractStridedSlice S1024x4 ![0, 1088] w slices_S1024x4676_S1024x4_0_1088) (broadcastInDim S1024x4 ![] bcast_S_S1024x4 (constant S_ .f32 0x3F000000#32)))⟩, ⟨S1024x4, (broadcastInDim S1024x4 ![] bcast_S_S1024x4 (constant S_ .f32 0x00000000#32))⟩] concatenates_S1024x512_S1024x256_S1024x256_S1024x64_S1024x4_S1024x4_S1024x1096_d1

theorem V_w : (V m c main_v14 : FVec Ideal S1096x1024 .bf16) = transpose S1096x1024 [1, 0] (truncf .bf16 (catW (wArr m c)) bitsLt_bf16_f32) transposes_S1024x1096_S1096x1024_1_0 := by
  unfold V
  after_reads_simp
  rfl

theorem w_read (i : Fin 1096) (j : Fin 1024) : iblk m c 2 t (ix2 i j) = catW (wArr m c) (ix2 j i) := by
  have e : (V m c main_v14 : FVec Ideal S1096x1024 .bf16) (ix2 i j) = catW (wArr m c) (ix2 j i) := by
    rw [V_w]
    pointwise
  refine Eq.trans ?_ e
  blk_simp [iblk, idx t]
  blk_ext [idx t]

theorem w_kv (w : FVec Ideal S1024x4676 .f32) (j : Fin 1024) (k : Fin 256) : catW w (ix2 j ⟨512 + k.val, by omega⟩) = w (ix2 j ⟨512 + k.val, by omega⟩) := by
  pointwise [catW]

theorem w_q (w : FVec Ideal S1024x4676 .f32) (j : Fin 1024) (k : Fin 512) : catW w (ix2 j ⟨k.val, by omega⟩) = w (ix2 j ⟨k.val, by omega⟩) * (Ideal.ofBits .f32 0x3E000000#32 : EReal) := by
  pointwise [catW]

theorem w_iq (w : FVec Ideal S1024x4676 .f32) (j : Fin 1024) (k : Fin 256) : catW w (ix2 j ⟨768 + k.val, by omega⟩) = w (ix2 j ⟨768 + k.val, by omega⟩) * (Ideal.ofBits .f32 0x3E000000#32 : EReal) := by
  pointwise [catW]
  split_ifs <;> first | omega | rfl | exact congrArg (fun a => w (ix2 j a)) (Fin.ext (by dsimp only; omega)) | exact congrArg (fun a => w (ix2 j a) * _) (Fin.ext (by dsimp only; omega))

theorem w_ik (w : FVec Ideal S1024x4676 .f32) (j : Fin 1024) (k : Fin 64) : catW w (ix2 j ⟨1024 + k.val, by omega⟩) = w (ix2 j ⟨1024 + k.val, by omega⟩) := by
  pointwise [catW]
  split_ifs <;> first | omega | rfl | exact congrArg (fun a => w (ix2 j a)) (Fin.ext (by dsimp only; omega)) | exact congrArg (fun a => w (ix2 j a) * _) (Fin.ext (by dsimp only; omega))

theorem w_iw (w : FVec Ideal S1024x4676 .f32) (j : Fin 1024) (k : Fin 4) : catW w (ix2 j ⟨1088 + k.val, by omega⟩) = w (ix2 j ⟨1088 + k.val, by omega⟩) * (Ideal.ofBits .f32 0x3F000000#32 : EReal) := by
  pointwise [catW]
  split_ifs <;> first | omega | rfl | exact congrArg (fun a => w (ix2 j a)) (Fin.ext (by dsimp only; omega)) | exact congrArg (fun a => w (ix2 j a) * _) (Fin.ext (by dsimp only; omega))

theorem w_0 (w : FVec Ideal S1024x4676 .f32) (j : Fin 1024) (k : Fin 4) : catW w (ix2 j ⟨1092 + k.val, by omega⟩) = (0 : EReal) := by
  pointwise [catW]
  split_ifs <;> first | omega | rfl | exact congrArg (fun a => w (ix2 j a)) (Fin.ext (by dsimp only; omega)) | exact congrArg (fun a => w (ix2 j a) * _) (Fin.ext (by dsimp only; omega))

/-- The kernel's angles: one column for each row of the input. -/
def angK : FVec Ideal S8x512 .f32 :=
  mulf (broadcastInDim S8x512 ![0, 1] bcast_S8x1_S8x512_0_1 (broadcastInDim S8x1 ![0] bcast_S8_S8x1_0 (Host.exp (mulf (mulf (broadcastInDim S8 ![] bcast_S_S8 (constant S_ .f32 0xC151F533#32)) (sitofp .f32 (iotaInDim S8 32 0))) (broadcastInDim S8 ![] bcast_S_S8 (constant S_ .f32 0x3E000000#32)))))) (broadcastInDim S8x512 ![0, 1] bcast_S1x512_S8x512_0_1 (broadcastInDim S1x512 ![1] bcast_S512_S1x512_1 (sitofp .f32 (shapeCast S512 (broadcastInDim S16x32 ![0, 1] bcast_S1x32_S16x32_0_1 (shapeCast S1x32 (addi (broadcastInDim S32 ![] bcast_S_S32 (constantI S_ 32 1024#32)) (iotaInDim S32 32 0)) shapeCasts_S32_S1x32)) shapeCasts_S16x32_S512))))

theorem angK_eq (n : Fin 512) (d : Fin 8) : angK (ix2 d n) = angRef (ix2 n d) := by
  pointwise [angK, angRef]
  try exact mul_comm _ _
  try (rw [mul_comm (FloatOps.sitofp FTy.f32 _)]; blk_point)

theorem V_cos : (V m c main_v33 : FVec Ideal S8x512 .f32) = Host.cos angK := by
  unfold V
  after_reads_simp
  rfl

theorem V_sin : (V m c main_v34 : FVec Ideal S8x512 .f32) = Host.sin angK := by
  unfold V
  after_reads_simp
  rfl

/-- The rotation's cosines, of one row of a block. -/
theorem cos_read (d : Fin 8) : iblk m c 4 t (ix2 d r) = Host.cos angRef (ix2 (row t r) d) := by
  have e : (V m c main_v33 : FVec Ideal S8x512 .f32) (ix2 d (row t r)) = Host.cos angRef (ix2 (row t r) d) := by
    rw [V_cos]
    exact congrArg _ (angK_eq (row t r) d)
  refine Eq.trans ?_ e
  simp only [row]
  blk_simp [iblk, idx t]
  blk_ext [idx t]

/-- The rotation's sines, of one row of a block. -/
theorem sin_read (d : Fin 8) : iblk m c 5 t (ix2 d r) = Host.sin angRef (ix2 (row t r) d) := by
  have e : (V m c main_v34 : FVec Ideal S8x512 .f32) (ix2 d (row t r)) = Host.sin angRef (ix2 (row t r) d) := by
    rw [V_sin]
    exact congrArg _ (angK_eq (row t r) d)
  refine Eq.trans ?_ e
  simp only [row]
  blk_simp [iblk, idx t]
  blk_ext [idx t]

/-- The eighth of the scales is a number at least zero. -/
theorem eighth : (Ideal.ofBits .f32 0x3E000000#32 : EReal) = ((1 / 8 : ℝ) : EReal) := by
  simp [Ideal.ofBits, Ideal.ieee, -EReal.coe_mul]; norm_num

/-- The half of the scales is a number at least zero. -/
theorem half : (Ideal.ofBits .f32 0x3F000000#32 : EReal) = ((1 / 2 : ℝ) : EReal) := by
  simp [Ideal.ofBits, Ideal.ieee, -EReal.coe_mul]; norm_num

/-- A number at least zero comes out of a sum of products. -/
theorem sum_scale (s : ℝ) (hs : 0 ≤ s) (a b : Fin 1024 → EReal) : (∑ j, a j * (s : EReal) * b j) = (∑ j, b j * a j) * (s : EReal) := by
  have h : ∀ t : Finset (Fin 1024), (∑ j ∈ t, a j * (s : EReal) * b j) = (∑ j ∈ t, b j * a j) * (s : EReal) := by
    intro t
    induction t using Finset.induction_on with
    | empty => simp
    | insert i t hi ih =>
      rw [Finset.sum_insert hi, Finset.sum_insert hi, ih, EReal.right_distrib_of_nonneg_of_ne_top (by exact_mod_cast hs) (EReal.coe_ne_top s)]
      congr 1
      rw [mul_right_comm, mul_comm (a i)]
  exact h _

/-- The normed rows of a block are those of the input. -/
theorem h_read (j : Fin 1024) : (k0_pay7 (F := Ideal) (iblk m c 0 t) (iblk m c 1 t) (ix2 r j) : EReal) = normRef (m (c.tc.loc main_arg0)) (m (c.tc.loc main_arg1)) (ix2 (row t r) j) := by
  pointwise [k0_pay7, normRef]
  simp only [x_read, l_read]

theorem pay8_sum (x0 : FVec Ideal S512x1024 .f32) (x1 : FVec Ideal S1x1024 .f32) (x2 : FVec Ideal S1096x1024 .bf16) (i : Fin 1096) (r : Fin 512) :
    k0_pay8 (F := Ideal) x0 x1 x2 (ix2 i r) = ∑ j : Fin 1024, (x2 (ix2 i j) : EReal) * (k0_pay7 (F := Ideal) x0 x1 (ix2 r j) : EReal) := by
  pointwise [k0_pay8]

/-- One entry of the block product, over the stacked weight columns and the normed rows. -/
theorem z_sum (i : Fin 1096) : k0_pay8 (F := Ideal) (iblk m c 0 t) (iblk m c 1 t) (iblk m c 2 t) (ix2 i r) = ∑ j : Fin 1024, (catW (wArr m c) (ix2 j i) : EReal) * normRef (m (c.tc.loc main_arg0)) (m (c.tc.loc main_arg1)) (ix2 (row t r) j) :=
  (pay8_sum _ _ _ i r).trans (Finset.sum_congr rfl fun j _ => congrArg₂ (fun a b : EReal => a * b) (w_read m c t i j) (h_read m c t r j))

theorem zRef_sum (x : FVec Ideal Cert.SProjRefIdeal.S512x1024 .f32) (l : FVec Ideal Cert.SProjRefIdeal.S4x1024 .f32) (w : FVec Ideal Cert.SProjRefIdeal.S1024x4676 .f32) (n : Fin 512) (k : Fin 2628) :
    zRef x l w (ix2 n k) = ∑ j : Fin 1024, (normRef x l (ix2 n j) : EReal) * w (ix2 j ⟨k.val, by omega⟩) := by
  pointwise [zRef]

theorem z_kv (k : Fin 256) : k0_pay8 (F := Ideal) (iblk m c 0 t) (iblk m c 1 t) (iblk m c 2 t) (ix2 ⟨512 + k.val, by omega⟩ r) = zRef (m (c.tc.loc main_arg0)) (m (c.tc.loc main_arg1)) (wArr m c) (ix2 (row t r) ⟨512 + k.val, by omega⟩) := by
  rw [z_sum, zRef_sum]
  refine Finset.sum_congr rfl fun j _ => ?_
  rw [w_kv]
  exact mul_comm _ _

theorem z_ik (k : Fin 64) : k0_pay8 (F := Ideal) (iblk m c 0 t) (iblk m c 1 t) (iblk m c 2 t) (ix2 ⟨1024 + k.val, by omega⟩ r) = zRef (m (c.tc.loc main_arg0)) (m (c.tc.loc main_arg1)) (wArr m c) (ix2 (row t r) ⟨1024 + k.val, by omega⟩) := by
  rw [z_sum, zRef_sum]
  refine Finset.sum_congr rfl fun j _ => ?_
  rw [w_ik]
  exact mul_comm _ _

theorem z_q (k : Fin 512) : k0_pay8 (F := Ideal) (iblk m c 0 t) (iblk m c 1 t) (iblk m c 2 t) (ix2 ⟨k.val, by omega⟩ r) = (zRef (m (c.tc.loc main_arg0)) (m (c.tc.loc main_arg1)) (wArr m c) (ix2 (row t r) ⟨k.val, by omega⟩) : EReal) * (Ideal.ofBits .f32 0x3E000000#32 : EReal) := by
  rw [z_sum, zRef_sum]
  refine (Finset.sum_congr rfl fun j _ => ?_).trans ((sum_scale (1 / 8) (by norm_num) (fun j => wArr m c (ix2 j ⟨k.val, by omega⟩)) (fun j => normRef (m (c.tc.loc main_arg0)) (m (c.tc.loc main_arg1)) (ix2 (row t r) j))).trans (congrArg _ eighth.symm))
  rw [w_q, eighth]

theorem z_iq (k : Fin 256) : k0_pay8 (F := Ideal) (iblk m c 0 t) (iblk m c 1 t) (iblk m c 2 t) (ix2 ⟨768 + k.val, by omega⟩ r) = (zRef (m (c.tc.loc main_arg0)) (m (c.tc.loc main_arg1)) (wArr m c) (ix2 (row t r) ⟨768 + k.val, by omega⟩) : EReal) * (Ideal.ofBits .f32 0x3E000000#32 : EReal) := by
  rw [z_sum, zRef_sum]
  refine (Finset.sum_congr rfl fun j _ => ?_).trans ((sum_scale (1 / 8) (by norm_num) (fun j => wArr m c (ix2 j ⟨768 + k.val, by omega⟩)) (fun j => normRef (m (c.tc.loc main_arg0)) (m (c.tc.loc main_arg1)) (ix2 (row t r) j))).trans (congrArg _ eighth.symm))
  rw [w_iq, eighth]

theorem z_iw (k : Fin 4) : k0_pay8 (F := Ideal) (iblk m c 0 t) (iblk m c 1 t) (iblk m c 2 t) (ix2 ⟨1088 + k.val, by omega⟩ r) = (zRef (m (c.tc.loc main_arg0)) (m (c.tc.loc main_arg1)) (wArr m c) (ix2 (row t r) ⟨1088 + k.val, by omega⟩) : EReal) * (Ideal.ofBits .f32 0x3F000000#32 : EReal) := by
  rw [z_sum, zRef_sum]
  refine (Finset.sum_congr rfl fun j _ => ?_).trans ((sum_scale (1 / 2) (by norm_num) (fun j => wArr m c (ix2 j ⟨1088 + k.val, by omega⟩)) (fun j => normRef (m (c.tc.loc main_arg0)) (m (c.tc.loc main_arg1)) (ix2 (row t r) j))).trans (congrArg _ half.symm))
  rw [w_iw, half]

theorem z_0 (k : Fin 4) : k0_pay8 (F := Ideal) (iblk m c 0 t) (iblk m c 1 t) (iblk m c 2 t) (ix2 ⟨1092 + k.val, by omega⟩ r) = (0 : EReal) := by
  rw [z_sum]
  refine Finset.sum_eq_zero fun j _ => ?_
  rw [w_0]
  exact zero_mul _

/-- The convolution's columns of one row. -/
theorem zc_read (k : Fin 1536) : (k0_pay4 (F := Ideal) (k0_pay7 (F := Ideal) (iblk m c 0 t) (iblk m c 1 t)) (iblk m c 3 t) (ix2 r k) : EReal) = zRef (m (c.tc.loc main_arg0)) (m (c.tc.loc main_arg1)) (wArr m c) (ix2 (row t r) ⟨1092 + k.val, by omega⟩) := by
  rw [zRef_sum]
  have e : ∀ (a : FVec Ideal S512x1024 .bf16) (b : FVec Ideal S1024x1536 .bf16), (k0_pay4 (F := Ideal) a b (ix2 r k) : EReal) = ∑ j : Fin 1024, (a (ix2 r j) : EReal) * (b (ix2 j k) : EReal) := by
    intro a b
    pointwise [k0_pay4]
  exact (e _ _).trans (Finset.sum_congr rfl fun j _ => congrArg₂ (fun a b : EReal => a * b) (h_read m c t r j) (wc_read m c t j k))

end
end Cert.Proof.SProj
end
-- ==== Proof.My.SProjRef.lean ====
module

public import proofs.«01_k».proof.Proof.My.SProjRope
public import proofs.«01_k».proof.Proof.My.SProjZ
public import proofs.«01_k».proof.Proof.Gen.SProjIdeal.Value
public import proofs.«01_k».proof.Proof.Gen.SProjRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.Proof.SProj

open Idealize.ShloMosaic Idealize.ShloMosaic.TcCoe Idealize.SL.Sem

section
open Cert.SProjRefIdeal Cert.SProjRefIdeal.Gen Cert.SProjRefIdeal.Value

/-- The cosines of every row's rotation, as one head sees them. -/
def cosRef : FVec Ideal S512x1x8 .f32 := broadcastInDim S512x1x8 ![0, 2] bcast_S512x8_S512x1x8_0_2 (Host.cos angRef)

/-- The sines of every row's rotation, as one head sees them. -/
def sinRef : FVec Ideal S512x1x8 .f32 := broadcastInDim S512x1x8 ![0, 2] bcast_S512x8_S512x1x8_0_2 (Host.sin angRef)

variable (z : FVec Ideal S512x2628 .f32)

/-- The query heads before their rotation. -/
def zQ : FVec Ideal S512x8x64 .f32 := shapeCast _ (mulf (extractStridedSlice S512x512 ![0, 0] z slices_S512x2628_S512x512_0_0) (broadcastInDim S512x512 ![] bcast_S_S512x512 (constant S_ .f32 0x3E000000#32))) shapeCasts_S512x512_S512x8x64

/-- The key heads before their rotation. -/
def zK : FVec Ideal S512x2x64 .f32 := shapeCast _ (extractStridedSlice S512x128 ![0, 512] z slices_S512x2628_S512x128_0_512) shapeCasts_S512x128_S512x2x64

/-- The indexer's query heads before their rotation. -/
def zI : FVec Ideal S512x4x64 .f32 := shapeCast _ (mulf (extractStridedSlice S512x256 ![0, 768] z slices_S512x2628_S512x256_0_768) (broadcastInDim S512x256 ![] bcast_S_S512x256 (constant S_ .f32 0x3E000000#32))) shapeCasts_S512x256_S512x4x64

/-- The indexer's key before its rotation. -/
def zJ : FVec Ideal S512x1x64 .f32 := broadcastInDim S512x1x64 ![0, 2] bcast_S512x64_S512x1x64_0_2 (extractStridedSlice S512x64 ![0, 1024] z slices_S512x2628_S512x64_0_1024)

/-- The rotated key heads. -/
def kR : FVec Ideal S512x2x64 .f32 := ropeK (zK z) cosRef sinRef

/-- The rotated key of the indexer. -/
def jR : FVec Ideal S512x64 .f32 := shapeCast _ (ropeJ (zJ z) cosRef sinRef) shapeCasts_S512x1x64_S512x64

/-- The values. -/
def vR : FVec Ideal S512x128 .f32 := extractStridedSlice S512x128 ![0, 640] z slices_S512x2628_S512x128_0_640

/-- Scaled rotated queries, a column for each row. -/
def qtR : FVec Ideal S512x512 .bf16 :=
  truncf .bf16 (transpose S512x512 [1, 0] (shapeCast _ (scaleQ (ropeQ (zQ z) cosRef sinRef)) shapeCasts_S512x8x64_S512x512) transposes_S512x512_S512x512_1_0) bitsLt_bf16_f32

/-- Rotated queries of the indexer, a column for each row. -/
def qiR : FVec Ideal S256x512 .bf16 :=
  truncf .bf16 (transpose S256x512 [1, 0] (shapeCast _ (ropeI (zI z) cosRef sinRef) shapeCasts_S512x4x64_S512x256) transposes_S512x256_S256x512_1_0) bitsLt_bf16_f32

/-- The indexer's head weights, a column for each row. -/
def wiR : FVec Ideal S8x512 .f32 :=
  transpose S8x512 [1, 0] (concatenate S512x8 1 [⟨S512x4, (mulf (extractStridedSlice S512x4 ![0, 1088] z slices_S512x2628_S512x4_0_1088) (broadcastInDim S512x4 ![] bcast_S_S512x4 (constant (F := Ideal) S_ .f32 0x3F000000#32)))⟩, ⟨S512x4, (broadcastInDim S512x4 ![] bcast_S_S512x4 (constant (F := Ideal) S_ .f32 0x00000000#32))⟩] concatenates_S512x4_S512x4_S512x8_d1) transposes_S512x8_S8x512_1_0

/-- Values in tiles of 256 rows. -/
def vtR : FVec Ideal S2x128x256 .bf16 :=
  truncf .bf16 (transpose S2x128x256 [0, 2, 1] (shapeCast _ (vR z) shapeCasts_S512x128_S2x256x128) transposes_S2x256x128_S2x128x256_0_2_1) bitsLt_bf16_f32

/-- Rotated keys of each head with a lane of ones after them. -/
def kbR : FVec Ideal S2x512x128 .bf16 :=
  truncf .bf16 (transpose S2x512x128 [1, 0, 2] ((concatenate S512x2x128 2 [⟨S512x2x64, ((kR z) : (⟨S512x2x64, .f32⟩ : BufTy).Contents (Elt Ideal))⟩, ⟨S512x2x1, ((broadcastInDim S512x2x1 ![] bcast_S_S512x2x1 (constant (F := Ideal) S_ .f32 0x3F800000#32)) : (⟨S512x2x1, .f32⟩ : BufTy).Contents (Elt Ideal))⟩, ⟨S512x2x63, ((broadcastInDim S512x2x63 ![] bcast_S_S512x2x63 (constant (F := Ideal) S_ .f32 0x00000000#32)) : (⟨S512x2x63, .f32⟩ : BufTy).Contents (Elt Ideal))⟩] concatenates_S512x2x64_S512x2x1_S512x2x63_S512x2x128_d2 : (⟨S512x2x128, .f32⟩ : BufTy).Contents (Elt Ideal))) transposes_S512x2x128_S2x512x128_1_0_2) bitsLt_bf16_f32

/-- The indexer's rotated keys, rounded. -/
def jbR : FVec Ideal S512x64 .bf16 :=
  truncf .bf16 (jR z) bitsLt_bf16_f32

/-- Rotated keys, a column for each row. -/
def ktR : FVec Ideal S128x512 .f32 :=
  transpose S128x512 [1, 0] (shapeCast _ (kR z) shapeCasts_S512x2x64_S512x128) transposes_S512x128_S128x512_1_0

/-- Values, a column for each row. -/
def v3R : FVec Ideal S128x512 .f32 :=
  transpose S128x512 [1, 0] (vR z) transposes_S512x128_S128x512_1_0

/-- The indexer's rotated keys, a column for each row. -/
def jtR : FVec Ideal S64x512 .f32 :=
  transpose S64x512 [1, 0] (jR z) transposes_S512x64_S64x512_1_0

/-- The convolution's input. -/
def uR : FVec Ideal S512x512 .f32 :=
  mulf (extractStridedSlice S512x512 ![0, 1604] z slices_S512x2628_S512x512_0_1604) (extractStridedSlice S512x512 ![0, 2116] z slices_S512x2628_S512x512_0_2116)

/-- The convolution's gate. -/
def gR : FVec Ideal S512x512 .f32 :=
  extractStridedSlice S512x512 ![0, 1092] z slices_S512x2628_S512x512_0_1092

end

section
open Cert.SProjRefIdeal Cert.SProjRefIdeal.Gen Cert.SProjRefIdeal.Value Idealize.ShloMosaic.StableHlo

variable (m : (ℓ : Loc nD τ sig) → Buf (Elt Ideal) ℓ) (c : Dev nD)

/-- The projection of every row, from the arguments of a run. -/
def zOf : FVec Ideal S512x2628 .f32 := zRef (m ((c.tc : Thread nD τ).loc main_arg0)) (m ((c.tc : Thread nD τ).loc main_arg1)) (m ((c.tc : Thread nD τ).loc main_arg2))

theorem res_z : res_main_v16 (F := Ideal) (launchContents m c) = zOf m c := rfl

theorem res_v : res_main_v19 (F := Ideal) (launchContents m c) = vR (zOf m c) := rfl

theorem res_k : res_main_v98 (F := Ideal) (launchContents m c) = kR (zOf m c) := rfl

theorem res_j : res_main_v161 (F := Ideal) (launchContents m c) = jR (zOf m c) := rfl

theorem res_qtR : (truncf .bf16 (transpose S512x512 [1, 0] (shapeCast _ (mulf (concatenate S512x8x64 2 [⟨S512x8x16, (concatenate S512x8x16 2 [⟨S512x8x8, (subf (mulf (res_main_v50 (launchContents m c)) (broadcastInDim S512x8x8 ![0, 1, 2] bcast_S512x1x8_S512x8x8_0_1_2 (res_main_v47 (launchContents m c)))) (mulf (res_main_v51 (launchContents m c)) (broadcastInDim S512x8x8 ![0, 1, 2] bcast_S512x1x8_S512x8x8_0_1_2 (res_main_v49 (launchContents m c)))))⟩, ⟨S512x8x8, (addf (mulf (res_main_v51 (launchContents m c)) (broadcastInDim S512x8x8 ![0, 1, 2] bcast_S512x1x8_S512x8x8_0_1_2 (res_main_v47 (launchContents m c)))) (mulf (res_main_v50 (launchContents m c)) (broadcastInDim S512x8x8 ![0, 1, 2] bcast_S512x1x8_S512x8x8_0_1_2 (res_main_v49 (launchContents m c)))))⟩] concatenates_S512x8x8_S512x8x8_S512x8x16_d2)⟩, ⟨S512x8x48, (extractStridedSlice S512x8x48 ![0, 0, 16] (res_main_v33 (launchContents m c)) slices_S512x8x64_S512x8x48_0_0_16)⟩] concatenates_S512x8x16_S512x8x48_S512x8x64_d2) (broadcastInDim S512x8x64 ![] bcast_S_S512x8x64 (constant (F := Ideal) S_ .f32 0x3FB8AA3B#32))) shapeCasts_S512x8x64_S512x512) transposes_S512x512_S512x512_1_0) bitsLt_bf16_f32 : FVec Ideal S512x512 .bf16) = qtR (zOf m c) := rfl

theorem res_qiR : (truncf .bf16 (transpose S256x512 [1, 0] (shapeCast _ (concatenate S512x4x64 2 [⟨S512x4x16, (concatenate S512x4x16 2 [⟨S512x4x8, (subf (mulf (res_main_v118 (launchContents m c)) (broadcastInDim S512x4x8 ![0, 1, 2] bcast_S512x1x8_S512x4x8_0_1_2 (res_main_v115 (launchContents m c)))) (mulf (res_main_v119 (launchContents m c)) (broadcastInDim S512x4x8 ![0, 1, 2] bcast_S512x1x8_S512x4x8_0_1_2 (res_main_v117 (launchContents m c)))))⟩, ⟨S512x4x8, (addf (mulf (res_main_v119 (launchContents m c)) (broadcastInDim S512x4x8 ![0, 1, 2] bcast_S512x1x8_S512x4x8_0_1_2 (res_main_v115 (launchContents m c)))) (mulf (res_main_v118 (launchContents m c)) (broadcastInDim S512x4x8 ![0, 1, 2] bcast_S512x1x8_S512x4x8_0_1_2 (res_main_v117 (launchContents m c)))))⟩] concatenates_S512x4x8_S512x4x8_S512x4x16_d2)⟩, ⟨S512x4x48, (extractStridedSlice S512x4x48 ![0, 0, 16] (res_main_v101 (launchContents m c)) slices_S512x4x64_S512x4x48_0_0_16)⟩] concatenates_S512x4x16_S512x4x48_S512x4x64_d2) shapeCasts_S512x4x64_S512x256) transposes_S512x256_S256x512_1_0) bitsLt_bf16_f32 : FVec Ideal S256x512 .bf16) = qiR (zOf m c) := rfl

theorem res_wiR : (transpose S8x512 [1, 0] (concatenate S512x8 1 [⟨S512x4, (mulf (extractStridedSlice S512x4 ![0, 1088] (res_main_v16 (launchContents m c)) slices_S512x2628_S512x4_0_1088) (broadcastInDim S512x4 ![] bcast_S_S512x4 (constant (F := Ideal) S_ .f32 0x3F000000#32)))⟩, ⟨S512x4, (broadcastInDim S512x4 ![] bcast_S_S512x4 (constant (F := Ideal) S_ .f32 0x00000000#32))⟩] concatenates_S512x4_S512x4_S512x8_d1) transposes_S512x8_S8x512_1_0 : FVec Ideal S8x512 .f32) = wiR (zOf m c) := rfl

theorem res_vtR : (truncf .bf16 (transpose S2x128x256 [0, 2, 1] (shapeCast _ (res_main_v19 (launchContents m c)) shapeCasts_S512x128_S2x256x128) transposes_S2x256x128_S2x128x256_0_2_1) bitsLt_bf16_f32 : FVec Ideal S2x128x256 .bf16) = vtR (zOf m c) := rfl

theorem res_kbR : (truncf .bf16 (transpose S2x512x128 [1, 0, 2] ((concatenate S512x2x128 2 [⟨S512x2x64, ((res_main_v98 (launchContents m c)) : (⟨S512x2x64, .f32⟩ : BufTy).Contents (Elt Ideal))⟩, ⟨S512x2x1, ((broadcastInDim S512x2x1 ![] bcast_S_S512x2x1 (constant (F := Ideal) S_ .f32 0x3F800000#32)) : (⟨S512x2x1, .f32⟩ : BufTy).Contents (Elt Ideal))⟩, ⟨S512x2x63, ((broadcastInDim S512x2x63 ![] bcast_S_S512x2x63 (constant (F := Ideal) S_ .f32 0x00000000#32)) : (⟨S512x2x63, .f32⟩ : BufTy).Contents (Elt Ideal))⟩] concatenates_S512x2x64_S512x2x1_S512x2x63_S512x2x128_d2 : (⟨S512x2x128, .f32⟩ : BufTy).Contents (Elt Ideal))) transposes_S512x2x128_S2x512x128_1_0_2) bitsLt_bf16_f32 : FVec Ideal S2x512x128 .bf16) = kbR (zOf m c) := rfl

theorem res_jbR : (truncf .bf16 (res_main_v161 (launchContents m c)) bitsLt_bf16_f32 : FVec Ideal S512x64 .bf16) = jbR (zOf m c) := rfl

theorem res_ktR : (transpose S128x512 [1, 0] (shapeCast _ (res_main_v98 (launchContents m c)) shapeCasts_S512x2x64_S512x128) transposes_S512x128_S128x512_1_0 : FVec Ideal S128x512 .f32) = ktR (zOf m c) := rfl

theorem res_v3R : (transpose S128x512 [1, 0] (res_main_v19 (launchContents m c)) transposes_S512x128_S128x512_1_0 : FVec Ideal S128x512 .f32) = v3R (zOf m c) := rfl

theorem res_jtR : (transpose S64x512 [1, 0] (res_main_v161 (launchContents m c)) transposes_S512x64_S64x512_1_0 : FVec Ideal S64x512 .f32) = jtR (zOf m c) := rfl

theorem res_uR : (mulf (extractStridedSlice S512x512 ![0, 1604] (res_main_v16 (launchContents m c)) slices_S512x2628_S512x512_0_1604) (extractStridedSlice S512x512 ![0, 2116] (res_main_v16 (launchContents m c)) slices_S512x2628_S512x512_0_2116) : FVec Ideal S512x512 .f32) = uR (zOf m c) := rfl

theorem res_gR : (extractStridedSlice S512x512 ![0, 1092] (res_main_v16 (launchContents m c)) slices_S512x2628_S512x512_0_1092 : FVec Ideal S512x512 .f32) = gR (zOf m c) := rfl

end

end Cert.Proof.SProj

end
-- ==== Proof.My.SProjAt.lean ====
module

public import proofs.«01_k».proof.Proof.My.SProjRope
public import proofs.«01_k».proof.Proof.My.SProjZ
public import proofs.«01_k».proof.Proof.My.SProjRef
public import proofs.«01_k».proof.Proof.Gen.SProjIdeal.Value
public import proofs.«01_k».proof.Proof.Gen.SProjRefIdeal.Run
public import Idealize.ShloMosaic.Lib.Claim
public import Idealize.ShloMosaic.Lib.Pointwise
public import Idealize.ShloMosaic.Lib.Pipeline.ValueKit

@[expose] public section

set_option maxRecDepth 16384
set_option maxHeartbeats 8000000

noncomputable section

namespace Cert.Proof.SProj

open Idealize.ShloMosaic Idealize.ShloMosaic.TcCoe Idealize.SL.Sem

section
open Cert.SProjRefIdeal Cert.SProjRefIdeal.Gen

variable (z : FVec Ideal S512x2628 .f32) (n : Fin 512)

theorem zQ_at (h : Fin 8) (d : Fin 64) : zQ z (ix3 n h d) = (z (ix2 n ⟨64 * h.val + d.val, by omega⟩) : EReal) * (Ideal.ofBits .f32 0x3E000000#32 : EReal) := by
  pointwise [zQ]
  exact congrArg (fun a => (z (ix2 n a) : EReal) * _) (Fin.ext (by dsimp only; omega))

theorem zK_at (h : Fin 2) (d : Fin 64) : zK z (ix3 n h d) = z (ix2 n ⟨512 + (64 * h.val + d.val), by omega⟩) := by
  pointwise [zK]
  blk_ext

theorem zI_at (h : Fin 4) (d : Fin 64) : zI z (ix3 n h d) = (z (ix2 n ⟨768 + (64 * h.val + d.val), by omega⟩) : EReal) * (Ideal.ofBits .f32 0x3E000000#32 : EReal) := by
  pointwise [zI]
  exact congrArg (fun a => (z (ix2 n a) : EReal) * _) (Fin.ext (by dsimp only; omega))

theorem zJ_at (h : Fin 1) (d : Fin 64) : zJ z (ix3 n h d) = z (ix2 n ⟨1024 + d.val, by omega⟩) := by
  pointwise [zJ]

theorem qtR_at (h : Fin 8) (d : Fin 64) : (qtR z (ix2 ⟨64 * h.val + d.val, by omega⟩ n) : EReal) = (scaleQ (ropeQ (zQ z) cosRef sinRef) (ix3 n h d) : EReal) := by
  unfold qtR
  generalize scaleQ (ropeQ (zQ z) cosRef sinRef) = a
  pointwise

theorem qiR_at (h : Fin 4) (d : Fin 64) : (qiR z (ix2 ⟨64 * h.val + d.val, by omega⟩ n) : EReal) = (ropeI (zI z) cosRef sinRef (ix3 n h d) : EReal) := by
  unfold qiR
  generalize ropeI (zI z) cosRef sinRef = a
  pointwise

theorem ktR_at (h : Fin 2) (d : Fin 64) : ktR z (ix2 ⟨64 * h.val + d.val, by omega⟩ n) = kR z (ix3 n h d) := by
  unfold ktR
  generalize kR z = a
  pointwise

theorem jR_at (d : Fin 64) : jR z (ix2 n d) = ropeJ (zJ z) cosRef sinRef (ix3 n 0 d) := by
  unfold jR
  generalize ropeJ (zJ z) cosRef sinRef = a
  pointwise

theorem cosRef_at (d : Fin 8) : cosRef (ix3 n 0 d) = Host.cos angRef (ix2 n d) := by
  unfold cosRef
  generalize Host.cos angRef = a
  pointwise

theorem sinRef_at (d : Fin 8) : sinRef (ix3 n 0 d) = Host.sin angRef (ix2 n d) := by
  unfold sinRef
  generalize Host.sin angRef = a
  pointwise

end

section
open Cert.SProjIdeal Cert.SProjIdeal.Gen

variable (m : (ℓ : Loc nD τ sig) → Buf (Elt Ideal) ℓ) (c : Dev nD)

/-- The reference's projection, from the kernel's own arguments. -/
def Z : FVec Ideal Cert.SProjRefIdeal.S512x2628 .f32 := zRef (m (c.tc.loc main_arg0)) (m (c.tc.loc main_arg1)) (wArr m c)

variable (t : Fin grid0.N) (r : Fin 512)

theorem hzQ (h : Fin 8) (d : Fin 64) : k0_pay8 (F := Ideal) (iblk m c 0 t) (iblk m c 1 t) (iblk m c 2 t) (ix2 ⟨0 + 64 * h.val + d.val, by omega⟩ r) = zQ (Z m c) (ix3 (row t r) h d) := by
  rw [show (⟨0 + 64 * h.val + d.val, by omega⟩ : Fin 1096) = ⟨64 * h.val + d.val, by omega⟩ from Fin.ext (by dsimp only; omega)]
  exact (z_q m c t r ⟨64 * h.val + d.val, by omega⟩).trans (zQ_at _ _ h d).symm

theorem hzK (h : Fin 2) (d : Fin 64) : k0_pay8 (F := Ideal) (iblk m c 0 t) (iblk m c 1 t) (iblk m c 2 t) (ix2 ⟨512 + 64 * h.val + d.val, by omega⟩ r) = zK (Z m c) (ix3 (row t r) h d) := by
  rw [show (⟨512 + 64 * h.val + d.val, by omega⟩ : Fin 1096) = ⟨512 + (64 * h.val + d.val), by omega⟩ from Fin.ext (by dsimp only; omega)]
  exact (z_kv m c t r ⟨64 * h.val + d.val, by omega⟩).trans (zK_at _ _ h d).symm

theorem hzI (h : Fin 4) (d : Fin 64) : k0_pay8 (F := Ideal) (iblk m c 0 t) (iblk m c 1 t) (iblk m c 2 t) (ix2 ⟨768 + 64 * h.val + d.val, by omega⟩ r) = zI (Z m c) (ix3 (row t r) h d) := by
  rw [show (⟨768 + 64 * h.val + d.val, by omega⟩ : Fin 1096) = ⟨768 + (64 * h.val + d.val), by omega⟩ from Fin.ext (by dsimp only; omega)]
  exact (z_iq m c t r ⟨64 * h.val + d.val, by omega⟩).trans (zI_at _ _ h d).symm

theorem hzJ (h : Fin 1) (d : Fin 64) : k0_pay8 (F := Ideal) (iblk m c 0 t) (iblk m c 1 t) (iblk m c 2 t) (ix2 ⟨1024 + 64 * h.val + d.val, by omega⟩ r) = zJ (Z m c) (ix3 (row t r) h d) := by
  rw [show (⟨1024 + 64 * h.val + d.val, by omega⟩ : Fin 1096) = ⟨1024 + d.val, by omega⟩ from Fin.ext (by dsimp only; omega)]
  exact (z_ik m c t r d).trans (zJ_at _ _ h d).symm

theorem hc (d : Fin 8) : iblk m c 4 t (ix2 d r) = cosRef (ix3 (row t r) 0 d) := (cos_read m c t r d).trans (cosRef_at _ d).symm

theorem hs (d : Fin 8) : iblk m c 5 t (ix2 d r) = sinRef (ix3 (row t r) 0 d) := (sin_read m c t r d).trans (sinRef_at _ d).symm

theorem hc9 (d : Fin 8) : k0_pay9 (F := Ideal) (iblk m c 4 t) (ix2 d r) = cosRef (ix3 (row t r) 0 d) := by
  refine Eq.trans ?_ (hc m c t r d)
  generalize iblk m c 4 t = a
  pointwise [k0_pay9]

theorem hs10 (d : Fin 8) : k0_pay10 (F := Ideal) (iblk m c 5 t) (ix2 d r) = sinRef (ix3 (row t r) 0 d) := by
  refine Eq.trans ?_ (hs m c t r d)
  generalize iblk m c 5 t = a
  pointwise [k0_pay10]

end

end Cert.Proof.SProj

end
-- ==== Proof.My.SProjRopeQ.lean ====
module

public import proofs.«01_k».proof.Proof.My.SProjRope
public import proofs.«01_k».proof.Proof.Gen.SProjIdeal.Value
public import proofs.«01_k».proof.Proof.Gen.SProjRefIdeal.Run
public import Idealize.ShloMosaic.Lib.Claim
public import Idealize.ShloMosaic.Lib.Pointwise
public import Idealize.ShloMosaic.Lib.Pipeline.ValueKit

@[expose] public section

set_option maxRecDepth 16384
set_option maxHeartbeats 4000000

noncomputable section

namespace Cert.Proof.SProj

open Idealize.ShloMosaic Idealize.ShloMosaic.TcCoe Idealize.SL.Sem

section
open Cert.SProjIdeal Cert.SProjIdeal.Gen

/-- The kernel's query heads, stacked: of each head its two turned eighths and the rest. -/
def catQ (v20 : FVec Ideal S8x512 .f32) (v22 : FVec Ideal S8x512 .f32) (v23 : FVec Ideal S512x512 .f32) (v28 : FVec Ideal S8x512 .f32) (v31 : FVec Ideal S8x512 .f32) (v32 : FVec Ideal S48x512 .f32) (v37 : FVec Ideal S8x512 .f32) (v40 : FVec Ideal S8x512 .f32) (v41 : FVec Ideal S48x512 .f32) (v42 : FVec Ideal S8x512 .f32) (v43 : FVec Ideal S8x512 .f32) (v44 : FVec Ideal S8x512 .f32) : FVec Ideal S512x512 .f32 :=
  concatenate S512x512 0 [⟨S8x512, v28⟩, ⟨S8x512, v31⟩, ⟨S48x512, v32⟩, ⟨S8x512, v37⟩, ⟨S8x512, v40⟩, ⟨S48x512, v41⟩, ⟨S8x512, (subf v44 (mulf v43 v22))⟩, ⟨S8x512, (addf (mulf v43 v20) (mulf v42 v22))⟩, ⟨S48x512, (extractStridedSlice S48x512 ![144, 0] v23 slices_S512x512_o144_0_S48x512)⟩, ⟨S8x512, (subf (mulf (extractStridedSlice S8x512 ![192, 0] v23 slices_S512x512_o192_0_S8x512) v20) (mulf (extractStridedSlice S8x512 ![200, 0] v23 slices_S512x512_o200_0_S8x512) v22))⟩, ⟨S8x512, (addf (mulf (extractStridedSlice S8x512 ![200, 0] v23 slices_S512x512_o200_0_S8x512) v20) (mulf (extractStridedSlice S8x512 ![192, 0] v23 slices_S512x512_o192_0_S8x512) v22))⟩, ⟨S48x512, (extractStridedSlice S48x512 ![208, 0] v23 slices_S512x512_o208_0_S48x512)⟩, ⟨S8x512, (subf (mulf (extractStridedSlice S8x512 ![256, 0] v23 slices_S512x512_o256_0_S8x512) v20) (mulf (extractStridedSlice S8x512 ![264, 0] v23 slices_S512x512_o264_0_S8x512) v22))⟩, ⟨S8x512, (addf (mulf (extractStridedSlice S8x512 ![264, 0] v23 slices_S512x512_o264_0_S8x512) v20) (mulf (extractStridedSlice S8x512 ![256, 0] v23 slices_S512x512_o256_0_S8x512) v22))⟩, ⟨S48x512, (extractStridedSlice S48x512 ![272, 0] v23 slices_S512x512_o272_0_S48x512)⟩, ⟨S8x512, (subf (mulf (extractStridedSlice S8x512 ![320, 0] v23 slices_S512x512_o320_0_S8x512) v20) (mulf (extractStridedSlice S8x512 ![328, 0] v23 slices_S512x512_o328_0_S8x512) v22))⟩, ⟨S8x512, (addf (mulf (extractStridedSlice S8x512 ![328, 0] v23 slices_S512x512_o328_0_S8x512) v20) (mulf (extractStridedSlice S8x512 ![320, 0] v23 slices_S512x512_o320_0_S8x512) v22))⟩, ⟨S48x512, (extractStridedSlice S48x512 ![336, 0] v23 slices_S512x512_o336_0_S48x512)⟩, ⟨S8x512, (subf (mulf (extractStridedSlice S8x512 ![384, 0] v23 slices_S512x512_o384_0_S8x512) v20) (mulf (extractStridedSlice S8x512 ![392, 0] v23 slices_S512x512_o392_0_S8x512) v22))⟩, ⟨S8x512, (addf (mulf (extractStridedSlice S8x512 ![392, 0] v23 slices_S512x512_o392_0_S8x512) v20) (mulf (extractStridedSlice S8x512 ![384, 0] v23 slices_S512x512_o384_0_S8x512) v22))⟩, ⟨S48x512, (extractStridedSlice S48x512 ![400, 0] v23 slices_S512x512_o400_0_S48x512)⟩, ⟨S8x512, (subf (mulf (extractStridedSlice S8x512 ![448, 0] v23 slices_S512x512_o448_0_S8x512) v20) (mulf (extractStridedSlice S8x512 ![456, 0] v23 slices_S512x512_o456_0_S8x512) v22))⟩, ⟨S8x512, (addf (mulf (extractStridedSlice S8x512 ![456, 0] v23 slices_S512x512_o456_0_S8x512) v20) (mulf (extractStridedSlice S8x512 ![448, 0] v23 slices_S512x512_o448_0_S8x512) v22))⟩, ⟨S48x512, (extractStridedSlice S48x512 ![464, 0] v23 slices_S512x512_o464_0_S48x512)⟩] concatenates_S8x512_S8x512_S48x512_S8x512_S8x512_S48x512_S8x512_S8x512_S48x512_S8x512_S8x512_S48x512_S8x512_S8x512_S48x512_S8x512_S8x512_S48x512_S8x512_S8x512_S48x512_S8x512_S8x512_S48x512_S512x512_d0

theorem pay25_at (v20 : FVec Ideal S8x512 .f32) (v22 : FVec Ideal S8x512 .f32) (v23 : FVec Ideal S512x512 .f32) (v28 : FVec Ideal S8x512 .f32) (v31 : FVec Ideal S8x512 .f32) (v32 : FVec Ideal S48x512 .f32) (v37 : FVec Ideal S8x512 .f32) (v40 : FVec Ideal S8x512 .f32) (v41 : FVec Ideal S48x512 .f32) (v42 : FVec Ideal S8x512 .f32) (v43 : FVec Ideal S8x512 .f32) (v44 : FVec Ideal S8x512 .f32) (j : S512x512.Idx) :
    (k0_pay25 (F := Ideal) v20 v22 v23 v28 v31 v32 v37 v40 v41 v42 v43 v44 j : EReal) = (catQ v20 v22 v23 v28 v31 v32 v37 v40 v41 v42 v43 v44 j : EReal) * (Ideal.ofBits .f32 0x3FB8AA3B#32 : EReal) := rfl

theorem scaleQ_at (z : FVec Ideal Cert.SProjRefIdeal.S512x8x64 .f32) (n : Fin 512) (h : Fin 8) (d : Fin 64) :
    (scaleQ z (ix3 n h d) : EReal) = (z (ix3 n h d) : EReal) * (Ideal.ofBits .f32 0x3FB8AA3B#32 : EReal) := by
  pointwise [scaleQ]

/-- Off the stacked axis nothing moves. -/
theorem stays {a : Nat} (i : Fin a) (j : Fin 512) (r : Fin 512) (b : Fin 2) (hb : b ≠ 0) :
    (ix2 i r b).val = (ix2 j r b).val := by
  fin_cases b
  · exact absurd rfl hb
  · rfl

variable (v0 : FVec Ideal S512x1024 .f32) (v1 : FVec Ideal S1x1024 .f32) (v16 : FVec Ideal S1096x1024 .bf16) (v20 v22 : FVec Ideal S8x512 .f32) (z : FVec Ideal Cert.SProjRefIdeal.S512x8x64 .f32) (cs sn : FVec Ideal Cert.SProjRefIdeal.S512x1x8 .f32) (r : Fin 512) (n : Fin 512)

/-- Head 0 of the stacked queries is the reference's. -/
theorem q_head_0
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 0) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 0 ?hk0 S8x512 ?x0 ?hx0 rfl 0 ?hp0 (ix2 ⟨d.val - 0, by omega⟩ r) ?ho0 ?ha0) ?_
    case hk0 => show 0 < 24; omega
    case hx0 => rfl
    case hp0 => show (([] : List Nat)).sum = 0; decide +kernel
    case ho0 => exact fun b hb => stays _ _ r b hb
    case ha0 => show 0 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 1 ?hk1 S8x512 ?x1 ?hx1 rfl 8 ?hp1 (ix2 ⟨d.val - 8, by omega⟩ r) ?ho1 ?ha1) ?_
    case hk1 => show 1 < 24; omega
    case hx1 => rfl
    case hp1 => show (([8] : List Nat)).sum = 8; decide +kernel
    case ho1 => exact fun b hb => stays _ _ r b hb
    case ha1 => show 8 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 2 ?hk2 S48x512 ?x2 ?hx2 rfl 16 ?hp2 (ix2 ⟨d.val - 16, by omega⟩ r) ?ho2 ?ha2) ?_
    case hk2 => show 2 < 24; omega
    case hx2 => rfl
    case hp2 => show (([8, 8] : List Nat)).sum = 16; decide +kernel
    case ho2 => exact fun b hb => stays _ _ r b hb
    case ha2 => show 16 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 1 of the stacked queries is the reference's. -/
theorem q_head_1
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 1) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 3 ?hk3 S8x512 ?x3 ?hx3 rfl 64 ?hp3 (ix2 ⟨d.val - 0, by omega⟩ r) ?ho3 ?ha3) ?_
    case hk3 => show 3 < 24; omega
    case hx3 => rfl
    case hp3 => show (([8, 8, 48] : List Nat)).sum = 64; decide +kernel
    case ho3 => exact fun b hb => stays _ _ r b hb
    case ha3 => show 64 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 4 ?hk4 S8x512 ?x4 ?hx4 rfl 72 ?hp4 (ix2 ⟨d.val - 8, by omega⟩ r) ?ho4 ?ha4) ?_
    case hk4 => show 4 < 24; omega
    case hx4 => rfl
    case hp4 => show (([8, 8, 48, 8] : List Nat)).sum = 72; decide +kernel
    case ho4 => exact fun b hb => stays _ _ r b hb
    case ha4 => show 72 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 5 ?hk5 S48x512 ?x5 ?hx5 rfl 80 ?hp5 (ix2 ⟨d.val - 16, by omega⟩ r) ?ho5 ?ha5) ?_
    case hk5 => show 5 < 24; omega
    case hx5 => rfl
    case hp5 => show (([8, 8, 48, 8, 8] : List Nat)).sum = 80; decide +kernel
    case ho5 => exact fun b hb => stays _ _ r b hb
    case ha5 => show 80 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 2 of the stacked queries is the reference's. -/
theorem q_head_2
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 2) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 6 ?hk6 S8x512 ?x6 ?hx6 rfl 128 ?hp6 (ix2 ⟨d.val - 0, by omega⟩ r) ?ho6 ?ha6) ?_
    case hk6 => show 6 < 24; omega
    case hx6 => rfl
    case hp6 => show (([8, 8, 48, 8, 8, 48] : List Nat)).sum = 128; decide +kernel
    case ho6 => exact fun b hb => stays _ _ r b hb
    case ha6 => show 128 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 7 ?hk7 S8x512 ?x7 ?hx7 rfl 136 ?hp7 (ix2 ⟨d.val - 8, by omega⟩ r) ?ho7 ?ha7) ?_
    case hk7 => show 7 < 24; omega
    case hx7 => rfl
    case hp7 => show (([8, 8, 48, 8, 8, 48, 8] : List Nat)).sum = 136; decide +kernel
    case ho7 => exact fun b hb => stays _ _ r b hb
    case ha7 => show 136 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 8 ?hk8 S48x512 ?x8 ?hx8 rfl 144 ?hp8 (ix2 ⟨d.val - 16, by omega⟩ r) ?ho8 ?ha8) ?_
    case hk8 => show 8 < 24; omega
    case hx8 => rfl
    case hp8 => show (([8, 8, 48, 8, 8, 48, 8, 8] : List Nat)).sum = 144; decide +kernel
    case ho8 => exact fun b hb => stays _ _ r b hb
    case ha8 => show 144 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 3 of the stacked queries is the reference's. -/
theorem q_head_3
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 3) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 9 ?hk9 S8x512 ?x9 ?hx9 rfl 192 ?hp9 (ix2 ⟨d.val - 0, by omega⟩ r) ?ho9 ?ha9) ?_
    case hk9 => show 9 < 24; omega
    case hx9 => rfl
    case hp9 => show (([8, 8, 48, 8, 8, 48, 8, 8, 48] : List Nat)).sum = 192; decide +kernel
    case ho9 => exact fun b hb => stays _ _ r b hb
    case ha9 => show 192 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 10 ?hk10 S8x512 ?x10 ?hx10 rfl 200 ?hp10 (ix2 ⟨d.val - 8, by omega⟩ r) ?ho10 ?ha10) ?_
    case hk10 => show 10 < 24; omega
    case hx10 => rfl
    case hp10 => show (([8, 8, 48, 8, 8, 48, 8, 8, 48, 8] : List Nat)).sum = 200; decide +kernel
    case ho10 => exact fun b hb => stays _ _ r b hb
    case ha10 => show 200 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 11 ?hk11 S48x512 ?x11 ?hx11 rfl 208 ?hp11 (ix2 ⟨d.val - 16, by omega⟩ r) ?ho11 ?ha11) ?_
    case hk11 => show 11 < 24; omega
    case hx11 => rfl
    case hp11 => show (([8, 8, 48, 8, 8, 48, 8, 8, 48, 8, 8] : List Nat)).sum = 208; decide +kernel
    case ho11 => exact fun b hb => stays _ _ r b hb
    case ha11 => show 208 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 4 of the stacked queries is the reference's. -/
theorem q_head_4
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 4) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 12 ?hk12 S8x512 ?x12 ?hx12 rfl 256 ?hp12 (ix2 ⟨d.val - 0, by omega⟩ r) ?ho12 ?ha12) ?_
    case hk12 => show 12 < 24; omega
    case hx12 => rfl
    case hp12 => show (([8, 8, 48, 8, 8, 48, 8, 8, 48, 8, 8, 48] : List Nat)).sum = 256; decide +kernel
    case ho12 => exact fun b hb => stays _ _ r b hb
    case ha12 => show 256 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 13 ?hk13 S8x512 ?x13 ?hx13 rfl 264 ?hp13 (ix2 ⟨d.val - 8, by omega⟩ r) ?ho13 ?ha13) ?_
    case hk13 => show 13 < 24; omega
    case hx13 => rfl
    case hp13 => show (([8, 8, 48, 8, 8, 48, 8, 8, 48, 8, 8, 48, 8] : List Nat)).sum = 264; decide +kernel
    case ho13 => exact fun b hb => stays _ _ r b hb
    case ha13 => show 264 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 14 ?hk14 S48x512 ?x14 ?hx14 rfl 272 ?hp14 (ix2 ⟨d.val - 16, by omega⟩ r) ?ho14 ?ha14) ?_
    case hk14 => show 14 < 24; omega
    case hx14 => rfl
    case hp14 => show (([8, 8, 48, 8, 8, 48, 8, 8, 48, 8, 8, 48, 8, 8] : List Nat)).sum = 272; decide +kernel
    case ho14 => exact fun b hb => stays _ _ r b hb
    case ha14 => show 272 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 5 of the stacked queries is the reference's. -/
theorem q_head_5
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 5) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 15 ?hk15 S8x512 ?x15 ?hx15 rfl 320 ?hp15 (ix2 ⟨d.val - 0, by omega⟩ r) ?ho15 ?ha15) ?_
    case hk15 => show 15 < 24; omega
    case hx15 => rfl
    case hp15 => show (([8, 8, 48, 8, 8, 48, 8, 8, 48, 8, 8, 48, 8, 8, 48] : List Nat)).sum = 320; decide +kernel
    case ho15 => exact fun b hb => stays _ _ r b hb
    case ha15 => show 320 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 16 ?hk16 S8x512 ?x16 ?hx16 rfl 328 ?hp16 (ix2 ⟨d.val - 8, by omega⟩ r) ?ho16 ?ha16) ?_
    case hk16 => show 16 < 24; omega
    case hx16 => rfl
    case hp16 => show (([8, 8, 48, 8, 8, 48, 8, 8, 48, 8, 8, 48, 8, 8, 48, 8] : List Nat)).sum = 328; decide +kernel
    case ho16 => exact fun b hb => stays _ _ r b hb
    case ha16 => show 328 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 17 ?hk17 S48x512 ?x17 ?hx17 rfl 336 ?hp17 (ix2 ⟨d.val - 16, by omega⟩ r) ?ho17 ?ha17) ?_
    case hk17 => show 17 < 24; omega
    case hx17 => rfl
    case hp17 => show (([8, 8, 48, 8, 8, 48, 8, 8, 48, 8, 8, 48, 8, 8, 48, 8, 8] : List Nat)).sum = 336; decide +kernel
    case ho17 => exact fun b hb => stays _ _ r b hb
    case ha17 => show 336 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 6 of the stacked queries is the reference's. -/
theorem q_head_6
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 6) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 18 ?hk18 S8x512 ?x18 ?hx18 rfl 384 ?hp18 (ix2 ⟨d.val - 0, by omega⟩ r) ?ho18 ?ha18) ?_
    case hk18 => show 18 < 24; omega
    case hx18 => rfl
    case hp18 => show (([8, 8, 48, 8, 8, 48, 8, 8, 48, 8, 8, 48, 8, 8, 48, 8, 8, 48] : List Nat)).sum = 384; decide +kernel
    case ho18 => exact fun b hb => stays _ _ r b hb
    case ha18 => show 384 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 19 ?hk19 S8x512 ?x19 ?hx19 rfl 392 ?hp19 (ix2 ⟨d.val - 8, by omega⟩ r) ?ho19 ?ha19) ?_
    case hk19 => show 19 < 24; omega
    case hx19 => rfl
    case hp19 => show (([8, 8, 48, 8, 8, 48, 8, 8, 48, 8, 8, 48, 8, 8, 48, 8, 8, 48, 8] : List Nat)).sum = 392; decide +kernel
    case ho19 => exact fun b hb => stays _ _ r b hb
    case ha19 => show 392 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 20 ?hk20 S48x512 ?x20 ?hx20 rfl 400 ?hp20 (ix2 ⟨d.val - 16, by omega⟩ r) ?ho20 ?ha20) ?_
    case hk20 => show 20 < 24; omega
    case hx20 => rfl
    case hp20 => show (([8, 8, 48, 8, 8, 48, 8, 8, 48, 8, 8, 48, 8, 8, 48, 8, 8, 48, 8, 8] : List Nat)).sum = 400; decide +kernel
    case ho20 => exact fun b hb => stays _ _ r b hb
    case ha20 => show 400 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Head 7 of the stacked queries is the reference's. -/
theorem q_head_7
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) (hh : h.val = 7) :
    (catQ (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = ropeQ z cs sn (ix3 n h d) := by
  unfold catQ
  have hd := d.isLt
  rcases (by omega : d.val < 8 ∨ (8 ≤ d.val ∧ d.val < 16) ∨ 16 ≤ d.val) with h8 | h8 | h8
  · refine Eq.trans (concatenate_apply_piece (t := S512x512) 0 _ _ (ix2 ⟨64 * h.val + d.val, by omega⟩ r) 21 ?hk21 S8x512 ?x21 ?hx21 rfl 448 ?hp21 (ix2 ⟨d.val - 0, by omega⟩ r) ?ho21 ?ha21) ?_
    case hk21 => show 21 < 24; omega
    case hx21 => rfl
    case hp21 => show (([8, 8, 48, 8, 8, 48, 8, 8, 48, 8, 8, 48, 8, 8, 48, 8, 8, 48, 8, 8, 48] : List Nat)).sum = 448; decide +kernel
    case ho21 => exact fun b hb => stays _ _ r b hb
    case ha21 => show 448 + (d.val - 0) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 22 ?hk22 S8x512 ?x22 ?hx22 rfl 456 ?hp22 (ix2 ⟨d.val - 8, by omega⟩ r) ?ho22 ?ha22) ?_
    case hk22 => show 22 < 24; omega
    case hx22 => rfl
    case hp22 => show (([8, 8, 48, 8, 8, 48, 8, 8, 48, 8, 8, 48, 8, 8, 48, 8, 8, 48, 8, 8, 48, 8] : List Nat)).sum = 456; decide +kernel
    case ho22 => exact fun b hb => stays _ _ r b hb
    case ha22 => show 456 + (d.val - 8) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)
  · refine Eq.trans (concatenate_apply_piece (t := S512x512) 0 _ _ (ix2 ⟨64 * h.val + d.val, by omega⟩ r) 23 ?hk23 S48x512 ?x23 ?hx23 rfl 464 ?hp23 (ix2 ⟨d.val - 16, by omega⟩ r) ?ho23 ?ha23) ?_
    case hk23 => show 23 < 24; omega
    case hx23 => rfl
    case hp23 => show (([8, 8, 48, 8, 8, 48, 8, 8, 48, 8, 8, 48, 8, 8, 48, 8, 8, 48, 8, 8, 48, 8, 8] : List Nat)).sum = 464; decide +kernel
    case ho23 => exact fun b hb => stays _ _ r b hb
    case ha23 => show 464 + (d.val - 16) = 64 * h.val + d.val; omega
    pointwise [k0_pay9, k0_pay10, k0_pay11, k0_pay12, k0_pay13, k0_pay14, k0_pay15, k0_pay16, k0_pay17, k0_pay18, k0_pay19, k0_pay20, k0_pay21, k0_pay22, k0_pay23, k0_pay24, ropeQ]
    generalize k0_pay8 (F := Ideal) v0 v1 v16 = v18 at *
    simp only [← hz, ← hc, ← hs]
    obtain ⟨f, hf⟩ := natFun1 (fun i => v18 (ix2 i r))
    obtain ⟨g, hg⟩ := natFun1 (fun i => v20 (ix2 i r))
    obtain ⟨e, he⟩ := natFun1 (fun i => v22 (ix2 i r))
    simp only [hf, hg, he, dite_eq_ite]
    simp (disch := omega) only [↓if_pos, ↓if_neg]
    first | exact congrArg f (by omega) | exact sub_eq (by omega) (by omega) (by omega) (by omega) | exact add_eq (by omega) (by omega) (by omega) (by omega)

/-- Rotated and scaled query heads of one row. -/
theorem q_row
    (hz : ∀ (h : Fin 8) (d : Fin 64), k0_pay8 v0 v1 v16 (ix2 ⟨0 + 64 * h.val + d.val, by omega⟩ r) = z (ix3 n h d))
    (hc : ∀ d, v20 (ix2 d r) = cs (ix3 n 0 d)) (hs : ∀ d, v22 (ix2 d r) = sn (ix3 n 0 d)) (h : Fin 8) (d : Fin 64) :
    (k0_pay25 (F := Ideal) (k0_pay9 v20) (k0_pay10 v22) (k0_pay11 v0 v1 v16) (k0_pay14 v0 v1 v16 v20 v22) (k0_pay15 v0 v1 v16 v20 v22) (k0_pay16 v0 v1 v16) (k0_pay19 v0 v1 v16 v20 v22) (k0_pay20 v0 v1 v16 v20 v22) (k0_pay21 v0 v1 v16) (k0_pay22 v0 v1 v16) (k0_pay23 v0 v1 v16) (k0_pay24 v0 v1 v16 v20) (ix2 ⟨64 * h.val + d.val, by omega⟩ r) : EReal) = (scaleQ (ropeQ z cs sn) (ix3 n h d) : EReal) := by
  rw [scaleQ_at]
  refine (pay25_at _ _ _ _ _ _ _ _ _ _ _ _ _).trans (congrArg (fun x : EReal => x * _) ?_)
  have hh := h.isLt
  rcases (by omega : h.val = 0 ∨ h.val = 1 ∨ h.val = 2 ∨ h.val = 3 ∨ h.val = 4 ∨ h.val = 5 ∨ h.val = 6 ∨ h.val = 7) with e | e | e | e | e | e | e | e
  · exact q_head_0 v0 v1 v16 v20 v22 z cs sn r n hz hc hs h d e
  · exact q_head_1 v0 v1 v16 v20 v22 z cs sn r n hz hc hs h d e
  · exact q_head_2 v0 v1 v16 v20 v22 z cs sn r n hz hc hs h d e
  · exact q_head_3 v0 v1 v16 v20 v22 z cs sn r n hz hc hs h d e
  · exact q_head_4 v0 v1 v16 v20 v22 z cs sn r n hz hc hs h d e
  · exact q_head_5 v0 v1 v16 v20 v22 z cs sn r n hz hc hs h d e
  · exact q_head_6 v0 v1 v16 v20 v22 z cs sn r n hz hc hs h d e
  · exact q_head_7 v0 v1 v16 v20 v22 z cs sn r n hz hc hs h d e

end

end Cert.Proof.SProj

end
-- ==== Proof.My.SProjValue.lean ====
module

public import proofs.«01_k».proof.Proof.My.SProjRope
public import proofs.«01_k».proof.Defs
public import proofs.«01_k».proof.Proof.My.SProjZ
public import proofs.«01_k».proof.Proof.My.SProjRef
public import proofs.«01_k».proof.Proof.My.SProjAt
public import proofs.«01_k».proof.Proof.My.SProjRopeQ
public import proofs.«01_k».proof.Proof.Gen.SProjIdeal.Value
public import proofs.«01_k».proof.Proof.Gen.SProjRefIdeal.Run
public import Idealize.ShloMosaic.Lib.Claim
public import Idealize.ShloMosaic.Lib.Pointwise
public import Idealize.ShloMosaic.Lib.Pipeline.ValueKit

@[expose] public section

set_option maxRecDepth 16384
set_option maxHeartbeats 8000000

noncomputable section

namespace Cert.Proof.SProj

open Idealize.ShloMosaic Idealize.ShloMosaic.TcCoe Idealize.SL.Sem

section
open Cert.SProjIdeal Cert.SProjIdeal.Gen
open Idealize.ShloMosaic.Pipeline (Dat)

/-- What the two stores of a window leave in its first plane, -/
theorem two9_lo (w1 w0 : S1x128x256.Idx → Elt Ideal .bf16) (i : Fin 128) (r : Fin 256) :
    View.canon [(⟨r0_9, w1⟩ : View.Piece (Elt Ideal) S2x128x256 .bf16), ⟨r0_8, w0⟩] (ix3 0 i r) = w0 (ix3 0 i r) := by
  rw [View.canon_cons_of_not_mem]
  · rw [show (ix3 0 i r : S2x128x256.Idx) = r0_8.emb (ix3 0 i r) by blk_ext]
    exact View.canon_cons_emb r0_8 w0 [] _
  · intro h
    obtain ⟨x, hx⟩ := r0_9.exists_idx_of_mem h
    have := congrArg Fin.val (congrFun hx 0)
    change 1 + _ = 0 at this
    omega

/-- and in its second one. -/
theorem two9_hi (w1 w0 : S1x128x256.Idx → Elt Ideal .bf16) (i : Fin 128) (r : Fin 256) :
    View.canon [(⟨r0_9, w1⟩ : View.Piece (Elt Ideal) S2x128x256 .bf16), ⟨r0_8, w0⟩] (ix3 1 i r) = w1 (ix3 0 i r) := by
  rw [show (ix3 1 i r : S2x128x256.Idx) = r0_9.emb (ix3 0 i r) by blk_ext]
  exact View.canon_cons_emb r0_9 w1 _ _

/-- What the two stores of a window leave in its first plane, -/
theorem two10_lo (w1 w0 : S1x512x128.Idx → Elt Ideal .bf16) (i : Fin 512) (r : Fin 128) :
    View.canon [(⟨r0_7, w1⟩ : View.Piece (Elt Ideal) S2x512x128 .bf16), ⟨r0_6, w0⟩] (ix3 0 i r) = w0 (ix3 0 i r) := by
  rw [View.canon_cons_of_not_mem]
  · rw [show (ix3 0 i r : S2x512x128.Idx) = r0_6.emb (ix3 0 i r) by blk_ext]
    exact View.canon_cons_emb r0_6 w0 [] _
  · intro h
    obtain ⟨x, hx⟩ := r0_7.exists_idx_of_mem h
    have := congrArg Fin.val (congrFun hx 0)
    change 1 + _ = 0 at this
    omega

/-- and in its second one. -/
theorem two10_hi (w1 w0 : S1x512x128.Idx → Elt Ideal .bf16) (i : Fin 512) (r : Fin 128) :
    View.canon [(⟨r0_7, w1⟩ : View.Piece (Elt Ideal) S2x512x128 .bf16), ⟨r0_6, w0⟩] (ix3 1 i r) = w1 (ix3 0 i r) := by
  rw [show (ix3 1 i r : S2x512x128.Idx) = r0_7.emb (ix3 0 i r) by blk_ext]
  exact View.canon_cons_emb r0_7 w1 _ _

/-- Beside the keys a lane of ones and zeros. -/
theorem ones_at (r : Fin 512) (i : Fin 64) : (k0_pay28 (F := Ideal) (ix2 r i) : EReal) = if i.val = 0 then 1 else 0 := by
  pointwise [k0_pay28]
  by_cases h : i.val = 0
  · rw [if_pos h, h]
    rfl
  · rw [if_neg h]
    have hb : BitVec.ofNat 32 i.val ≠ 0#32 := by
      intro e
      have e' := congrArg BitVec.toNat e
      have hi := i.isLt
      simp only [BitVec.toNat_ofNat] at e'
      omega
    simp [Scalar.select, IntOp.cmpi, beq_eq_false_iff_ne.mpr hb]

theorem kb_k0 (v18 : FVec Ideal S1096x512 .f32) (v20 v22 : FVec Ideal S8x512 .f32) (r : Fin 512) (i : Fin 128) :
    (k0_pay29 (F := Ideal) v18 v20 v22 (ix3 0 r i) : EReal) = if h : i.val < 64 then k0_pay26 (F := Ideal) v18 v20 v22 (ix2 ⟨64 * 0 + i.val, by omega⟩ r) else if i.val = 64 then 1 else 0 := by
  unfold k0_pay29 k0_pay27
  generalize k0_pay26 (F := Ideal) v18 v20 v22 = a
  have e := ones_at r
  generalize k0_pay28 (F := Ideal) = w at e
  pointwise
  by_cases h : i.val < 64
  · rw [dif_pos h, dif_pos h]
    first | done | rfl | blk_ext
  · rw [dif_neg h, dif_neg h, e]
    by_cases h' : i.val = 64
    · rw [if_pos h', if_pos (by dsimp only; omega)]
    · rw [if_neg h', if_neg (by dsimp only; omega)]

theorem kb_k1 (v18 : FVec Ideal S1096x512 .f32) (v20 v22 : FVec Ideal S8x512 .f32) (r : Fin 512) (i : Fin 128) :
    (k0_pay30 (F := Ideal) v18 v20 v22 (ix3 0 r i) : EReal) = if h : i.val < 64 then k0_pay26 (F := Ideal) v18 v20 v22 (ix2 ⟨64 * 1 + i.val, by omega⟩ r) else if i.val = 64 then 1 else 0 := by
  unfold k0_pay30 k0_pay27
  generalize k0_pay26 (F := Ideal) v18 v20 v22 = a
  have e := ones_at r
  generalize k0_pay28 (F := Ideal) = w at e
  pointwise
  by_cases h : i.val < 64
  · rw [dif_pos h, dif_pos h]
    first | done | rfl | blk_ext
  · rw [dif_neg h, dif_neg h, e]
    by_cases h' : i.val = 64
    · rw [if_pos h', if_pos (by dsimp only; omega)]
    · rw [if_neg h', if_neg (by dsimp only; omega)]

theorem kbR_at (z : FVec Ideal Cert.SProjRefIdeal.S512x2628 .f32) (b : Fin 2) (n : Fin 512) (i : Fin 128) :
    (kbR z (ix3 b n i) : EReal) = if h : i.val < 64 then (kR z (ix3 n b ⟨i.val, h⟩) : EReal) else if i.val = 64 then 1 else 0 := by
  unfold kbR
  generalize kR z = a
  pointwise
  split_ifs <;> first | rfl | omega

variable (m : (ℓ : Loc nD τ sig) → Buf (Elt Ideal) ℓ) (c : Dev nD)

/-- The scaled queries. -/
theorem val6 : (dats m 0 c).arrAt 6 cfg0.N = qtR (Z m c) := by
  refine (dats m 0 c).arrAt_eq_of_covers 6 _ (by decide +kernel) fun t hf y => ?_
  obtain ⟨i, r, rfl⟩ : ∃ (i : Fin 512) (r : Fin 512), y = ix2 i r := ⟨y 0, y 1, by funext a; fin_cases a <;> rfl⟩
  blk_simp
  rw [after0_6]
  frame_out
  have ei : (((View.whole main_v40_0).slice (win0_6.rect t)).emb (ix2 i r)) = ix2 i (row t r) := by
    simp only [row]
    blk_ext [idx t]
  rw [ei]
  obtain ⟨h, d, rfl⟩ : ∃ (h : Fin 8) (d : Fin 64), i = ⟨64 * h.val + d.val, by omega⟩ := ⟨⟨i.val / 64, by omega⟩, ⟨i.val % 64, by omega⟩, Fin.ext (by dsimp only; omega)⟩
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  exact (q_row _ _ _ _ _ (zQ (Z m c)) cosRef sinRef r (row t r) (hzQ m c t r) (hc m c t r) (hs m c t r) h d).trans (qtR_at _ _ h d).symm

/-- The indexer's queries. -/
theorem val7 : (dats m 0 c).arrAt 7 cfg0.N = qiR (Z m c) := by
  refine (dats m 0 c).arrAt_eq_of_covers 7 _ (by decide +kernel) fun t hf y => ?_
  obtain ⟨i, r, rfl⟩ : ∃ (i : Fin 256) (r : Fin 512), y = ix2 i r := ⟨y 0, y 1, by funext a; fin_cases a <;> rfl⟩
  blk_simp
  rw [after0_7]
  frame_out
  have ei : (((View.whole main_v40_1).slice (win0_7.rect t)).emb (ix2 i r)) = ix2 i (row t r) := by
    simp only [row]
    blk_ext [idx t]
  rw [ei]
  obtain ⟨h, d, rfl⟩ : ∃ (h : Fin 4) (d : Fin 64), i = ⟨64 * h.val + d.val, by omega⟩ := ⟨⟨i.val / 64, by omega⟩, ⟨i.val % 64, by omega⟩, Fin.ext (by dsimp only; omega)⟩
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  exact (i_row _ _ _ (zI (Z m c)) cosRef sinRef r (row t r) (hzI m c t r) (hc9 m c t r) (hs10 m c t r) h d).trans (qiR_at _ _ h d).symm

/-- The indexer's head weights. -/
theorem val8 : (dats m 0 c).arrAt 8 cfg0.N = wiR (Z m c) := by
  refine (dats m 0 c).arrAt_eq_of_covers 8 _ (by decide +kernel) fun t hf y => ?_
  obtain ⟨i, r, rfl⟩ : ∃ (i : Fin 8) (r : Fin 512), y = ix2 i r := ⟨y 0, y 1, by funext a; fin_cases a <;> rfl⟩
  blk_simp
  rw [after0_8]
  frame_out
  have ei : (((View.whole main_v40_2).slice (win0_8.rect t)).emb (ix2 i r)) = ix2 i (row t r) := by
    simp only [row]
    blk_ext [idx t]
  rw [ei]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  have e3 : ∀ a, k0_pay3 (F := Ideal) a (ix2 i r) = a (ix2 ⟨1088 + i.val, by omega⟩ r) := by
    intro a
    pointwise [k0_pay3]
  rw [e3]
  rcases (by omega : i.val < 4 ∨ 4 ≤ i.val) with h | h
  · refine (z_iw m c t r ⟨i.val, h⟩).trans ?_
    show (Z m c _ : EReal) * _ = _
    generalize Z m c = a
    pointwise [wiR]
    rw [dif_pos h]
  · rw [show (⟨1088 + i.val, by omega⟩ : Fin 1096) = ⟨1092 + (i.val - 4), by omega⟩ from Fin.ext (by dsimp only; omega)]
    refine (z_0 m c t r ⟨i.val - 4, by omega⟩).trans ?_
    generalize Z m c = a
    pointwise [wiR]
    rw [dif_neg (by omega)]

/-- The values, in tiles. -/
theorem val9 : (dats m 0 c).arrAt 9 cfg0.N = vtR (Z m c) := by
  refine (dats m 0 c).arrAt_eq_of_covers 9 _ (by decide +kernel) fun t hf y => ?_
  obtain ⟨b, i, r, rfl⟩ : ∃ (b : Fin 2) (i : Fin 128) (r : Fin 256), y = ix3 b i r := ⟨y 0, y 1, y 2, by funext a; fin_cases a <;> rfl⟩
  blk_simp
  rw [after0_9]
  frame_out
  rw [show k0_pay40 (iblk m c 0 t) (iblk m c 1 t) (iblk m c 2 t) (iblk m c 3 t) (iblk m c 4 t) (iblk m c 5 t) = k0_pay31 (k0_pay8 (F := Ideal) (iblk m c 0 t) (iblk m c 1 t) (iblk m c 2 t)) by unfold k0_pay40; rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  have ht := t.isLt
  have hN : cfg0.grid.N = 1 := by decide +kernel
  have ei : (((View.whole main_v40_3).slice (win0_9.rect t)).emb (ix3 b i r)) = ix3 ⟨2 * (grid0.coords t 0).val + b.val, by have := (grid0.coords t 0).isLt; show 2 * _ + _ < 2; change _ < 1 at this; omega⟩ i r := by
    blk_ext [idx t]
  rw [ei]
  fin_cases b
  · refine (two9_lo _ _ i r).trans (Eq.trans ?_ ((z_kv m c t ⟨r.val, by omega⟩ ⟨128 + i.val, by omega⟩).trans ?_))
    · generalize k0_pay8 (F := Ideal) (iblk m c 0 t) (iblk m c 1 t) (iblk m c 2 t) = a
      pointwise [k0_pay33, k0_pay32, k0_pay31]
      blk_ext
    · show Z m c _ = _
      generalize Z m c = a
      pointwise [vtR, vR, row]
      blk_ext
  · refine (two9_hi _ _ i r).trans (Eq.trans ?_ ((z_kv m c t ⟨256 + r.val, by omega⟩ ⟨128 + i.val, by omega⟩).trans ?_))
    · generalize k0_pay8 (F := Ideal) (iblk m c 0 t) (iblk m c 1 t) (iblk m c 2 t) = a
      pointwise [k0_pay34, k0_pay31]
      blk_ext
    · show Z m c _ = _
      generalize Z m c = a
      pointwise [vtR, vR, row]
      blk_ext

/-- The keys with their lane of ones. -/
theorem val10 : (dats m 0 c).arrAt 10 cfg0.N = kbR (Z m c) := by
  refine (dats m 0 c).arrAt_eq_of_covers 10 _ (by decide +kernel) fun t hf y => ?_
  obtain ⟨b, r, i, rfl⟩ : ∃ (b : Fin 2) (r : Fin 512) (i : Fin 128), y = ix3 b r i := ⟨y 0, y 1, y 2, by funext a; fin_cases a <;> rfl⟩
  blk_simp
  rw [after0_10]
  frame_out
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  have ei : (((View.whole main_v40_4).slice (win0_10.rect t)).emb (ix3 b r i)) = ix3 b (row t r) i := by
    simp only [row]
    blk_ext [idx t]
  rw [ei]
  have hk := fun h d => k_row _ _ _ (zK (Z m c)) cosRef sinRef r (row t r) (hzK m c t r) (hc9 m c t r) (hs10 m c t r) h d
  rw [show ropeK (zK (Z m c)) cosRef sinRef = kR (Z m c) from rfl] at hk
  rw [kbR_at]
  fin_cases b
  · refine (two10_lo _ _ r i).trans ((kb_k0 _ _ _ r i).trans ?_)
    by_cases h : i.val < 64
    · rw [dif_pos h, dif_pos h]
      exact hk 0 ⟨i.val, h⟩
    · rw [dif_neg h, dif_neg h]
  · refine (two10_hi _ _ r i).trans ((kb_k1 _ _ _ r i).trans ?_)
    by_cases h : i.val < 64
    · rw [dif_pos h, dif_pos h]
      exact hk 1 ⟨i.val, h⟩
    · rw [dif_neg h, dif_neg h]

/-- The indexer's rounded keys. -/
theorem val11 : (dats m 0 c).arrAt 11 cfg0.N = jbR (Z m c) := by
  refine (dats m 0 c).arrAt_eq_of_covers 11 _ (by decide +kernel) fun t hf y => ?_
  obtain ⟨r, i, rfl⟩ : ∃ (r : Fin 512) (i : Fin 64), y = ix2 r i := ⟨y 0, y 1, by funext a; fin_cases a <;> rfl⟩
  blk_simp
  rw [after0_11]
  frame_out
  have ei : (((View.whole main_v40_5).slice (win0_11.rect t)).emb (ix2 r i)) = ix2 (row t r) i := by
    simp only [row]
    blk_ext [idx t]
  rw [ei]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  have ej := j_row _ _ _ (zJ (Z m c)) cosRef sinRef r (row t r) (hzJ m c t r) (hc9 m c t r) (hs10 m c t r) 0 i
  rw [show (⟨64 * (0 : Fin 1).val + i.val, by omega⟩ : Fin 64) = i from Fin.ext (by show 64 * 0 + i.val = i.val; omega)] at ej
  have e2 : ∀ a b e, (k0_pay2 (F := Ideal) a b e (ix2 r i) : EReal) = k0_pay1 (F := Ideal) a b e (ix2 i r) := by
    intro a b e
    pointwise [k0_pay2]
  refine (e2 _ _ _).trans (ej.trans ((jR_at _ _ i).symm.trans ?_))
  unfold jbR
  generalize jR (Z m c) = a
  pointwise

/-- The keys, in columns. -/
theorem val12 : (dats m 0 c).arrAt 12 cfg0.N = ktR (Z m c) := by
  refine (dats m 0 c).arrAt_eq_of_covers 12 _ (by decide +kernel) fun t hf y => ?_
  obtain ⟨i, r, rfl⟩ : ∃ (i : Fin 128) (r : Fin 512), y = ix2 i r := ⟨y 0, y 1, by funext a; fin_cases a <;> rfl⟩
  blk_simp
  rw [after0_12]
  frame_out
  have ei : (((View.whole main_v40_6).slice (win0_12.rect t)).emb (ix2 i r)) = ix2 i (row t r) := by
    simp only [row]
    blk_ext [idx t]
  rw [ei]
  obtain ⟨h, d, rfl⟩ : ∃ (h : Fin 2) (d : Fin 64), i = ⟨64 * h.val + d.val, by omega⟩ := ⟨⟨i.val / 64, by omega⟩, ⟨i.val % 64, by omega⟩, Fin.ext (by dsimp only; omega)⟩
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  exact (k_row _ _ _ (zK (Z m c)) cosRef sinRef r (row t r) (hzK m c t r) (hc9 m c t r) (hs10 m c t r) h d).trans (ktR_at _ _ h d).symm

/-- The values, in columns. -/
theorem val13 : (dats m 0 c).arrAt 13 cfg0.N = v3R (Z m c) := by
  refine (dats m 0 c).arrAt_eq_of_covers 13 _ (by decide +kernel) fun t hf y => ?_
  obtain ⟨i, r, rfl⟩ : ∃ (i : Fin 128) (r : Fin 512), y = ix2 i r := ⟨y 0, y 1, by funext a; fin_cases a <;> rfl⟩
  blk_simp
  rw [after0_13]
  frame_out
  have ei : (((View.whole main_v40_7).slice (win0_13.rect t)).emb (ix2 i r)) = ix2 i (row t r) := by
    simp only [row]
    blk_ext [idx t]
  rw [ei]
  rw [show k0_pay40 (iblk m c 0 t) (iblk m c 1 t) (iblk m c 2 t) (iblk m c 3 t) (iblk m c 4 t) (iblk m c 5 t) = k0_pay31 (k0_pay8 (F := Ideal) (iblk m c 0 t) (iblk m c 1 t) (iblk m c 2 t)) by unfold k0_pay40; rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]]
  refine Eq.trans ?_ ((z_kv m c t r ⟨128 + i.val, by omega⟩).trans ?_)
  · generalize k0_pay8 (F := Ideal) (iblk m c 0 t) (iblk m c 1 t) (iblk m c 2 t) = a
    pointwise [k0_pay31]
    try blk_ext
  · show Z m c _ = _
    generalize Z m c = a
    pointwise [v3R, vR]
    try blk_ext

/-- The indexer's keys, in columns. -/
theorem val14 : (dats m 0 c).arrAt 14 cfg0.N = jtR (Z m c) := by
  refine (dats m 0 c).arrAt_eq_of_covers 14 _ (by decide +kernel) fun t hf y => ?_
  obtain ⟨i, r, rfl⟩ : ∃ (i : Fin 64) (r : Fin 512), y = ix2 i r := ⟨y 0, y 1, by funext a; fin_cases a <;> rfl⟩
  blk_simp
  rw [after0_14]
  frame_out
  have ei : (((View.whole main_v40_8).slice (win0_14.rect t)).emb (ix2 i r)) = ix2 i (row t r) := by
    simp only [row]
    blk_ext [idx t]
  rw [ei]
  rw [show k0_pay37 (iblk m c 0 t) (iblk m c 1 t) (iblk m c 2 t) (iblk m c 3 t) (iblk m c 4 t) (iblk m c 5 t) = (k0_pay8 (F := Ideal) (iblk m c 0 t) (iblk m c 1 t) (iblk m c 2 t)) by unfold k0_pay37; frame_out]
  rw [show k0_pay38 (iblk m c 0 t) (iblk m c 1 t) (iblk m c 2 t) (iblk m c 3 t) (iblk m c 4 t) (iblk m c 5 t) = (k0_pay9 (F := Ideal) (iblk m c 4 t)) by unfold k0_pay38; frame_out]
  rw [show k0_pay39 (iblk m c 0 t) (iblk m c 1 t) (iblk m c 2 t) (iblk m c 3 t) (iblk m c 4 t) (iblk m c 5 t) = (k0_pay10 (F := Ideal) (iblk m c 5 t)) by unfold k0_pay39; frame_out]
  have ej := j_row _ _ _ (zJ (Z m c)) cosRef sinRef r (row t r) (hzJ m c t r) (hc9 m c t r) (hs10 m c t r) 0 i
  rw [show (⟨64 * (0 : Fin 1).val + i.val, by omega⟩ : Fin 64) = i from Fin.ext (by show 64 * 0 + i.val = i.val; omega)] at ej
  refine ej.trans ((jR_at _ _ i).symm.trans ?_)
  unfold jtR
  generalize jR (Z m c) = a
  pointwise

/-- The convolution's input. -/
theorem val15 : (dats m 0 c).arrAt 15 cfg0.N = uR (Z m c) := by
  refine (dats m 0 c).arrAt_eq_of_covers 15 _ (by decide +kernel) fun t hf y => ?_
  obtain ⟨r, i, rfl⟩ : ∃ (r : Fin 512) (i : Fin 512), y = ix2 r i := ⟨y 0, y 1, by funext a; fin_cases a <;> rfl⟩
  blk_simp
  rw [after0_15]
  frame_out
  have ei : (((View.whole main_v40_9).slice (win0_15.rect t)).emb (ix2 r i)) = ix2 (row t r) i := by
    simp only [row]
    blk_ext [idx t]
  rw [ei]
  rw [show k0_pay36 (iblk m c 0 t) (iblk m c 1 t) (iblk m c 2 t) (iblk m c 3 t) (iblk m c 4 t) (iblk m c 5 t) = k0_pay7 (F := Ideal) (iblk m c 0 t) (iblk m c 1 t) by unfold k0_pay36; frame_out]
  have e5 : ∀ a b, (k0_pay6 (F := Ideal) a b (ix2 r i) : EReal) = (k0_pay4 (F := Ideal) a b (ix2 r ⟨512 + i.val, by omega⟩) : EReal) * (k0_pay4 (F := Ideal) a b (ix2 r ⟨1024 + i.val, by omega⟩) : EReal) := by
    intro a b
    unfold k0_pay6
    generalize k0_pay4 (F := Ideal) a b = e
    pointwise
  refine (e5 _ _).trans ((congrArg₂ (fun a b : EReal => a * b) (zc_read m c t r ⟨512 + i.val, by omega⟩) (zc_read m c t r ⟨1024 + i.val, by omega⟩)).trans ?_)
  show (Z m c _ : EReal) * (Z m c _ : EReal) = _
  generalize Z m c = a
  pointwise [uR]
  blk_point

/-- The convolution's gate. -/
theorem val16 : (dats m 0 c).arrAt 16 cfg0.N = gR (Z m c) := by
  refine (dats m 0 c).arrAt_eq_of_covers 16 _ (by decide +kernel) fun t hf y => ?_
  obtain ⟨r, i, rfl⟩ : ∃ (r : Fin 512) (i : Fin 512), y = ix2 r i := ⟨y 0, y 1, by funext a; fin_cases a <;> rfl⟩
  blk_simp
  rw [after0_16]
  frame_out
  have ei : (((View.whole main_v40_10).slice (win0_16.rect t)).emb (ix2 r i)) = ix2 (row t r) i := by
    simp only [row]
    blk_ext [idx t]
  rw [ei]
  rw [show k0_pay36 (iblk m c 0 t) (iblk m c 1 t) (iblk m c 2 t) (iblk m c 3 t) (iblk m c 4 t) (iblk m c 5 t) = k0_pay7 (F := Ideal) (iblk m c 0 t) (iblk m c 1 t) by unfold k0_pay36; frame_out]
  have e5 : ∀ a b, (k0_pay5 (F := Ideal) a b (ix2 r i) : EReal) = (k0_pay4 (F := Ideal) a b (ix2 r ⟨i.val, by omega⟩) : EReal) := by
    intro a b
    unfold k0_pay5
    generalize k0_pay4 (F := Ideal) a b = e
    pointwise
  refine (e5 _ _).trans ((zc_read m c t r ⟨i.val, by omega⟩).trans ?_)
  show (Z m c _ : EReal) = _
  generalize Z m c = a
  pointwise [gR]

end

/-- Every run of the kernel's call and of the reference leaves the same eleven arrays. -/
theorem algebraic : Cert.algebraic_SProjIdeal_SProjRefIdeal := by
  pair_intro
  · run_from (Cert.SProjIdeal.Value.run_blocks m g)
  · run_from (Cert.SProjRefIdeal.Value.run m' g')
    all_goals obtain ⟨h0, h1, h2⟩ := hagree c
    all_goals
      have hz : zOf m' c = Z m c := by
        unfold zOf Z wArr
        rw [h0, h1, h2]
    · exact ((res_qtR m' c).trans (congrArg qtR hz)).trans (val6 m c).symm
    · exact ((res_qiR m' c).trans (congrArg qiR hz)).trans (val7 m c).symm
    · exact ((res_wiR m' c).trans (congrArg wiR hz)).trans (val8 m c).symm
    · exact ((res_vtR m' c).trans (congrArg vtR hz)).trans (val9 m c).symm
    · exact ((res_kbR m' c).trans (congrArg kbR hz)).trans (val10 m c).symm
    · exact ((res_jbR m' c).trans (congrArg jbR hz)).trans (val11 m c).symm
    · exact ((res_ktR m' c).trans (congrArg ktR hz)).trans (val12 m c).symm
    · exact ((res_v3R m' c).trans (congrArg v3R hz)).trans (val13 m c).symm
    · exact ((res_jtR m' c).trans (congrArg jtR hz)).trans (val14 m c).symm
    · exact ((res_uR m' c).trans (congrArg uR hz)).trans (val15 m c).symm
    · exact ((res_gR m' c).trans (congrArg gR hz)).trans (val16 m c).symm

/-- The reference runs to its end, keeps its arguments and leaves no semaphore raised. -/
theorem reference_frame : Cert.quiescent_SProjRefIdeal := fun m ρ _ =>
  (θ_run Cert.SProjRefIdeal.defs _ _).mono
    (fun r h => ⟨fun c => (h c).2.2.2.2.2.2.2.2.2.2.2, Idealize.ShloMosaic.sem_eq_zero_of_no_sems (by decide) r.2⟩)
    (Cert.SProjRefIdeal.Value.run (F := Ideal) m ρ)

end Cert.Proof.SProj

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpIdeal.Value
public import proofs.«01_k».proof.Proof.Gen.MlpRefIdeal.Run
public import proofs.«01_k».proof.Proof.Gen.SMix
public import proofs.«01_k».proof.Proof.Gen.SMix.Frame
public import proofs.«01_k».proof.Proof.Gen.SMixIdeal
public import proofs.«01_k».proof.Proof.Gen.SMixIdeal.Frame
public import proofs.«01_k».proof.Proof.Gen.SMixIdeal.Value
public import proofs.«01_k».proof.Proof.Gen.SMixRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastRefIdeal.Run
public import proofs.«01_k».proof.Proof.Gen.SMlp
public import proofs.«01_k».proof.Proof.Gen.SMlp.Frame
public import proofs.«01_k».proof.Proof.Gen.SMlpIdeal
public import proofs.«01_k».proof.Proof.Gen.SMlpIdeal.Frame
public import proofs.«01_k».proof.Proof.Gen.SMlpIdeal.Value
public import proofs.«01_k».proof.Proof.Gen.SMlpRefIdeal.Run
public import proofs.«01_k».proof.Proof.Gen.SProj
public import proofs.«01_k».proof.Proof.Gen.SProj.Frame
public import proofs.«01_k».proof.Proof.Gen.SProjIdeal
public import proofs.«01_k».proof.Proof.Gen.SProjIdeal.Frame
public import proofs.«01_k».proof.Proof.Gen.SProjIdeal.Value
public import proofs.«01_k».proof.Proof.Gen.SProjRefIdeal.Run
public import proofs.«01_k».proof.Proof.My.MlpValue
public import proofs.«01_k».proof.Proof.My.MixValue
public import proofs.«01_k».proof.Proof.My.SMixValue
public import proofs.«01_k».proof.Proof.My.ProjValue
public import proofs.«01_k».proof.Proof.My.LastValue
public import proofs.«01_k».proof.Proof.My.SMlpValue
public import proofs.«01_k».proof.Proof.My.SProjValue
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts, Cert.Mix.Gen.facts, Cert.MixIdeal.Gen.facts, Cert.MixRefIdeal.Gen.facts,
  Cert.Proj.Gen.facts, Cert.ProjIdeal.Gen.facts, Cert.ProjRefIdeal.Gen.facts,
  Cert.Last.Gen.facts, Cert.LastIdeal.Gen.facts, Cert.LastRefIdeal.Gen.facts,
  Cert.SMlp.Gen.facts, Cert.SMlpIdeal.Gen.facts, Cert.SMlpRefIdeal.Gen.facts,
  Cert.SProj.Gen.facts, Cert.SProjIdeal.Gen.facts, Cert.SProjRefIdeal.Gen.facts,
  Cert.SMix.Gen.facts, Cert.SMixIdeal.Gen.facts, Cert.SMixRefIdeal.Gen.facts,
  fun m ρ _ => Cert.Mlp.Gen.frame m ρ, fun m ρ _ => Cert.MlpIdeal.Gen.frame m ρ, Mlp.reference_frame,
  fun m ρ _ => Cert.Mix.Gen.frame m ρ, fun m ρ _ => Cert.MixIdeal.Gen.frame m ρ, Mix.reference_frame,
  fun m ρ _ => Cert.Proj.Gen.frame m ρ, fun m ρ _ => Cert.ProjIdeal.Gen.frame m ρ, Proj.reference_frame,
  fun m ρ _ => Cert.Last.Gen.frame m ρ, fun m ρ _ => Cert.LastIdeal.Gen.frame m ρ, Last.reference_frame,
  fun m ρ _ => Cert.SMlp.Gen.frame m ρ, fun m ρ _ => Cert.SMlpIdeal.Gen.frame m ρ, SMlp.reference_frame,
  fun m ρ _ => Cert.SProj.Gen.frame m ρ, fun m ρ _ => Cert.SProjIdeal.Gen.frame m ρ, SProj.reference_frame,
  fun m ρ _ => Cert.SMix.Gen.frame m ρ, fun m ρ _ => Cert.SMixIdeal.Gen.frame m ρ, SMix.reference_frame,
  trivial, Mlp.algebraic, trivial, Mix.algebraic, trivial, Proj.algebraic,
  trivial, Last.algebraic, trivial, SMlp.algebraic, trivial, SProj.algebraic, trivial, SMix.algebraic⟩

end Cert.Proof

end
